-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2)
      ∧ r.2.mem ((c.tc : Thread Cert.OddProj.nD Cert.OddProj.τ).loc Cert.OddProj.main_arg3) = m ((c.tc : Thread Cert.OddProj.nD Cert.OddProj.τ).loc Cert.OddProj.main_arg3))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
      ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8)
      ∧ r.2.mem ((c.tc : Thread Cert.EvenOut.nD Cert.EvenOut.τ).loc Cert.EvenOut.main_arg9) = m ((c.tc : Thread Cert.EvenOut.nD Cert.EvenOut.τ).loc Cert.EvenOut.main_arg9)
      ∧ r.2.mem ((c.tc : Thread Cert.EvenOut.nD Cert.EvenOut.τ).loc Cert.EvenOut.main_arg10) = m ((c.tc : Thread Cert.EvenOut.nD Cert.EvenOut.τ).loc Cert.EvenOut.main_arg10)
      ∧ r.2.mem ((c.tc : Thread Cert.EvenOut.nD Cert.EvenOut.τ).loc Cert.EvenOut.main_arg11) = m ((c.tc : Thread Cert.EvenOut.nD Cert.EvenOut.τ).loc Cert.EvenOut.main_arg11))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
      ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
      ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
      ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1)
      ∧ r.2.mem ((c.tc : Thread Cert.CtxProj.nD Cert.CtxProj.τ).loc Cert.CtxProj.main_arg2) = m ((c.tc : Thread Cert.CtxProj.nD Cert.CtxProj.τ).loc Cert.CtxProj.main_arg2)
      ∧ r.2.mem ((c.tc : Thread Cert.CtxProj.nD Cert.CtxProj.τ).loc Cert.CtxProj.main_arg3) = m ((c.tc : Thread Cert.CtxProj.nD Cert.CtxProj.τ).loc Cert.CtxProj.main_arg3))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
      ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
      ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_OddProj_OddProjIdeal : Prop :=
  True

def algebraic_OddProjIdeal_OddRefIdeal [hOddProjIdeal : Cert.OddProjIdeal.Facts] [hOddRefIdeal : Cert.OddRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddProjIdeal m →
    (∀ c : Dev Cert.OddProjIdeal.nD,
      m' ((c.tc : Thread Cert.OddRefIdeal.nD Cert.OddRefIdeal.τ).loc Cert.OddRefIdeal.main_arg0) = m ((c.tc : Thread Cert.OddProjIdeal.nD Cert.OddProjIdeal.τ).loc Cert.OddProjIdeal.main_arg0)
      ∧ m' ((c.tc : Thread Cert.OddRefIdeal.nD Cert.OddRefIdeal.τ).loc Cert.OddRefIdeal.main_arg1) = m ((c.tc : Thread Cert.OddProjIdeal.nD Cert.OddProjIdeal.τ).loc Cert.OddProjIdeal.main_arg1)
      ∧ m' ((c.tc : Thread Cert.OddRefIdeal.nD Cert.OddRefIdeal.τ).loc Cert.OddRefIdeal.main_arg2) = m ((c.tc : Thread Cert.OddProjIdeal.nD Cert.OddProjIdeal.τ).loc Cert.OddProjIdeal.main_arg2)
      ∧ m' ((c.tc : Thread Cert.OddRefIdeal.nD Cert.OddRefIdeal.τ).loc Cert.OddRefIdeal.main_arg3) = m ((c.tc : Thread Cert.OddProjIdeal.nD Cert.OddProjIdeal.τ).loc Cert.OddProjIdeal.main_arg3)) →
    ∃ (v0 : (c : Dev Cert.OddProjIdeal.nD) → Buf (Elt Ideal) ((c.tc : Thread Cert.OddProjIdeal.nD Cert.OddProjIdeal.τ).loc Cert.OddProjIdeal.main_v7_0)) (v1 : (c : Dev Cert.OddProjIdeal.nD) → Buf (Elt Ideal) ((c.tc : Thread Cert.OddProjIdeal.nD Cert.OddProjIdeal.τ).loc Cert.OddProjIdeal.main_v7_1)) (v2 : (c : Dev Cert.OddProjIdeal.nD) → Buf (Elt Ideal) ((c.tc : Thread Cert.OddProjIdeal.nD Cert.OddProjIdeal.τ).loc Cert.OddProjIdeal.main_v7_2)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v7_0) = v0 c
          ∧ r.2.mem ((c.tc : Thread Cert.OddProjIdeal.nD Cert.OddProjIdeal.τ).loc Cert.OddProjIdeal.main_v7_1) = v1 c
          ∧ r.2.mem ((c.tc : Thread Cert.OddProjIdeal.nD Cert.OddProjIdeal.τ).loc Cert.OddProjIdeal.main_v7_2) = v2 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2)
          ∧ r.2.mem ((c.tc : Thread Cert.OddProjIdeal.nD Cert.OddProjIdeal.τ).loc Cert.OddProjIdeal.main_arg3) = m ((c.tc : Thread Cert.OddProjIdeal.nD Cert.OddProjIdeal.τ).loc Cert.OddProjIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v31) = v0 c
          ∧ r.2.mem ((c.tc : Thread Cert.OddRefIdeal.nD Cert.OddRefIdeal.τ).loc Cert.OddRefIdeal.main_v32) = v1 c
          ∧ r.2.mem ((c.tc : Thread Cert.OddRefIdeal.nD Cert.OddRefIdeal.τ).loc Cert.OddRefIdeal.main_v33) = v2 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def preserves_EvenProj_EvenProjIdeal : Prop :=
  True

def algebraic_EvenProjIdeal_EvenRefIdeal [hEvenProjIdeal : Cert.EvenProjIdeal.Facts] [hEvenRefIdeal : Cert.EvenRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenProjIdeal m →
    (∀ c : Dev Cert.EvenProjIdeal.nD,
      m' ((c.tc : Thread Cert.EvenRefIdeal.nD Cert.EvenRefIdeal.τ).loc Cert.EvenRefIdeal.main_arg0) = m ((c.tc : Thread Cert.EvenProjIdeal.nD Cert.EvenProjIdeal.τ).loc Cert.EvenProjIdeal.main_arg0)
      ∧ m' ((c.tc : Thread Cert.EvenRefIdeal.nD Cert.EvenRefIdeal.τ).loc Cert.EvenRefIdeal.main_arg1) = m ((c.tc : Thread Cert.EvenProjIdeal.nD Cert.EvenProjIdeal.τ).loc Cert.EvenProjIdeal.main_arg1)
      ∧ m' ((c.tc : Thread Cert.EvenRefIdeal.nD Cert.EvenRefIdeal.τ).loc Cert.EvenRefIdeal.main_arg2) = m ((c.tc : Thread Cert.EvenProjIdeal.nD Cert.EvenProjIdeal.τ).loc Cert.EvenProjIdeal.main_arg2)
      ∧ m' ((c.tc : Thread Cert.EvenRefIdeal.nD Cert.EvenRefIdeal.τ).loc Cert.EvenRefIdeal.main_arg3) = m ((c.tc : Thread Cert.EvenProjIdeal.nD Cert.EvenProjIdeal.τ).loc Cert.EvenProjIdeal.main_arg3)) →
    ∃ (v0 : (c : Dev Cert.EvenProjIdeal.nD) → Buf (Elt Ideal) ((c.tc : Thread Cert.EvenProjIdeal.nD Cert.EvenProjIdeal.τ).loc Cert.EvenProjIdeal.main_v18_0)) (v1 : (c : Dev Cert.EvenProjIdeal.nD) → Buf (Elt Ideal) ((c.tc : Thread Cert.EvenProjIdeal.nD Cert.EvenProjIdeal.τ).loc Cert.EvenProjIdeal.main_v18_1)) (v2 : (c : Dev Cert.EvenProjIdeal.nD) → Buf (Elt Ideal) ((c.tc : Thread Cert.EvenProjIdeal.nD Cert.EvenProjIdeal.τ).loc Cert.EvenProjIdeal.main_v18_2)) (v3 : (c : Dev Cert.EvenProjIdeal.nD) → Buf (Elt Ideal) ((c.tc : Thread Cert.EvenProjIdeal.nD Cert.EvenProjIdeal.τ).loc Cert.EvenProjIdeal.main_v18_3)) (v4 : (c : Dev Cert.EvenProjIdeal.nD) → Buf (Elt Ideal) ((c.tc : Thread Cert.EvenProjIdeal.nD Cert.EvenProjIdeal.τ).loc Cert.EvenProjIdeal.main_v18_4)) (v5 : (c : Dev Cert.EvenProjIdeal.nD) → Buf (Elt Ideal) ((c.tc : Thread Cert.EvenProjIdeal.nD Cert.EvenProjIdeal.τ).loc Cert.EvenProjIdeal.main_v18_5)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v18_0) = v0 c
          ∧ r.2.mem ((c.tc : Thread Cert.EvenProjIdeal.nD Cert.EvenProjIdeal.τ).loc Cert.EvenProjIdeal.main_v18_1) = v1 c
          ∧ r.2.mem ((c.tc : Thread Cert.EvenProjIdeal.nD Cert.EvenProjIdeal.τ).loc Cert.EvenProjIdeal.main_v18_2) = v2 c
          ∧ r.2.mem ((c.tc : Thread Cert.EvenProjIdeal.nD Cert.EvenProjIdeal.τ).loc Cert.EvenProjIdeal.main_v18_3) = v3 c
          ∧ r.2.mem ((c.tc : Thread Cert.EvenProjIdeal.nD Cert.EvenProjIdeal.τ).loc Cert.EvenProjIdeal.main_v18_4) = v4 c
          ∧ r.2.mem ((c.tc : Thread Cert.EvenProjIdeal.nD Cert.EvenProjIdeal.τ).loc Cert.EvenProjIdeal.main_v18_5) = v5 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v39) = v0 c
          ∧ r.2.mem ((c.tc : Thread Cert.EvenRefIdeal.nD Cert.EvenRefIdeal.τ).loc Cert.EvenRefIdeal.main_v40) = v1 c
          ∧ r.2.mem ((c.tc : Thread Cert.EvenRefIdeal.nD Cert.EvenRefIdeal.τ).loc Cert.EvenRefIdeal.main_v41) = v2 c
          ∧ r.2.mem ((c.tc : Thread Cert.EvenRefIdeal.nD Cert.EvenRefIdeal.τ).loc Cert.EvenRefIdeal.main_v42) = v3 c
          ∧ r.2.mem ((c.tc : Thread Cert.EvenRefIdeal.nD Cert.EvenRefIdeal.τ).loc Cert.EvenRefIdeal.main_v43) = v4 c
          ∧ r.2.mem ((c.tc : Thread Cert.EvenRefIdeal.nD Cert.EvenRefIdeal.τ).loc Cert.EvenRefIdeal.main_v38) = v5 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3))

def preserves_EvenOut_EvenOutIdeal : Prop :=
  True

def algebraic_EvenOutIdeal_OutRefIdeal [hEvenOutIdeal : Cert.EvenOutIdeal.Facts] [hOutRefIdeal : Cert.OutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_EvenOutIdeal m →
    (∀ c : Dev Cert.EvenOutIdeal.nD,
      m' ((c.tc : Thread Cert.OutRefIdeal.nD Cert.OutRefIdeal.τ).loc Cert.OutRefIdeal.main_arg0) = m ((c.tc : Thread Cert.EvenOutIdeal.nD Cert.EvenOutIdeal.τ).loc Cert.EvenOutIdeal.main_arg0)
      ∧ m' ((c.tc : Thread Cert.OutRefIdeal.nD Cert.OutRefIdeal.τ).loc Cert.OutRefIdeal.main_arg1) = m ((c.tc : Thread Cert.EvenOutIdeal.nD Cert.EvenOutIdeal.τ).loc Cert.EvenOutIdeal.main_arg1)
      ∧ m' ((c.tc : Thread Cert.OutRefIdeal.nD Cert.OutRefIdeal.τ).loc Cert.OutRefIdeal.main_arg2) = m ((c.tc : Thread Cert.EvenOutIdeal.nD Cert.EvenOutIdeal.τ).loc Cert.EvenOutIdeal.main_arg2)
      ∧ m' ((c.tc : Thread Cert.OutRefIdeal.nD Cert.OutRefIdeal.τ).loc Cert.OutRefIdeal.main_arg3) = m ((c.tc : Thread Cert.EvenOutIdeal.nD Cert.EvenOutIdeal.τ).loc Cert.EvenOutIdeal.main_arg3)
      ∧ m' ((c.tc : Thread Cert.OutRefIdeal.nD Cert.OutRefIdeal.τ).loc Cert.OutRefIdeal.main_arg4) = m ((c.tc : Thread Cert.EvenOutIdeal.nD Cert.EvenOutIdeal.τ).loc Cert.EvenOutIdeal.main_arg4)
      ∧ m' ((c.tc : Thread Cert.OutRefIdeal.nD Cert.OutRefIdeal.τ).loc Cert.OutRefIdeal.main_arg5) = m ((c.tc : Thread Cert.EvenOutIdeal.nD Cert.EvenOutIdeal.τ).loc Cert.EvenOutIdeal.main_arg5)
      ∧ m' ((c.tc : Thread Cert.OutRefIdeal.nD Cert.OutRefIdeal.τ).loc Cert.OutRefIdeal.main_arg6) = m ((c.tc : Thread Cert.EvenOutIdeal.nD Cert.EvenOutIdeal.τ).loc Cert.EvenOutIdeal.main_arg6)
      ∧ m' ((c.tc : Thread Cert.OutRefIdeal.nD Cert.OutRefIdeal.τ).loc Cert.OutRefIdeal.main_arg7) = m ((c.tc : Thread Cert.EvenOutIdeal.nD Cert.EvenOutIdeal.τ).loc Cert.EvenOutIdeal.main_arg7)
      ∧ m' ((c.tc : Thread Cert.OutRefIdeal.nD Cert.OutRefIdeal.τ).loc Cert.OutRefIdeal.main_arg8) = m ((c.tc : Thread Cert.EvenOutIdeal.nD Cert.EvenOutIdeal.τ).loc Cert.EvenOutIdeal.main_arg8)
      ∧ m' ((c.tc : Thread Cert.OutRefIdeal.nD Cert.OutRefIdeal.τ).loc Cert.OutRefIdeal.main_arg9) = m ((c.tc : Thread Cert.EvenOutIdeal.nD Cert.EvenOutIdeal.τ).loc Cert.EvenOutIdeal.main_arg9)
      ∧ m' ((c.tc : Thread Cert.OutRefIdeal.nD Cert.OutRefIdeal.τ).loc Cert.OutRefIdeal.main_arg10) = m ((c.tc : Thread Cert.EvenOutIdeal.nD Cert.EvenOutIdeal.τ).loc Cert.EvenOutIdeal.main_arg10)
      ∧ m' ((c.tc : Thread Cert.OutRefIdeal.nD Cert.OutRefIdeal.τ).loc Cert.OutRefIdeal.main_arg11) = m ((c.tc : Thread Cert.EvenOutIdeal.nD Cert.EvenOutIdeal.τ).loc Cert.EvenOutIdeal.main_arg11)) →
    ∃ (v0 : (c : Dev Cert.EvenOutIdeal.nD) → Buf (Elt Ideal) ((c.tc : Thread Cert.EvenOutIdeal.nD Cert.EvenOutIdeal.τ).loc Cert.EvenOutIdeal.main_v21_0)) (v1 : (c : Dev Cert.EvenOutIdeal.nD) → Buf (Elt Ideal) ((c.tc : Thread Cert.EvenOutIdeal.nD Cert.EvenOutIdeal.τ).loc Cert.EvenOutIdeal.main_v21_1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v21_0) = v0 c
          ∧ r.2.mem ((c.tc : Thread Cert.EvenOutIdeal.nD Cert.EvenOutIdeal.τ).loc Cert.EvenOutIdeal.main_v21_1) = v1 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
          ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
          ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
          ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v71) = v0 c
          ∧ r.2.mem ((c.tc : Thread Cert.OutRefIdeal.nD Cert.OutRefIdeal.τ).loc Cert.OutRefIdeal.main_v73) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11))

def preserves_Modulation_ModulationIdeal : Prop :=
  True

def algebraic_ModulationIdeal_ModRefIdeal [hModulationIdeal : Cert.ModulationIdeal.Facts] [hModRefIdeal : Cert.ModRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModulationIdeal m →
    (∀ c : Dev Cert.ModulationIdeal.nD,
      m' ((c.tc : Thread Cert.ModRefIdeal.nD Cert.ModRefIdeal.τ).loc Cert.ModRefIdeal.main_arg0) = m ((c.tc : Thread Cert.ModulationIdeal.nD Cert.ModulationIdeal.τ).loc Cert.ModulationIdeal.main_arg0)
      ∧ m' ((c.tc : Thread Cert.ModRefIdeal.nD Cert.ModRefIdeal.τ).loc Cert.ModRefIdeal.main_arg1) = m ((c.tc : Thread Cert.ModulationIdeal.nD Cert.ModulationIdeal.τ).loc Cert.ModulationIdeal.main_arg1)
      ∧ m' ((c.tc : Thread Cert.ModRefIdeal.nD Cert.ModRefIdeal.τ).loc Cert.ModRefIdeal.main_arg2) = m ((c.tc : Thread Cert.ModulationIdeal.nD Cert.ModulationIdeal.τ).loc Cert.ModulationIdeal.main_arg2)
      ∧ m' ((c.tc : Thread Cert.ModRefIdeal.nD Cert.ModRefIdeal.τ).loc Cert.ModRefIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v23) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_CtxProj_CtxProjIdeal : Prop :=
  True

def algebraic_CtxProjIdeal_CtxRefIdeal [hCtxProjIdeal : Cert.CtxProjIdeal.Facts] [hCtxRefIdeal : Cert.CtxRefIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxProjIdeal m →
    (∀ c : Dev Cert.CtxProjIdeal.nD,
      m' ((c.tc : Thread Cert.CtxRefIdeal.nD Cert.CtxRefIdeal.τ).loc Cert.CtxRefIdeal.main_arg0) = m ((c.tc : Thread Cert.CtxProjIdeal.nD Cert.CtxProjIdeal.τ).loc Cert.CtxProjIdeal.main_arg0)
      ∧ m' ((c.tc : Thread Cert.CtxRefIdeal.nD Cert.CtxRefIdeal.τ).loc Cert.CtxRefIdeal.main_arg1) = m ((c.tc : Thread Cert.CtxProjIdeal.nD Cert.CtxProjIdeal.τ).loc Cert.CtxProjIdeal.main_arg1)
      ∧ m' ((c.tc : Thread Cert.CtxRefIdeal.nD Cert.CtxRefIdeal.τ).loc Cert.CtxRefIdeal.main_arg2) = m ((c.tc : Thread Cert.CtxProjIdeal.nD Cert.CtxProjIdeal.τ).loc Cert.CtxProjIdeal.main_arg2)
      ∧ m' ((c.tc : Thread Cert.CtxRefIdeal.nD Cert.CtxRefIdeal.τ).loc Cert.CtxRefIdeal.main_arg3) = m ((c.tc : Thread Cert.CtxProjIdeal.nD Cert.CtxProjIdeal.τ).loc Cert.CtxProjIdeal.main_arg3)) →
    ∃ (v0 : (c : Dev Cert.CtxProjIdeal.nD) → Buf (Elt Ideal) ((c.tc : Thread Cert.CtxProjIdeal.nD Cert.CtxProjIdeal.τ).loc Cert.CtxProjIdeal.main_v18_0)) (v1 : (c : Dev Cert.CtxProjIdeal.nD) → Buf (Elt Ideal) ((c.tc : Thread Cert.CtxProjIdeal.nD Cert.CtxProjIdeal.τ).loc Cert.CtxProjIdeal.main_v18_1)) (v2 : (c : Dev Cert.CtxProjIdeal.nD) → Buf (Elt Ideal) ((c.tc : Thread Cert.CtxProjIdeal.nD Cert.CtxProjIdeal.τ).loc Cert.CtxProjIdeal.main_v18_2)) (v3 : (c : Dev Cert.CtxProjIdeal.nD) → Buf (Elt Ideal) ((c.tc : Thread Cert.CtxProjIdeal.nD Cert.CtxProjIdeal.τ).loc Cert.CtxProjIdeal.main_v18_3)) (v4 : (c : Dev Cert.CtxProjIdeal.nD) → Buf (Elt Ideal) ((c.tc : Thread Cert.CtxProjIdeal.nD Cert.CtxProjIdeal.τ).loc Cert.CtxProjIdeal.main_v18_4)) (v5 : (c : Dev Cert.CtxProjIdeal.nD) → Buf (Elt Ideal) ((c.tc : Thread Cert.CtxProjIdeal.nD Cert.CtxProjIdeal.τ).loc Cert.CtxProjIdeal.main_v18_5)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v18_0) = v0 c
          ∧ r.2.mem ((c.tc : Thread Cert.CtxProjIdeal.nD Cert.CtxProjIdeal.τ).loc Cert.CtxProjIdeal.main_v18_1) = v1 c
          ∧ r.2.mem ((c.tc : Thread Cert.CtxProjIdeal.nD Cert.CtxProjIdeal.τ).loc Cert.CtxProjIdeal.main_v18_2) = v2 c
          ∧ r.2.mem ((c.tc : Thread Cert.CtxProjIdeal.nD Cert.CtxProjIdeal.τ).loc Cert.CtxProjIdeal.main_v18_3) = v3 c
          ∧ r.2.mem ((c.tc : Thread Cert.CtxProjIdeal.nD Cert.CtxProjIdeal.τ).loc Cert.CtxProjIdeal.main_v18_4) = v4 c
          ∧ r.2.mem ((c.tc : Thread Cert.CtxProjIdeal.nD Cert.CtxProjIdeal.τ).loc Cert.CtxProjIdeal.main_v18_5) = v5 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
          ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
          ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v41) = v0 c
          ∧ r.2.mem ((c.tc : Thread Cert.CtxRefIdeal.nD Cert.CtxRefIdeal.τ).loc Cert.CtxRefIdeal.main_v42) = v1 c
          ∧ r.2.mem ((c.tc : Thread Cert.CtxRefIdeal.nD Cert.CtxRefIdeal.τ).loc Cert.CtxRefIdeal.main_v43) = v2 c
          ∧ r.2.mem ((c.tc : Thread Cert.CtxRefIdeal.nD Cert.CtxRefIdeal.τ).loc Cert.CtxRefIdeal.main_v44) = v3 c
          ∧ r.2.mem ((c.tc : Thread Cert.CtxRefIdeal.nD Cert.CtxRefIdeal.τ).loc Cert.CtxRefIdeal.main_v45) = v4 c
          ∧ r.2.mem ((c.tc : Thread Cert.CtxRefIdeal.nD Cert.CtxRefIdeal.τ).loc Cert.CtxRefIdeal.main_v40) = v5 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def Claim : Prop :=
  ∃ (hKernel : Cert.Kernel.Facts) (hKernelIdeal : Cert.KernelIdeal.Facts) (hReferenceIdeal : Cert.ReferenceIdeal.Facts) (hOddProj : Cert.OddProj.Facts) (hOddProjIdeal : Cert.OddProjIdeal.Facts) (hOddRefIdeal : Cert.OddRefIdeal.Facts) (hEvenProj : Cert.EvenProj.Facts) (hEvenProjIdeal : Cert.EvenProjIdeal.Facts) (hEvenRefIdeal : Cert.EvenRefIdeal.Facts) (hEvenOut : Cert.EvenOut.Facts) (hEvenOutIdeal : Cert.EvenOutIdeal.Facts) (hOutRefIdeal : Cert.OutRefIdeal.Facts) (hModulation : Cert.Modulation.Facts) (hModulationIdeal : Cert.ModulationIdeal.Facts) (hModRefIdeal : Cert.ModRefIdeal.Facts) (hCtxProj : Cert.CtxProj.Facts) (hCtxProjIdeal : Cert.CtxProjIdeal.Facts) (hCtxRefIdeal : Cert.CtxRefIdeal.Facts) (hPre_experts_in_range : Cert.Pre_experts_in_range.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_OddProj (hOddProj := hOddProj)
    ∧ quiescent_OddProjIdeal (hOddProjIdeal := hOddProjIdeal)
    ∧ quiescent_OddRefIdeal (hOddRefIdeal := hOddRefIdeal)
    ∧ quiescent_EvenProj (hEvenProj := hEvenProj)
    ∧ quiescent_EvenProjIdeal (hEvenProjIdeal := hEvenProjIdeal)
    ∧ quiescent_EvenRefIdeal (hEvenRefIdeal := hEvenRefIdeal)
    ∧ quiescent_EvenOut (hEvenOut := hEvenOut)
    ∧ quiescent_EvenOutIdeal (hEvenOutIdeal := hEvenOutIdeal)
    ∧ quiescent_OutRefIdeal (hOutRefIdeal := hOutRefIdeal)
    ∧ quiescent_Modulation (hModulation := hModulation)
    ∧ quiescent_ModulationIdeal (hModulationIdeal := hModulationIdeal)
    ∧ quiescent_ModRefIdeal (hModRefIdeal := hModRefIdeal)
    ∧ quiescent_CtxProj (hCtxProj := hCtxProj)
    ∧ quiescent_CtxProjIdeal (hCtxProjIdeal := hCtxProjIdeal)
    ∧ quiescent_CtxRefIdeal (hCtxRefIdeal := hCtxRefIdeal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_OddProj_OddProjIdeal
    ∧ algebraic_OddProjIdeal_OddRefIdeal (hOddProjIdeal := hOddProjIdeal) (hOddRefIdeal := hOddRefIdeal)
    ∧ preserves_EvenProj_EvenProjIdeal
    ∧ algebraic_EvenProjIdeal_EvenRefIdeal (hEvenProjIdeal := hEvenProjIdeal) (hEvenRefIdeal := hEvenRefIdeal)
    ∧ preserves_EvenOut_EvenOutIdeal
    ∧ algebraic_EvenOutIdeal_OutRefIdeal (hEvenOutIdeal := hEvenOutIdeal) (hOutRefIdeal := hOutRefIdeal)
    ∧ preserves_Modulation_ModulationIdeal
    ∧ algebraic_ModulationIdeal_ModRefIdeal (hModulationIdeal := hModulationIdeal) (hModRefIdeal := hModRefIdeal)
    ∧ preserves_CtxProj_CtxProjIdeal
    ∧ algebraic_CtxProjIdeal_CtxRefIdeal (hCtxProjIdeal := hCtxProjIdeal) (hCtxRefIdeal := hCtxRefIdeal)
-- ==== Pre_experts_in_range.lean ====
abbrev S544 : Shape := ⟨1, ![544]⟩
abbrev S1 : Shape := ⟨1, ![1]⟩
abbrev S2228224x128 : Shape := ⟨2, ![2228224, 128]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : IVec S1 32) (main_arg2 : FVec F S2228224x128 .f32) (main_arg3 : FVec F S64x1024x2048 .f32) (main_arg4 : FVec F S64x1x2048 .f32) (main_arg5 : FVec F S64x1024x1024 .f32) (main_arg6 : FVec F S64x1x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Kernel.lean ====
abbrev S544 : Shape := ⟨1, ![544]⟩
abbrev S1 : Shape := ⟨1, ![1]⟩
abbrev S2228224x128 : Shape := ⟨2, ![2228224, 128]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S2228224x128, .f32⟩
  | .hbm, ⟨1, _⟩ => ⟨S64x1024x2048, .f32⟩
  | .hbm, ⟨2, _⟩ => ⟨S64x1x2048, .f32⟩
  | .hbm, ⟨3, _⟩ => ⟨S64x1024x1024, .f32⟩
  | .hbm, ⟨4, _⟩ => ⟨S64x1x1024, .f32⟩
  | .hbm, ⟨5, _⟩ => ⟨S2228224x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | .local _ .smem, ⟨1, _⟩ => ⟨S1, .i32⟩
  | _, _ => ⟨S2228224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S544 : Shape := ⟨1, ![544]⟩
abbrev S1 : Shape := ⟨1, ![1]⟩
abbrev S2228224x128 : Shape := ⟨2, ![2228224, 128]⟩
abbrev S64x1024x2048 : Shape := ⟨3, ![64, 1024, 2048]⟩
abbrev S64x1x2048 : Shape := ⟨3, ![64, 1, 2048]⟩
abbrev S64x1024x1024 : Shape := ⟨3, ![64, 1024, 1024]⟩
abbrev S64x1x1024 : Shape := ⟨3, ![64, 1, 1024]⟩
abbrev S544x512x1024 : Shape := ⟨3, ![544, 512, 1024]⟩
abbrev S64x2048 : Shape := ⟨2, ![64, 2048]⟩
abbrev S64x1024 : Shape := ⟨2, ![64, 1024]⟩
abbrev S_ : Shape := ⟨0, ![]⟩
abbrev S1x512x1024 : Shape := ⟨3, ![1, 512, 1024]⟩
abbrev S512x1024 : Shape := ⟨2, ![512, 1024]⟩
abbrev S1x1024x2048 : Shape := ⟨3, ![1, 1024, 2048]⟩
abbrev S1024x2048 : Shape := ⟨2, ![1024, 2048]⟩
abbrev S512x2048 : Shape := ⟨2, ![512, 2048]⟩
abbrev S1x2048 : Shape := ⟨2, ![1, 2048]⟩
abbrev S2048 : Shape := ⟨1, ![2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S544x1x1 : Shape := ⟨3, ![544, 1, 1]⟩

abbrev nBuf : Space → Nat
  | .hbm => 159
  | .vmem => 0
  | .smem => 0
  | _ => 0

abbrev hbmTy0_0 (i : Nat) : BufTy := match i % 128 with
  | 0 => ⟨S544, .i32⟩
  | 1 => ⟨S1, .i32⟩
  | 2 => ⟨S2228224x128, .f32⟩
  | 3 => ⟨S64x1024x2048, .f32⟩
  | 4 => ⟨S64x1x2048, .f32⟩
  | 5 => ⟨S64x1024x1024, .f32⟩
  | 6 => ⟨S64x1x1024, .f32⟩
  | 7 => ⟨S544x512x1024, .f32⟩
  | 8 => ⟨S64x2048, .f32⟩
  | 9 => ⟨S64x1024, .f32⟩
  | 10 => ⟨S_, .f32⟩
  | 11 => ⟨S544x512x1024, .f32⟩
  | 12 => ⟨S_, .i32⟩
  | 13 => ⟨S544x512x1024, .f32⟩
  | 14 => ⟨S544, .i32⟩
  | 15 => ⟨S64x1024x2048, .f32⟩
  | 16 => ⟨S64x2048, .f32⟩
  | 17 => ⟨S64x1024x1024, .f32⟩
  | 18 => ⟨S64x1024, .f32⟩
  | 19 => ⟨S_, .i32⟩
  | 20 => ⟨S544x512x1024, .f32⟩
  | 21 => ⟨S_, .i32⟩
  | 22 => ⟨S_, .i1⟩
  | 23 => ⟨S_, .i32⟩
  | 24 => ⟨S_, .i32⟩
  | 25 => ⟨S1x512x1024, .f32⟩
  | 26 => ⟨S512x1024, .f32⟩
  | 27 => ⟨S1, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x1024x2048, .f32⟩
  | 51 => ⟨S1024x2048, .f32⟩
  | 52 => ⟨S512x2048, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x2048, .f32⟩
  | 67 => ⟨S2048, .f32⟩
  | 68 => ⟨S1x2048, .f32⟩
  | 69 => ⟨S512x2048, .f32⟩
  | 70 => ⟨S512x2048, .f32⟩
  | 71 => ⟨S512x1024, .f32⟩
  | 72 => ⟨S512x1024, .f32⟩
  | 73 => ⟨S_, .f32⟩
  | 74 => ⟨S512x1024, .f32⟩
  | 75 => ⟨S512x1024, .f32⟩
  | 76 => ⟨S_, .f32⟩
  | 77 => ⟨S_, .f32⟩
  | 78 => ⟨S_, .f32⟩
  | 79 => ⟨S512x1024, .f32⟩
  | 80 => ⟨S512x1024, .f32⟩
  | 81 => ⟨S_, .f32⟩
  | 82 => ⟨S512x1024, .f32⟩
  | 83 => ⟨S512x1024, .f32⟩
  | 84 => ⟨S_, .f32⟩
  | 85 => ⟨S512x1024, .f32⟩
  | 86 => ⟨S512x1024, .f32⟩
  | 87 => ⟨S_, .f32⟩
  | 88 => ⟨S512x1024, .f32⟩
  | 89 => ⟨S512x1024, .f32⟩
  | 90 => ⟨S512x1024, .f32⟩
  | 91 => ⟨S512x1024, .f32⟩
  | 92 => ⟨S_, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S512x1024, .f32⟩
  | 99 => ⟨S512x1024, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x1024x1024, .f32⟩
  | 122 => ⟨S1024x1024, .f32⟩
  | 123 => ⟨S512x1024, .f32⟩
  | 124 => ⟨S_, .i32⟩
  | 125 => ⟨S_, .i1⟩
  | 126 => ⟨S_, .i32⟩
  | 127 => ⟨S_, .i32⟩
  | _ => ⟨S544, .i32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S1x1024, .f32⟩
  | 10 => ⟨S1024, .f32⟩
  | 11 => ⟨S1x1024, .f32⟩
  | 12 => ⟨S512x1024, .f32⟩
  | 13 => ⟨S512x1024, .f32⟩
  | 14 => ⟨S1x512x1024, .f32⟩
  | 15 => ⟨S_, .i32⟩
  | 16 => ⟨S_, .i32⟩
  | 17 => ⟨S544x512x1024, .f32⟩
  | 18 => ⟨S_, .i32⟩
  | 19 => ⟨S_, .i32⟩
  | 20 => ⟨S544, .i32⟩
  | 21 => ⟨S_, .i32⟩
  | 22 => ⟨S544, .i32⟩
  | 23 => ⟨S544, .i1⟩
  | 24 => ⟨S544x1x1, .i1⟩
  | 25 => ⟨S_, .f32⟩
  | 26 => ⟨S_, .f32⟩
  | 27 => ⟨S544x512x1024, .i1⟩
  | 28 => ⟨S544x512x1024, .f32⟩
  | 29 => ⟨S544x512x1024, .f32⟩
  | 30 => ⟨S2228224x128, .f32⟩
  | _ => ⟨S544, .i32⟩

abbrev hbmTy (i : Nat) : BufTy := match i / 128 with
  | 0 => hbmTy0_0 i
  | 1 => hbmTy0_1 i
  | _ => ⟨S544, .i32⟩

abbrev bufTy : (tb : Table) → Fin (tcTables nBuf tb) → BufTy
  | .hbm, ⟨i, _⟩ => hbmTy i
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_v4_7 : Ref sig .tc := ⟨.hbm, 20, rfl⟩
abbrev main_while0c_c_8 : Ref sig .tc := ⟨.hbm, 21, rfl⟩
abbrev main_while0c_v12 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v12 : Ref sig .tc := ⟨.hbm, 26, rfl⟩
abbrev main_while0b_call1_v0 : Ref sig .tc := ⟨.hbm, 27, rfl⟩
abbrev main_while0b_v13 : Ref sig .tc := ⟨.hbm, 28, rfl⟩
abbrev main_while0b_c_8 : Ref sig .tc := ⟨.hbm, 29, rfl⟩
abbrev main_while0b_v14 : Ref sig .tc := ⟨.hbm, 30, rfl⟩
abbrev main_while0b_c_9 : Ref sig .tc := ⟨.hbm, 31, rfl⟩
abbrev main_while0b_v15 : Ref sig .tc := ⟨.hbm, 32, rfl⟩
abbrev main_while0b_v16 : Ref sig .tc := ⟨.hbm, 33, rfl⟩
abbrev main_while0b_c_10 : Ref sig .tc := ⟨.hbm, 34, rfl⟩
abbrev main_while0b_c_11 : Ref sig .tc := ⟨.hbm, 35, rfl⟩
abbrev main_while0b_v17 : Ref sig .tc := ⟨.hbm, 36, rfl⟩
abbrev main_while0b_c_12 : Ref sig .tc := ⟨.hbm, 37, rfl⟩
abbrev main_while0b_c_13 : Ref sig .tc := ⟨.hbm, 38, rfl⟩
abbrev main_while0b_v18 : Ref sig .tc := ⟨.hbm, 39, rfl⟩
abbrev main_while0b_c_14 : Ref sig .tc := ⟨.hbm, 40, rfl⟩
abbrev main_while0b_v19 : Ref sig .tc := ⟨.hbm, 41, rfl⟩
abbrev main_while0b_c_15 : Ref sig .tc := ⟨.hbm, 42, rfl⟩
abbrev main_while0b_c_16 : Ref sig .tc := ⟨.hbm, 43, rfl⟩
abbrev main_while0b_v20 : Ref sig .tc := ⟨.hbm, 44, rfl⟩
abbrev main_while0b_c_17 : Ref sig .tc := ⟨.hbm, 45, rfl⟩
abbrev main_while0b_c_18 : Ref sig .tc := ⟨.hbm, 46, rfl⟩
abbrev main_while0b_v21 : Ref sig .tc := ⟨.hbm, 47, rfl⟩
abbrev main_while0b_c_19 : Ref sig .tc := ⟨.hbm, 48, rfl⟩
abbrev main_while0b_v22 : Ref sig .tc := ⟨.hbm, 49, rfl⟩
abbrev main_while0b_v23 : Ref sig .tc := ⟨.hbm, 50, rfl⟩
abbrev main_while0b_v24 : Ref sig .tc := ⟨.hbm, 51, rfl⟩
abbrev main_while0b_v25 : Ref sig .tc := ⟨.hbm, 52, rfl⟩
abbrev main_while0b_c_20 : Ref sig .tc := ⟨.hbm, 53, rfl⟩
abbrev main_while0b_v26 : Ref sig .tc := ⟨.hbm, 54, rfl⟩
abbrev main_while0b_c_21 : Ref sig .tc := ⟨.hbm, 55, rfl⟩
abbrev main_while0b_v27 : Ref sig .tc := ⟨.hbm, 56, rfl⟩
abbrev main_while0b_v28 : Ref sig .tc := ⟨.hbm, 57, rfl⟩
abbrev main_while0b_c_22 : Ref sig .tc := ⟨.hbm, 58, rfl⟩
abbrev main_while0b_c_23 : Ref sig .tc := ⟨.hbm, 59, rfl⟩
abbrev main_while0b_v29 : Ref sig .tc := ⟨.hbm, 60, rfl⟩
abbrev main_while0b_c_24 : Ref sig .tc := ⟨.hbm, 61, rfl⟩
abbrev main_while0b_c_25 : Ref sig .tc := ⟨.hbm, 62, rfl⟩
abbrev main_while0b_v30 : Ref sig .tc := ⟨.hbm, 63, rfl⟩
abbrev main_while0b_c_26 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_v38 : Ref sig .tc := ⟨.hbm, 72, rfl⟩
abbrev main_while0b_cst_27 : Ref sig .tc := ⟨.hbm, 73, rfl⟩
abbrev main_while0b_v39 : Ref sig .tc := ⟨.hbm, 74, rfl⟩
abbrev main_while0b_v40 : Ref sig .tc := ⟨.hbm, 75, rfl⟩
abbrev main_while0b_cst_28 : Ref sig .tc := ⟨.hbm, 76, rfl⟩
abbrev main_while0b_cst_29 : Ref sig .tc := ⟨.hbm, 77, rfl⟩
abbrev main_while0b_call2_v0 : Ref sig .tc := ⟨.hbm, 78, rfl⟩
abbrev main_while0b_call2_v1 : Ref sig .tc := ⟨.hbm, 79, rfl⟩
abbrev main_while0b_call2_v2 : Ref sig .tc := ⟨.hbm, 80, rfl⟩
abbrev main_while0b_call2_v3 : Ref sig .tc := ⟨.hbm, 81, rfl⟩
abbrev main_while0b_call2_v4 : Ref sig .tc := ⟨.hbm, 82, rfl⟩
abbrev main_while0b_v41 : Ref sig .tc := ⟨.hbm, 83, rfl⟩
abbrev main_while0b_cst_30 : Ref sig .tc := ⟨.hbm, 84, rfl⟩
abbrev main_while0b_v42 : Ref sig .tc := ⟨.hbm, 85, rfl⟩
abbrev main_while0b_v43 : Ref sig .tc := ⟨.hbm, 86, rfl⟩
abbrev main_while0b_cst_31 : Ref sig .tc := ⟨.hbm, 87, rfl⟩
abbrev main_while0b_v44 : Ref sig .tc := ⟨.hbm, 88, rfl⟩
abbrev main_while0b_v45 : Ref sig .tc := ⟨.hbm, 89, rfl⟩
abbrev main_while0b_v46 : Ref sig .tc := ⟨.hbm, 90, rfl⟩
abbrev main_while0b_v47 : Ref sig .tc := ⟨.hbm, 91, rfl⟩
abbrev main_while0b_cst_32 : Ref sig .tc := ⟨.hbm, 92, rfl⟩
abbrev main_while0b_v48 : Ref sig .tc := ⟨.hbm, 93, rfl⟩
abbrev main_while0b_v49 : Ref sig .tc := ⟨.hbm, 94, rfl⟩
abbrev main_while0b_cst_33 : Ref sig .tc := ⟨.hbm, 95, rfl⟩
abbrev main_while0b_v50 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_c_34 : Ref sig .tc := ⟨.hbm, 100, rfl⟩
abbrev main_while0b_v54 : Ref sig .tc := ⟨.hbm, 101, rfl⟩
abbrev main_while0b_c_35 : Ref sig .tc := ⟨.hbm, 102, rfl⟩
abbrev main_while0b_v55 : Ref sig .tc := ⟨.hbm, 103, rfl⟩
abbrev main_while0b_v56 : Ref sig .tc := ⟨.hbm, 104, rfl⟩
abbrev main_while0b_c_36 : Ref sig .tc := ⟨.hbm, 105, rfl⟩
abbrev main_while0b_c_37 : Ref sig .tc := ⟨.hbm, 106, rfl⟩
abbrev main_while0b_v57 : Ref sig .tc := ⟨.hbm, 107, rfl⟩
abbrev main_while0b_c_38 : Ref sig .tc := ⟨.hbm, 108, rfl⟩
abbrev main_while0b_c_39 : Ref sig .tc := ⟨.hbm, 109, rfl⟩
abbrev main_while0b_v58 : Ref sig .tc := ⟨.hbm, 110, rfl⟩
abbrev main_while0b_c_40 : Ref sig .tc := ⟨.hbm, 111, rfl⟩
abbrev main_while0b_v59 : Ref sig .tc := ⟨.hbm, 112, rfl⟩
abbrev main_while0b_c_41 : Ref sig .tc := ⟨.hbm, 113, rfl⟩
abbrev main_while0b_c_42 : Ref sig .tc := ⟨.hbm, 114, rfl⟩
abbrev main_while0b_v60 : Ref sig .tc := ⟨.hbm, 115, rfl⟩
abbrev main_while0b_c_43 : Ref sig .tc := ⟨.hbm, 116, rfl⟩
abbrev main_while0b_c_44 : Ref sig .tc := ⟨.hbm, 117, rfl⟩
abbrev main_while0b_v61 : Ref sig .tc := ⟨.hbm, 118, rfl⟩
abbrev main_while0b_c_45 : Ref sig .tc := ⟨.hbm, 119, rfl⟩
abbrev main_while0b_v62 : Ref sig .tc := ⟨.hbm, 120, rfl⟩
abbrev main_while0b_v63 : Ref sig .tc := ⟨.hbm, 121, rfl⟩
abbrev main_while0b_v64 : Ref sig .tc := ⟨.hbm, 122, rfl⟩
abbrev main_while0b_v65 : Ref sig .tc := ⟨.hbm, 123, rfl⟩
abbrev main_while0b_c_46 : Ref sig .tc := ⟨.hbm, 124, rfl⟩
abbrev main_while0b_v66 : Ref sig .tc := ⟨.hbm, 125, rfl⟩
abbrev main_while0b_c_47 : Ref sig .tc := ⟨.hbm, 126, rfl⟩
abbrev main_while0b_v67 : Ref sig .tc := ⟨.hbm, 127, rfl⟩
abbrev main_while0b_v68 : Ref sig .tc := ⟨.hbm, 128, rfl⟩
abbrev main_while0b_c_48 : Ref sig .tc := ⟨.hbm, 129, rfl⟩
abbrev main_while0b_c_49 : Ref sig .tc := ⟨.hbm, 130, rfl⟩
abbrev main_while0b_v69 : Ref sig .tc := ⟨.hbm, 131, rfl⟩
abbrev main_while0b_c_50 : Ref sig .tc := ⟨.hbm, 132, rfl⟩
abbrev main_while0b_c_51 : Ref sig .tc := ⟨.hbm, 133, rfl⟩
abbrev main_while0b_v70 : Ref sig .tc := ⟨.hbm, 134, rfl⟩
abbrev main_while0b_c_52 : Ref sig .tc := ⟨.hbm, 135, rfl⟩
abbrev main_while0b_v71 : Ref sig .tc := ⟨.hbm, 136, rfl⟩
abbrev main_while0b_v72 : Ref sig .tc := ⟨.hbm, 137, rfl⟩
abbrev main_while0b_v73 : Ref sig .tc := ⟨.hbm, 138, rfl⟩
abbrev main_while0b_v74 : Ref sig .tc := ⟨.hbm, 139, rfl⟩
abbrev main_while0b_v75 : Ref sig .tc := ⟨.hbm, 140, rfl⟩
abbrev main_while0b_v76 : Ref sig .tc := ⟨.hbm, 141, rfl⟩
abbrev main_while0b_call3_v0 : Ref sig .tc := ⟨.hbm, 142, rfl⟩
abbrev main_while0b_call3_c : Ref sig .tc := ⟨.hbm, 143, rfl⟩
abbrev main_while0b_call3_c_0 : Ref sig .tc := ⟨.hbm, 144, rfl⟩
abbrev main_while0b_v77 : Ref sig .tc := ⟨.hbm, 145, rfl⟩
abbrev main_while0b_c_53 : Ref sig .tc := ⟨.hbm, 146, rfl⟩
abbrev main_while0b_v78 : Ref sig .tc := ⟨.hbm, 147, rfl⟩
abbrev main_v5 : Ref sig .tc := ⟨.hbm, 148, rfl⟩
abbrev main_v6 : Ref sig .tc := ⟨.hbm, 149, rfl⟩
abbrev main_v7 : Ref sig .tc := ⟨.hbm, 150, rfl⟩
abbrev main_v8 : Ref sig .tc := ⟨.hbm, 151, rfl⟩
abbrev main_v9 : Ref sig .tc := ⟨.hbm, 152, rfl⟩
abbrev main_cst_0 : Ref sig .tc := ⟨.hbm, 153, rfl⟩
abbrev main_call4_v0 : Ref sig .tc := ⟨.hbm, 154, rfl⟩
abbrev main_call4_v1 : Ref sig .tc := ⟨.hbm, 155, rfl⟩
abbrev main_call4_v2 : Ref sig .tc := ⟨.hbm, 156, rfl⟩
abbrev main_v10 : Ref sig .tc := ⟨.hbm, 157, rfl⟩
abbrev main_v11 : Ref sig .tc := ⟨.hbm, 158, rfl⟩

abbrev nD : Nat := 1
abbrev τ : Topo := Topo.v7x

variable {F : FTy → Type} [FloatOps F]

abbrev main_while0_count : Scf.Loop 32 := ⟨0#32, 544#32, 1#32⟩
-- ==== OddProj.lean ====
abbrev S8x8192x1024 : Shape := ⟨3, ![8, 8192, 1024]⟩
abbrev S16x6144 : Shape := ⟨2, ![16, 6144]⟩
abbrev S1024 : Shape := ⟨1, ![1024]⟩
abbrev S1024x2560 : Shape := ⟨2, ![1024, 2560]⟩
abbrev S65536x1024 : Shape := ⟨2, ![65536, 1024]⟩
abbrev S16x6x1024 : Shape := ⟨3, ![16, 6, 1024]⟩
abbrev S_ : Shape := ⟨0, ![]⟩
abbrev S16x2x1024 : Shape := ⟨3, ![16, 2, 1024]⟩
abbrev S16x8x1024 : Shape := ⟨3, ![16, 8, 1024]⟩
abbrev S8x8x1024 : Shape := ⟨3, ![8, 8, 1024]⟩
abbrev S1x1024 : Shape := ⟨2, ![1, 1024]⟩
abbrev S65536x512 : Shape := ⟨2, ![65536, 512]⟩
abbrev S512x1024 : Shape := ⟨2, ![512, 1024]⟩
abbrev S1x8x1024 : Shape := ⟨3, ![1, 8, 1024]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩

abbrev nBuf : Space → Nat
  | .hbm => 15
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S16x6144, .f32⟩
  | .hbm, ⟨2, _⟩ => ⟨S1024, .f32⟩
  | .hbm, ⟨3, _⟩ => ⟨S1024x2560, .f32⟩
  | .hbm, ⟨4, _⟩ => ⟨S65536x1024, .f32⟩
  | .hbm, ⟨5, _⟩ => ⟨S16x6x1024, .f32⟩
  | .hbm, ⟨6, _⟩ => ⟨S_, .f32⟩
  | .hbm, ⟨7, _⟩ => ⟨S16x2x1024, .f32⟩
  | .hbm, ⟨8, _⟩ => ⟨S16x8x1024, .f32⟩
  | .hbm, ⟨9, _⟩ => ⟨S8x8x1024, .f32⟩
  | .hbm, ⟨10, _⟩ => ⟨S1024x2560, .bf16⟩
  | .hbm, ⟨11, _⟩ => ⟨S1x1024, .f32⟩
  | .hbm, ⟨12, _⟩ => ⟨S65536x1024, .bf16⟩
  | .hbm, ⟨13, _⟩ => ⟨S65536x512, .bf16⟩
  | .hbm, ⟨14, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2560, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddRefIdeal.lean ====
abbrev S8x8192x1024 : Shape := ⟨3, ![8, 8192, 1024]⟩
abbrev S16x6144 : Shape := ⟨2, ![16, 6144]⟩
abbrev S1024 : Shape := ⟨1, ![1024]⟩
abbrev S1024x2560 : Shape := ⟨2, ![1024, 2560]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2560 : Shape := ⟨3, ![8, 8192, 2560]⟩
abbrev S65536x2560 : Shape := ⟨2, ![65536, 2560]⟩
abbrev S65536x1024 : Shape := ⟨2, ![65536, 1024]⟩
abbrev S65536x512 : Shape := ⟨2, ![65536, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S16x6144, .f32⟩
  | .hbm, ⟨2, _⟩ => ⟨S1024, .f32⟩
  | .hbm, ⟨3, _⟩ => ⟨S1024x2560, .f32⟩
  | .hbm, ⟨4, _⟩ => ⟨S8x6144, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8x8192x1024, .f32⟩
  | .hbm, ⟨25, _⟩ => ⟨S8x8192x1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x2560, .f32⟩
  | .hbm, ⟨37, _⟩ => ⟨S65536x2560, .f32⟩
  | .hbm, ⟨38, _⟩ => ⟨S65536x2560, .bf16⟩
  | .hbm, ⟨39, _⟩ => ⟨S65536x1024, .bf16⟩
  | .hbm, ⟨40, _⟩ => ⟨S65536x512, .bf16⟩
  | .hbm, ⟨41, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== EvenProj.lean ====
abbrev S8x8192x1024 : Shape := ⟨3, ![8, 8192, 1024]⟩
abbrev S16x6144 : Shape := ⟨2, ![16, 6144]⟩
abbrev S1024 : Shape := ⟨1, ![1024]⟩
abbrev S1024x3616 : Shape := ⟨2, ![1024, 3616]⟩
abbrev S65536x1024 : Shape := ⟨2, ![65536, 1024]⟩
abbrev S16x6x1024 : Shape := ⟨3, ![16, 6, 1024]⟩
abbrev S_ : Shape := ⟨0, ![]⟩
abbrev S16x2x1024 : Shape := ⟨3, ![16, 2, 1024]⟩
abbrev S16x8x1024 : Shape := ⟨3, ![16, 8, 1024]⟩
abbrev S1024x512 : Shape := ⟨2, ![1024, 512]⟩
abbrev S1024x1024 : Shape := ⟨2, ![1024, 1024]⟩
abbrev S1024x16 : Shape := ⟨2, ![1024, 16]⟩
abbrev S1024x3584 : Shape := ⟨2, ![1024, 3584]⟩
abbrev S1024x96 : Shape := ⟨2, ![1024, 96]⟩
abbrev S1024x128 : Shape := ⟨2, ![1024, 128]⟩
abbrev S8x8x1024 : Shape := ⟨3, ![8, 8, 1024]⟩
abbrev S1x1024 : Shape := ⟨2, ![1, 1024]⟩
abbrev S65536x512 : Shape := ⟨2, ![65536, 512]⟩
abbrev S65536x128 : Shape := ⟨2, ![65536, 128]⟩
abbrev S512x1024 : Shape := ⟨2, ![512, 1024]⟩
abbrev S1x8x1024 : Shape := ⟨3, ![1, 8, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 30
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S16x6144, .f32⟩
  | .hbm, ⟨2, _⟩ => ⟨S1024, .f32⟩
  | .hbm, ⟨3, _⟩ => ⟨S1024x3616, .f32⟩
  | .hbm, ⟨4, _⟩ => ⟨S65536x1024, .f32⟩
  | .hbm, ⟨5, _⟩ => ⟨S16x6x1024, .f32⟩
  | .hbm, ⟨6, _⟩ => ⟨S_, .f32⟩
  | .hbm, ⟨7, _⟩ => ⟨S16x2x1024, .f32⟩
  | .hbm, ⟨8, _⟩ => ⟨S16x8x1024, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S1024x16, .f32⟩
  | .hbm, ⟨14, _⟩ => ⟨S1024x16, .f32⟩
  | .hbm, ⟨15, _⟩ => ⟨S1024x512, .f32⟩
  | .hbm, ⟨16, _⟩ => ⟨S1024x3584, .f32⟩
  | .hbm, ⟨17, _⟩ => ⟨S1024x3584, .bf16⟩
  | .hbm, ⟨18, _⟩ => ⟨S_, .f32⟩
  | .hbm, ⟨19, _⟩ => ⟨S1024x96, .f32⟩
  | .hbm, ⟨20, _⟩ => ⟨S1024x128, .f32⟩
  | .hbm, ⟨21, _⟩ => ⟨S1024x128, .bf16⟩
  | .hbm, ⟨22, _⟩ => ⟨S8x8x1024, .f32⟩
  | .hbm, ⟨23, _⟩ => ⟨S1x1024, .f32⟩
  | .hbm, ⟨24, _⟩ => ⟨S65536x512, .bf16⟩
  | .hbm, ⟨25, _⟩ => ⟨S65536x512, .bf16⟩
  | .hbm, ⟨26, _⟩ => ⟨S65536x1024, .bf16⟩
  | .hbm, ⟨27, _⟩ => ⟨S65536x1024, .bf16⟩
  | .hbm, ⟨28, _⟩ => ⟨S65536x512, .bf16⟩
  | .hbm, ⟨29, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3584, .bf16⟩
  | .local _ .vmem, ⟨6, _⟩ => ⟨S1024x128, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== EvenRefIdeal.lean ====
abbrev S8x8192x1024 : Shape := ⟨3, ![8, 8192, 1024]⟩
abbrev S16x6144 : Shape := ⟨2, ![16, 6144]⟩
abbrev S1024 : Shape := ⟨1, ![1024]⟩
abbrev S1024x3616 : Shape := ⟨2, ![1024, 3616]⟩
abbrev S8x6144 : Shape := ⟨2, ![8, 6144]⟩
abbrev S8x1024 : Shape := ⟨2, ![8, 1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3616 : Shape := ⟨3, ![8, 8192, 3616]⟩
abbrev S65536x3616 : Shape := ⟨2, ![65536, 3616]⟩
abbrev S65536x512 : Shape := ⟨2, ![65536, 512]⟩
abbrev S65536x1024 : Shape := ⟨2, ![65536, 1024]⟩
abbrev S65536x16 : Shape := ⟨2, ![65536, 16]⟩
abbrev S65536x96 : Shape := ⟨2, ![65536, 96]⟩
abbrev S65536x128 : Shape := ⟨2, ![65536, 128]⟩

abbrev nBuf : Space → Nat
  | .hbm => 53
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S16x6144, .f32⟩
  | .hbm, ⟨2, _⟩ => ⟨S1024, .f32⟩
  | .hbm, ⟨3, _⟩ => ⟨S1024x3616, .f32⟩
  | .hbm, ⟨4, _⟩ => ⟨S8x6144, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x1x1024, .f32⟩
  | .hbm, ⟨13, _⟩ => ⟨S8x8192x1024, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8x8192x1024, .f32⟩
  | .hbm, ⟨25, _⟩ => ⟨S8x8192x1024, .f32⟩
  | .hbm, ⟨26, _⟩ => ⟨S1x1x1024, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x3616, .f32⟩
  | .hbm, ⟨37, _⟩ => ⟨S65536x3616, .f32⟩
  | .hbm, ⟨38, _⟩ => ⟨S65536x512, .f32⟩
  | .hbm, ⟨39, _⟩ => ⟨S65536x512, .f32⟩
  | .hbm, ⟨40, _⟩ => ⟨S65536x1024, .f32⟩
  | .hbm, ⟨41, _⟩ => ⟨S65536x1024, .f32⟩
  | .hbm, ⟨42, _⟩ => ⟨S65536x16, .f32⟩
  | .hbm, ⟨43, _⟩ => ⟨S65536x16, .f32⟩
  | .hbm, ⟨44, _⟩ => ⟨S65536x512, .f32⟩
  | .hbm, ⟨45, _⟩ => ⟨S_, .f32⟩
  | .hbm, ⟨46, _⟩ => ⟨S65536x96, .f32⟩
  | .hbm, ⟨47, _⟩ => ⟨S65536x128, .f32⟩
  | .hbm, ⟨48, _⟩ => ⟨S65536x512, .bf16⟩
  | .hbm, ⟨49, _⟩ => ⟨S65536x512, .bf16⟩
  | .hbm, ⟨50, _⟩ => ⟨S65536x1024, .bf16⟩
  | .hbm, ⟨51, _⟩ => ⟨S65536x1024, .bf16⟩
  | .hbm, ⟨52, _⟩ => ⟨S65536x512, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== EvenOut.lean ====
abbrev S65536x1024 : Shape := ⟨2, ![65536, 1024]⟩
abbrev S65536x512 : Shape := ⟨2, ![65536, 512]⟩
abbrev S8x8192x1024 : Shape := ⟨3, ![8, 8192, 1024]⟩
abbrev S16x6144 : Shape := ⟨2, ![16, 6144]⟩
abbrev S256 : Shape := ⟨1, ![256]⟩
abbrev S1536x1024 : Shape := ⟨2, ![1536, 1024]⟩
abbrev S1024 : Shape := ⟨1, ![1024]⟩
abbrev S1024x32 : Shape := ⟨2, ![1024, 32]⟩
abbrev S32 : Shape := ⟨1, ![32]⟩
abbrev S16x6x1024 : Shape := ⟨3, ![16, 6, 1024]⟩
abbrev S_ : Shape := ⟨0, ![]⟩
abbrev S16x2x1024 : Shape := ⟨3, ![16, 2, 1024]⟩
abbrev S16x8x1024 : Shape := ⟨3, ![16, 8, 1024]⟩
abbrev S1x256 : Shape := ⟨2, ![1, 256]⟩
abbrev S1x1024 : Shape := ⟨2, ![1, 1024]⟩
abbrev S1024x128 : Shape := ⟨2, ![1024, 128]⟩
abbrev S1 : Shape := ⟨1, ![1]⟩
abbrev S1024x256 : Shape := ⟨2, ![1024, 256]⟩
abbrev S1x128 : Shape := ⟨2, ![1, 128]⟩
abbrev S2 : Shape := ⟨1, ![2]⟩
abbrev S65536x4 : Shape := ⟨2, ![65536, 4]⟩
abbrev S128x1x128 : Shape := ⟨3, ![128, 1, 128]⟩
abbrev S512x1024 : Shape := ⟨2, ![512, 1024]⟩
abbrev S512x512 : Shape := ⟨2, ![512, 512]⟩
abbrev S1x8x1024 : Shape := ⟨3, ![1, 8, 1024]⟩
abbrev S512x4 : Shape := ⟨2, ![512, 4]⟩
abbrev S1x1x128 : Shape := ⟨3, ![1, 1, 128]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S1x1x1024 : Shape := ⟨3, ![1, 1, 1024]⟩
abbrev S512x128 : Shape := ⟨2, ![512, 128]⟩
abbrev S128 : Shape := ⟨1, ![128]⟩
abbrev S128x128 : Shape := ⟨2, ![128, 128]⟩
abbrev S8x128 : Shape := ⟨2, ![8, 128]⟩

abbrev nBuf : Space → Nat
  | .hbm => 45
  | .vmem => 31
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x512, .bf16⟩
  | .hbm, ⟨4, _⟩ => ⟨S8x8192x1024, .f32⟩
  | .hbm, ⟨5, _⟩ => ⟨S16x6144, .f32⟩
  | .hbm, ⟨6, _⟩ => ⟨S256, .f32⟩
  | .hbm, ⟨7, _⟩ => ⟨S1536x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S65536x1024, .f32⟩
  | .hbm, ⟨13, _⟩ => ⟨S16x6x1024, .f32⟩
  | .hbm, ⟨14, _⟩ => ⟨S_, .f32⟩
  | .hbm, ⟨15, _⟩ => ⟨S16x2x1024, .f32⟩
  | .hbm, ⟨16, _⟩ => ⟨S16x8x1024, .f32⟩
  | .hbm, ⟨17, _⟩ => ⟨S1536x1024, .bf16⟩
  | .hbm, ⟨18, _⟩ => ⟨S1x256, .f32⟩
  | .hbm, ⟨19, _⟩ => ⟨S1x1024, .f32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S1, .i32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x256, .bf16⟩
  | .hbm, ⟨30, _⟩ => ⟨S_, .f32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S1x1024, .f32⟩
  | .hbm, ⟨39, _⟩ => ⟨S65536x1024, .f32⟩
  | .hbm, ⟨40, _⟩ => ⟨S65536x1024, .bf16⟩
  | .hbm, ⟨41, _⟩ => ⟨S65536x4, .i32⟩
  | .hbm, ⟨42, _⟩ => ⟨S65536x4, .f32⟩
  | .hbm, ⟨43, _⟩ => ⟨S128x1x128, .i32⟩
  | .hbm, ⟨44, _⟩ => ⟨S128x1x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x256, .f32⟩
  | .local _ .vmem, ⟨13, _⟩ => ⟨S1536x1024, .bf16⟩
  | .local _ .vmem, ⟨14, _⟩ => ⟨S1x1024, .f32⟩
  | .local _ .vmem, ⟨15, _⟩ => ⟨S1x1024, .f32⟩
  | .local _ .vmem, ⟨16, _⟩ => ⟨S1024x256, .bf16⟩
  | .local _ .vmem, ⟨17, _⟩ => ⟨S1x128, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x4, .i32⟩
  | .local _ .vmem, ⟨23, _⟩ => ⟨S512x4, .i32⟩
  | .local _ .vmem, ⟨24, _⟩ => ⟨S512x4, .f32⟩
  | .local _ .vmem, ⟨25, _⟩ => ⟨S512x4, .f32⟩
  | .local _ .vmem, ⟨26, _⟩ => ⟨S1x1x128, .i32⟩
  | .local _ .vmem, ⟨27, _⟩ => ⟨S1x1x128, .i32⟩
  | .local _ .vmem, ⟨28, _⟩ => ⟨S1x1x128, .i32⟩
  | .local _ .vmem, ⟨29, _⟩ => ⟨S1x1x128, .i32⟩
  | .local _ .vmem, ⟨30, _⟩ => ⟨S1x128, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v21_3 : Ref sig .tc := ⟨.hbm, 42, rfl⟩
abbrev main_v21_4 : Ref sig .tc := ⟨.hbm, 43, rfl⟩
abbrev main_v21_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OutRefIdeal.lean ====
abbrev S65536x1024 : Shape := ⟨2, ![65536, 1024]⟩
abbrev S65536x512 : Shape := ⟨2, ![65536, 512]⟩
abbrev S8x8192x1024 : Shape := ⟨3, ![8, 8192, 1024]⟩
abbrev S16x6144 : Shape := ⟨2, ![16, 6144]⟩
abbrev S256 : Shape := ⟨1, ![256]⟩
abbrev S1536x1024 : Shape := ⟨2, ![1536, 1024]⟩
abbrev S1024 : Shape := ⟨1, ![1024]⟩
abbrev S1024x32 : Shape := ⟨2, ![1024, 32]⟩
abbrev S32 : Shape := ⟨1, ![32]⟩
abbrev S8x6144 : Shape := ⟨2, ![8, 6144]⟩
abbrev S8x1024 : Shape := ⟨2, ![8, 1024]⟩
abbrev S8x1x1024 : Shape := ⟨3, ![8, 1, 1024]⟩
abbrev S8x8192x4x256 : Shape := ⟨4, ![8, 8192, 4, 256]⟩
abbrev S_ : Shape := ⟨0, ![]⟩
abbrev S8x8192x4 : Shape := ⟨3, ![8, 8192, 4]⟩
abbrev S8x8192x4x1 : Shape := ⟨4, ![8, 8192, 4, 1]⟩
abbrev S1x1x1x256 : Shape := ⟨4, ![1, 1, 1, 256]⟩
abbrev S8x8192x512 : Shape := ⟨3, ![8, 8192, 512]⟩
abbrev S8x8192x1536 : Shape := ⟨3, ![8, 8192, 1536]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .bf16⟩
  | .hbm, ⟨2, _⟩ => ⟨S65536x1024, .bf16⟩
  | .hbm, ⟨3, _⟩ => ⟨S65536x512, .bf16⟩
  | .hbm, ⟨4, _⟩ => ⟨S8x8192x1024, .f32⟩
  | .hbm, ⟨5, _⟩ => ⟨S16x6144, .f32⟩
  | .hbm, ⟨6, _⟩ => ⟨S256, .f32⟩
  | .hbm, ⟨7, _⟩ => ⟨S1536x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S8x6144, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S8x8192x4x256, .f32⟩
  | .hbm, ⟨26, _⟩ => ⟨S8x8192x4x256, .f32⟩
  | .hbm, ⟨27, _⟩ => ⟨S_, .f32⟩
  | .hbm, ⟨28, _⟩ => ⟨S8x8192x4, .f32⟩
  | .hbm, ⟨29, _⟩ => ⟨S8x8192x4x1, .f32⟩
  | .hbm, ⟨30, _⟩ => ⟨S_, .f32⟩
  | .hbm, ⟨31, _⟩ => ⟨S8x8192x4x1, .f32⟩
  | .hbm, ⟨32, _⟩ => ⟨S8x8192x4x1, .f32⟩
  | .hbm, ⟨33, _⟩ => ⟨S_, .f32⟩
  | .hbm, ⟨34, _⟩ => ⟨S8x8192x4x1, .f32⟩
  | .hbm, ⟨35, _⟩ => ⟨S8x8192x4x1, .f32⟩
  | .hbm, ⟨36, _⟩ => ⟨S8x8192x4x1, .f32⟩
  | .hbm, ⟨37, _⟩ => ⟨S8x8192x4x256, .f32⟩
  | .hbm, ⟨38, _⟩ => ⟨S8x8192x4x256, .f32⟩
  | .hbm, ⟨39, _⟩ => ⟨S1x1x1x256, .f32⟩
  | .hbm, ⟨40, _⟩ => ⟨S8x8192x4x256, .f32⟩
  | .hbm, ⟨41, _⟩ => ⟨S8x8192x4x256, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S8x8192x4x256, .f32⟩
  | .hbm, ⟨53, _⟩ => ⟨S8x8192x4x256, .f32⟩
  | .hbm, ⟨54, _⟩ => ⟨S8x8192x1024, .f32⟩
  | .hbm, ⟨55, _⟩ => ⟨S65536x512, .f32⟩
  | .hbm, ⟨56, _⟩ => ⟨S8x8192x512, .f32⟩
  | .hbm, ⟨57, _⟩ => ⟨S8x8192x1536, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x8192x1, .f32⟩
  | .hbm, ⟨70, _⟩ => ⟨S8x8192x1024, .f32⟩
  | .hbm, ⟨71, _⟩ => ⟨S8x8192x1024, .f32⟩
  | .hbm, ⟨72, _⟩ => ⟨S1x1x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S_, .f32⟩
  | .hbm, ⟨80, _⟩ => ⟨S8x8192, .f32⟩
  | .hbm, ⟨81, _⟩ => ⟨S8x8192x1, .f32⟩
  | .hbm, ⟨82, _⟩ => ⟨S_, .f32⟩
  | .hbm, ⟨83, _⟩ => ⟨S8x8192x1, .f32⟩
  | .hbm, ⟨84, _⟩ => ⟨S8x8192x1, .f32⟩
  | .hbm, ⟨85, _⟩ => ⟨S_, .f32⟩
  | .hbm, ⟨86, _⟩ => ⟨S8x8192x1, .f32⟩
  | .hbm, ⟨87, _⟩ => ⟨S8x8192x1, .f32⟩
  | .hbm, ⟨88, _⟩ => ⟨S8x8192x1, .f32⟩
  | .hbm, ⟨89, _⟩ => ⟨S8x8192x1024, .f32⟩
  | .hbm, ⟨90, _⟩ => ⟨S8x8192x1024, .f32⟩
  | .hbm, ⟨91, _⟩ => ⟨S1x1x1024, .f32⟩
  | .hbm, ⟨92, _⟩ => ⟨S8x8192x1024, .f32⟩
  | .hbm, ⟨93, _⟩ => ⟨S8x8192x1024, .f32⟩
  | .hbm, ⟨94, _⟩ => ⟨S_, .f32⟩
  | .hbm, ⟨95, _⟩ => ⟨S8x1x1024, .f32⟩
  | .hbm, ⟨96, _⟩ => ⟨S8x1x1024, .f32⟩
  | .hbm, ⟨97, _⟩ => ⟨S8x8192x1024, .f32⟩
  | .hbm, ⟨98, _⟩ => ⟨S8x8192x1024, .f32⟩
  | .hbm, ⟨99, _⟩ => ⟨S8x8192x1024, .f32⟩
  | .hbm, ⟨100, _⟩ => ⟨S8x8192x1024, .f32⟩
  | .hbm, ⟨101, _⟩ => ⟨S65536x1024, .f32⟩
  | .hbm, ⟨102, _⟩ => ⟨S65536x1024, .f32⟩
  | .hbm, ⟨103, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Modulation.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x6144, .f32⟩
  | .hbm, ⟨35, _⟩ => ⟨S1024x6144, .f32⟩
  | .hbm, ⟨36, _⟩ => ⟨S16x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S16x6144, .f32⟩
  | .hbm, ⟨41, _⟩ => ⟨S16x6144, .f32⟩
  | .hbm, ⟨42, _⟩ => ⟨S1x16x6144, .f32⟩
  | .hbm, ⟨43, _⟩ => ⟨S1x16x6144, .f32⟩
  | .hbm, ⟨44, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== CtxProj.lean ====
abbrev S8x256x1024 : Shape := ⟨3, ![8, 256, 1024]⟩
abbrev S16x6144 : Shape := ⟨2, ![16, 6144]⟩
abbrev S1024 : Shape := ⟨1, ![1024]⟩
abbrev S1024x3616 : Shape := ⟨2, ![1024, 3616]⟩
abbrev S2048x1024 : Shape := ⟨2, ![2048, 1024]⟩
abbrev S16x6x1024 : Shape := ⟨3, ![16, 6, 1024]⟩
abbrev S_ : Shape := ⟨0, ![]⟩
abbrev S16x2x1024 : Shape := ⟨3, ![16, 2, 1024]⟩
abbrev S16x8x1024 : Shape := ⟨3, ![16, 8, 1024]⟩
abbrev S1024x512 : Shape := ⟨2, ![1024, 512]⟩
abbrev S1024x1024 : Shape := ⟨2, ![1024, 1024]⟩
abbrev S1024x16 : Shape := ⟨2, ![1024, 16]⟩
abbrev S1024x3584 : Shape := ⟨2, ![1024, 3584]⟩
abbrev S1024x96 : Shape := ⟨2, ![1024, 96]⟩
abbrev S1024x128 : Shape := ⟨2, ![1024, 128]⟩
abbrev S1x8x1024 : Shape := ⟨3, ![1, 8, 1024]⟩
abbrev S1x1024 : Shape := ⟨2, ![1, 1024]⟩
abbrev S2048x512 : Shape := ⟨2, ![2048, 512]⟩
abbrev S2048x128 : Shape := ⟨2, ![2048, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 30
  | .vmem => 19
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1024, .f32⟩
  | .hbm, ⟨3, _⟩ => ⟨S1024x3616, .f32⟩
  | .hbm, ⟨4, _⟩ => ⟨S2048x1024, .f32⟩
  | .hbm, ⟨5, _⟩ => ⟨S16x6x1024, .f32⟩
  | .hbm, ⟨6, _⟩ => ⟨S_, .f32⟩
  | .hbm, ⟨7, _⟩ => ⟨S16x2x1024, .f32⟩
  | .hbm, ⟨8, _⟩ => ⟨S16x8x1024, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S1024x16, .f32⟩
  | .hbm, ⟨14, _⟩ => ⟨S1024x16, .f32⟩
  | .hbm, ⟨15, _⟩ => ⟨S1024x512, .f32⟩
  | .hbm, ⟨16, _⟩ => ⟨S1024x3584, .f32⟩
  | .hbm, ⟨17, _⟩ => ⟨S1024x3584, .bf16⟩
  | .hbm, ⟨18, _⟩ => ⟨S_, .f32⟩
  | .hbm, ⟨19, _⟩ => ⟨S1024x96, .f32⟩
  | .hbm, ⟨20, _⟩ => ⟨S1024x128, .f32⟩
  | .hbm, ⟨21, _⟩ => ⟨S1024x128, .bf16⟩
  | .hbm, ⟨22, _⟩ => ⟨S1x8x1024, .f32⟩
  | .hbm, ⟨23, _⟩ => ⟨S1x1024, .f32⟩
  | .hbm, ⟨24, _⟩ => ⟨S2048x512, .bf16⟩
  | .hbm, ⟨25, _⟩ => ⟨S2048x512, .bf16⟩
  | .hbm, ⟨26, _⟩ => ⟨S2048x1024, .bf16⟩
  | .hbm, ⟨27, _⟩ => ⟨S2048x1024, .bf16⟩
  | .hbm, ⟨28, _⟩ => ⟨S2048x512, .bf16⟩
  | .hbm, ⟨29, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3584, .bf16⟩
  | .local _ .vmem, ⟨6, _⟩ => ⟨S1024x128, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x128, .f32⟩
  | .local _ .vmem, ⟨18, _⟩ => ⟨S512x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CtxRefIdeal.lean ====
abbrev S8x256x1024 : Shape := ⟨3, ![8, 256, 1024]⟩
abbrev S16x6144 : Shape := ⟨2, ![16, 6144]⟩
abbrev S1024 : Shape := ⟨1, ![1024]⟩
abbrev S1024x3616 : Shape := ⟨2, ![1024, 3616]⟩
abbrev S1x6144 : Shape := ⟨2, ![1, 6144]⟩
abbrev S1x1024 : Shape := ⟨2, ![1, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x3616 : Shape := ⟨3, ![8, 256, 3616]⟩
abbrev S2048x3616 : Shape := ⟨2, ![2048, 3616]⟩
abbrev S2048x512 : Shape := ⟨2, ![2048, 512]⟩
abbrev S2048x1024 : Shape := ⟨2, ![2048, 1024]⟩
abbrev S2048x16 : Shape := ⟨2, ![2048, 16]⟩
abbrev S2048x96 : Shape := ⟨2, ![2048, 96]⟩
abbrev S2048x128 : Shape := ⟨2, ![2048, 128]⟩

abbrev nBuf : Space → Nat
  | .hbm => 55
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S16x6144, .f32⟩
  | .hbm, ⟨2, _⟩ => ⟨S1024, .f32⟩
  | .hbm, ⟨3, _⟩ => ⟨S1024x3616, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1024, .f32⟩
  | .hbm, ⟨13, _⟩ => ⟨S8x256x1024, .f32⟩
  | .hbm, ⟨14, _⟩ => ⟨S_, .f32⟩
  | .hbm, ⟨15, _⟩ => ⟨S8x256, .f32⟩
  | .hbm, ⟨16, _⟩ => ⟨S8x256x1, .f32⟩
  | .hbm, ⟨17, _⟩ => ⟨S_, .f32⟩
  | .hbm, ⟨18, _⟩ => ⟨S8x256x1, .f32⟩
  | .hbm, ⟨19, _⟩ => ⟨S8x256x1, .f32⟩
  | .hbm, ⟨20, _⟩ => ⟨S_, .f32⟩
  | .hbm, ⟨21, _⟩ => ⟨S8x256x1, .f32⟩
  | .hbm, ⟨22, _⟩ => ⟨S8x256x1, .f32⟩
  | .hbm, ⟨23, _⟩ => ⟨S8x256x1, .f32⟩
  | .hbm, ⟨24, _⟩ => ⟨S8x256x1024, .f32⟩
  | .hbm, ⟨25, _⟩ => ⟨S8x256x1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S1x1x1024, .f32⟩
  | .hbm, ⟨36, _⟩ => ⟨S8x256x1024, .f32⟩
  | .hbm, ⟨37, _⟩ => ⟨S8x256x1024, .f32⟩
  | .hbm, ⟨38, _⟩ => ⟨S8x256x3616, .f32⟩
  | .hbm, ⟨39, _⟩ => ⟨S2048x3616, .f32⟩
  | .hbm, ⟨40, _⟩ => ⟨S2048x512, .f32⟩
  | .hbm, ⟨41, _⟩ => ⟨S2048x512, .f32⟩
  | .hbm, ⟨42, _⟩ => ⟨S2048x1024, .f32⟩
  | .hbm, ⟨43, _⟩ => ⟨S2048x1024, .f32⟩
  | .hbm, ⟨44, _⟩ => ⟨S2048x16, .f32⟩
  | .hbm, ⟨45, _⟩ => ⟨S2048x16, .f32⟩
  | .hbm, ⟨46, _⟩ => ⟨S2048x512, .f32⟩
  | .hbm, ⟨47, _⟩ => ⟨S_, .f32⟩
  | .hbm, ⟨48, _⟩ => ⟨S2048x96, .f32⟩
  | .hbm, ⟨49, _⟩ => ⟨S2048x128, .f32⟩
  | .hbm, ⟨50, _⟩ => ⟨S2048x512, .bf16⟩
  | .hbm, ⟨51, _⟩ => ⟨S2048x512, .bf16⟩
  | .hbm, ⟨52, _⟩ => ⟨S2048x1024, .bf16⟩
  | .hbm, ⟨53, _⟩ => ⟨S2048x1024, .bf16⟩
  | .hbm, ⟨54, _⟩ => ⟨S2048x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Proof.KernelIdeal.Kit.lean ====
/- The experts' call, set up for its launch: the tables the launch memory holds, the block each window stages at a
   point, the staging and scratch memrefs, and the three decisions the body takes at a point (is the block used, is it
   not, is its expert another one than the block before had). -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory at the region's entry, and the tables -/

/-- Core `c`'s buffers when the call starts: as launched, the call being all of @main. -/
abbrev V (c : Dev nD) (b : Ref sig .tc) : Buf (Elt F) ((c : Thread nD τ).loc b) := m ((c : Thread nD τ).loc b)

set_option maxHeartbeats 800000 in
/-- @main is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched tables' contents (block → expert, number of used blocks), read off the launch memory. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block a table names lies inside its array. -/
abbrev Ok : Prop := ok0 (F := F) (tbl m)
abbrev adm (hO : Ok m) : (pcfg0 (F := F)).Adm := ⟨tbl m, hO⟩
/-- The pipeline at the launch's tables. -/
abbrev cfgM (hO : Ok m) : Pipeline.Cfg sig Λ₀ := cfg0 (adm m hO)

abbrev beM : Memref sig .tc .smem S544 .i32 := Memref.whole main_arg0
abbrev nuM : Memref sig .tc .smem S1 .i32 := Memref.whole main_arg1
abbrev hbeM : beM.IsWhole := Memref.isWhole_whole _
abbrev hnuM : nuM.IsWhole := Memref.isWhole_whole _

/-- The contents of a table's buffer on core `c`, and that buffer held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves handed to the body, one by one. -/
theorem tables_eq (c : Dev nD) : (Pipeline.ΦT pre0 (tbl m) c : sProp 𝕄) = iprop(tbPt c beM (tbl m 0) ∗ tbPt c nuM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section before
variable {m}
variable (hO : Ok m) {c : Dev nD} (dat : Dat τ (Elt F) Unit ℕ (UR sig nD τ) ℕ (cfgM m hO) c)

/-- An input's current staging buffer holds its block at every point, whether or not it was fetched there. -/
theorem before_rows (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_wgu (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_bgu (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_wd (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_bd (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end before

/-- The result's block is written back at every point, so no point leaves it idle. -/
theorem flush_out (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-! ## The memrefs -/

abbrev ms0 (hO : Ok m) (t : Fin (cfgM m hO).N) : Memref sig .tc .vmem S4096x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S4096x128 .f32 := spec0_5.stage ((cfgM m hO).slots t 5)
abbrev hs5 (hO : Ok m) (t : Fin (cfgM m hO).N) : (ms5 m hO t).IsWhole := hstage0_5 (((cfgM m hO).slots t 5).cast nbuf0_5)
/-- The two scratch buffers: the expert's weights cast for the products. -/
abbrev sgM : Memref sig .tc .vmem S1024x2048 .bf16 := Memref.whole cc0_scratch0
abbrev sdM : Memref sig .tc .vmem S1024x1024 .bf16 := Memref.whole cc0_scratch1

/-- What the launch hands the region besides the tables: both scratch buffers at something, and the generator register. -/
theorem scratch_eq (c : Dev nD) :
    (Pipeline.ΦA spec0 c : sProp 𝕄)
      = iprop(iprop((∃ d, owns (c : Thread nD τ) sgM fullShare d) ∗ (∃ d, owns (c : Thread nD τ) sdM fullShare d)) ∗ (∃ r, prngReg c r)) := by
  unfold Pipeline.ΦA; rw [scopedRest0_eq]; simp only [sgM, sdM, owns_whole]; try rfl

/-- The body at point `t`, on the buffers the pipeline calls it with. -/
abbrev bodyAt (hO : Ok m) (t : Fin (cfgM m hO).N) : Prog (TpuEff nD τ sig (Elt F) Λ₀ .tc) PUnit :=
  cc0_moe_experts (grid0.coords t) beM hbeM nuM hnuM (ms0 m hO t) (hs0 m hO t) (ms1 m hO t) (hs1 m hO t) (ms2 m hO t) (hs2 m hO t) (ms3 m hO t) (hs3 m hO t) (ms4 m hO t) (hs4 m hO t) (ms5 m hO t) (hs5 m hO t) sgM (Memref.isWhole_whole _) sdM (Memref.isWhole_whole _)

/-! ## The body's decisions -/

/-- The words the body loads: the number of used blocks, the block's expert, the expert of the block before. -/
abbrev nuW (T1 : S1.Idx → Elt F .i32) : BitVec 32 :=
  View.readAt (Elt F) nuM.view (Rect.unit (s := S1) ![0] S1.size inb_S1_S1_0).toLoadRect T1 (Shape.Idx.first (numel1_S1.symm ▸ Nat.one_pos))
abbrev beW (T0 : S544.Idx → Elt F .i32) (i : grid0.Coords) : BitVec 32 :=
  View.readAt (Elt F) beM.view (Rect.unit (s := S544) (k0_off2 i) S1.size (k0_off2_inb i)).toLoadRect T0 (Shape.Idx.first (numel1_S1.symm ▸ Nat.one_pos))
abbrev prevW (T0 : S544.Idx → Elt F .i32) (i : grid0.Coords) : BitVec 32 :=
  View.readAt (Elt F) beM.view (Rect.unit (s := S544) (k0_off3 i) S1.size (k0_off3_inb i)).toLoadRect T0 (Shape.Idx.first (numel1_S1.symm ▸ Nat.one_pos))

/-- The block is used: its number is below the number of used blocks. -/
abbrev Used (i : grid0.Coords) (T1 : S1.Idx → Elt F .i32) : Prop := k0_cond1 i (nuW T1) = 1#1
/-- The block is not used: its number is at least that. -/
abbrev Unused (i : grid0.Coords) (T1 : S1.Idx → Elt F .i32) : Prop := k0_cond3 i (nuW T1) = 1#1
/-- The weights are to be cast anew: the first block, or another expert than the block before. -/
abbrev Fresh (i : grid0.Coords) (T0 : S544.Idx → Elt F .i32) : Prop :=
  Scalar.cmpi .ne (Scalar.extui (Scalar.ori (Scalar.cmpi .eq (BitVec.ofNat 32 (i 0).val) 0#32) (Scalar.cmpi .ne (beW T0 i) (prevW T0 i)))) 0#32 = 1#1

end Cert.KernelIdeal.Experts

end
-- ==== Proof.KernelIdeal.Runs.lean ====
/- The body run on each of its three roads: a block that is not used, a used block whose weights are cast anew, a used
   block that finds its weights in the scratch. -/
module

public import proofs.«01_k».proof.Proof.KernelIdeal.Kit

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A block that is not used: what is stored into its result block. -/
noncomputable def runUnused (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (xt0 : TbBuf (F := F) c beM) (xt1 : TbBuf (F := F) c nuM) (hc1 : ¬ Used i xt1) (hc3 : Unused i xt1) :
    { L5 : List (View.Piece (Elt F) S4096x128 .f32) //
      ∀ (E : Set ℕ) (K : PUnit → sProp 𝕄),
        iprop((∃ d, owns (c : Thread nD τ) arg8 fullShare d) ∗ tbPt c beM xt0 ∗ tbPt c nuM xt1
            ∗ (iprop((∃ f, arg8.view.loc (c : Thread nD τ) ↦[arg8.view.set]{fullShare} arg8.view.writes (Elt F) f L5) ∗ tbPt c beM xt0 ∗ tbPt c nuM xt1) -∗ K ⟨⟩))
          ⊢ wp frame (wpE (defs₀ (F := F)) Variants.none c none) E (cc0_moe_experts i beM hbeM nuM hnuM arg3 harg3 arg4 harg4 arg5 harg5 arg6 harg6 arg7 harg7 arg8 harg8 sgM (Memref.isWhole_whole _) sdM (Memref.isWhole_whole _)) K } := by
  refine ⟨?_, fun E K => ?run⟩
  case run =>
    simp only [cc0_moe_experts_eq_skeleton]; unfold cc0_moe_experts_skel
    unfold owns
    iintro ⟨⟨%d5, %f5, -, H5⟩, HT0, HT1, Hk⟩
    sl_exec (disch := first | (guard_target = ¬(k0_cond1 _ _ = _); exact hc1) | (guard_target = k0_cond3 _ _ = _; exact hc3))
    sl_step
    iapply Hk
    isplitl [H5]; · iexists _; iexact H5
    isplitl [HT0]; · iexact HT0
    iexact HT1

set_option maxHeartbeats 1000000 in
/-- A used block whose weights are cast anew: what is stored into its result block and into the two scratch buffers. -/
noncomputable def runFresh (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)
    (xt0 : TbBuf (F := F) c beM) (xt1 : TbBuf (F := F) c nuM) (hc1 : Used i xt1) (hc3 : ¬ Unused i xt1) (hf : Fresh i xt0) :
    Σ' (L5 : List (View.Piece (Elt F) S4096x128 .f32)), Σ' (LS0 : List (View.Piece (Elt F) S1024x2048 .bf16)), { LS1 : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt c beM xt0 ∗ tbPt c nuM xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ tbPt c beM xt0 ∗ tbPt c nuM xt1) -∗ K ⟨⟩))
          ⊢ wp frame (wpE (defs₀ (F := F)) Variants.none c none) E (cc0_moe_experts i beM hbeM nuM hnuM arg3 harg3 arg4 harg4 arg5 harg5 arg6 harg6 arg7 harg7 arg8 harg8 arg9 harg9 arg10 harg10) K } := by
  refine ⟨?_, ?_, ?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | (guard_target = k0_cond1 _ _ = _; exact hc1) | (guard_target = ¬(k0_cond3 _ _ = _); exact hc3) | sl_exact hf)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HT0]; · iexact HT0
    iexact HT1

set_option maxHeartbeats 1000000 in
/-- A used block that keeps the weights of the block before: what is stored into its result block. -/
noncomputable def runKept (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x2 : Vec F S1x1x2048 .f32) (x4 : Vec F S1x1x1024 .f32) (xs0 : Vec F S1024x2048 .bf16) (xs1 : Vec F S1024x1024 .bf16)
    (xt0 : TbBuf (F := F) c beM) (xt1 : TbBuf (F := F) c nuM) (hc1 : Used i xt1) (hc3 : ¬ Unused i xt1) (hf : ¬ Fresh i xt0) :
    { L5 : List (View.Piece (Elt F) S4096x128 .f32) //
      ∀ (E : Set ℕ) (K : PUnit → sProp 𝕄),
        iprop(owns (c : Thread nD τ) arg3 fullShare x0 ∗ owns (c : Thread nD τ) arg5 fullShare x2 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt c beM xt0 ∗ tbPt c nuM xt1
            ∗ (iprop(owns (c : Thread nD τ) arg3 fullShare x0 ∗ owns (c : Thread nD τ) arg5 fullShare x2 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ owns (c : Thread nD τ) arg10 fullShare xs1 ∗ tbPt c beM xt0 ∗ tbPt c nuM xt1) -∗ K ⟨⟩))
          ⊢ wp frame (wpE (defs₀ (F := F)) Variants.none c none) E (cc0_moe_experts i beM hbeM nuM hnuM arg3 harg3 arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    simp only [k0_part1_eq_skeleton, k0_part2_eq_skeleton]
    unfold owns
    iintro ⟨⟨%f0, %hf0, H0⟩, ⟨%f2, %hf2, H2⟩, ⟨%f4, %hf4, H4⟩, ⟨%d5, %f5, -, H5⟩, ⟨%fs0, %hfs0, HS0⟩, ⟨%fs1, %hfs1, HS1⟩, HT0, HT1, Hk⟩
    obtain rfl := harg3.eq_unread hf0; obtain rfl := harg5.eq_unread hf2; obtain rfl := harg7.eq_unread hf4; obtain rfl := harg9.eq_unread hfs0; obtain rfl := harg10.eq_unread hfs1
    sl_exec (disch := first | (guard_target = k0_cond1 _ _ = _; exact hc1) | (guard_target = ¬(k0_cond3 _ _ = _); exact hc3) | sl_exact hf)
    sl_step
    iapply Hk
    isplitl [H0]
    · iexists _; isplitr; · ipureintro; exact harg3.read_unread _
      iexact H0
    isplitl [H2]
    · iexists _; isplitr; · ipureintro; exact harg5.read_unread _
      iexact H2
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HT0]; · iexact HT0
    iexact HT1

end Cert.KernelIdeal.Experts

end
-- ==== Proof.KernelIdeal.Outs.lean ====
/- What each of the body's roads leaves: the result block as one function of the staged blocks and of the two scratch
   buffers, and the scratch buffers where the weights are cast anew. -/
module

public import proofs.«01_k».proof.Proof.KernelIdeal.Runs
public import Idealize.ShloMosaic.Lib.Pipeline.ReadBack
public import Idealize.ShloMosaic.Lib.VecWindow
public import Idealize.ShloMosaic.Lib.Pipeline.ValueKit.Acc
public import Idealize.ShloMosaic.Lib.Pipeline.Value

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic

variable {F : FTy → Type} [FloatOps F]

/-- Every eighth row of a block from row `o` on, as the body reads and writes them. -/
abbrev slab (o : Fin 2 → ℕ) (h : ∀ a, S512x128.size a = 0 ∨ o a + (![8, 1] : Fin 2 → ℕ) a * (S512x128.size a - 1) < S4096x128.size a) : Rect S4096x128 :=
  ⟨(⟨o, S512x128.size, ![8, 1], h⟩ : LoadRect S4096x128), spos_8_1⟩

/-- A block read through a rectangle. -/
def pick {S : Shape} {e : EltTy} (x : Vec F S e) (B : LoadRect S) : Vec F B.shape e := fun j => x (B.idx j)

/-- The eight slabs of a block of rows, handed to `f` in order. -/
def withSlabs {α : Type} (x0 : Vec F S4096x128 .f32)
    (f : Vec F S512x128 .f32 → Vec F S512x128 .f32 → Vec F S512x128 .f32 → Vec F S512x128 .f32 → Vec F S512x128 .f32 → Vec F S512x128 .f32 → Vec F S512x128 .f32 → Vec F S512x128 .f32 → α) : α :=
  f (pick x0 (slab ![0, 0] inb_S4096x128_S512x128_0_0_s_8_1).toLoadRect) (pick x0 (slab ![1, 0] inb_S4096x128_S512x128_1_0_s_8_1).toLoadRect)
    (pick x0 (slab ![2, 0] inb_S4096x128_S512x128_2_0_s_8_1).toLoadRect) (pick x0 (slab ![3, 0] inb_S4096x128_S512x128_3_0_s_8_1).toLoadRect)
    (pick x0 (slab ![4, 0] inb_S4096x128_S512x128_4_0_s_8_1).toLoadRect) (pick x0 (slab ![5, 0] inb_S4096x128_S512x128_5_0_s_8_1).toLoadRect)
    (pick x0 (slab ![6, 0] inb_S4096x128_S512x128_6_0_s_8_1).toLoadRect) (pick x0 (slab ![7, 0] inb_S4096x128_S512x128_7_0_s_8_1).toLoadRect)

/-- The expert's result for a block of 512 rows, before it is laid out in slabs: from the rows, the first weights (cast),
    the first bias, the second weights (cast) and the second bias. -/
def expertOut (x0 : Vec F S4096x128 .f32) (sg : Vec F S1024x2048 .bf16) (x2 : Vec F S1x1x2048 .f32) (sd : Vec F S1024x1024 .bf16) (x4 : Vec F S1x1x1024 .f32) : FVec F S512x1024 .f32 :=
  k0_pay8 (withSlabs x0 fun a b c d e f g h => k0_pay6 a b c d e f g h sg x2) (withSlabs x0 fun a b c d e f g h => k0_pay7 a b c d e f g h sg x2)
    (Scalar.ofBits .f32 0xC0E00000#32) sd x4

/-- Where row `r`, lane `l` of a block of slabs comes from in the 512 × 1024 result: row `r / 8`, column `128 (r % 8) + l`. -/
def slabSrc (z : S4096x128.Idx) : S512x1024.Idx := fun a => match a with
  | ⟨0, _⟩ => ⟨(z 0).val / 8, (Nat.div_lt_iff_lt_mul (by decide)).mpr (z 0).isLt⟩
  | ⟨1, _⟩ => ⟨(z 0).val % 8 * 128 + (z 1).val, by
      have h0 := Nat.mod_lt (z 0).val (show 0 < 8 by decide)
      have h1 : (z 1).val < 128 := (z 1).isLt
      show _ < 1024; omega⟩

/-- The 512 × 1024 result laid out in slabs. -/
def slabbed (y : FVec F S512x1024 .f32) : Vec F S4096x128 .f32 := fun z => y (slabSrc z)

/-- The eight stores of a result, last first. -/
def slabStores (y : FVec F S512x1024 .f32) : List (View.Piece (Elt F) S4096x128 .f32) :=
  [⟨slab ![7, 0] inb_S4096x128_S512x128_7_0_s_8_1, extractStridedSlice S512x128 ![0, 896] y slices_S512x1024_o0_896_S512x128⟩,
   ⟨slab ![6, 0] inb_S4096x128_S512x128_6_0_s_8_1, extractStridedSlice S512x128 ![0, 768] y slices_S512x1024_o0_768_S512x128⟩,
   ⟨slab ![5, 0] inb_S4096x128_S512x128_5_0_s_8_1, extractStridedSlice S512x128 ![0, 640] y slices_S512x1024_o0_640_S512x128⟩,
   ⟨slab ![4, 0] inb_S4096x128_S512x128_4_0_s_8_1, extractStridedSlice S512x128 ![0, 512] y slices_S512x1024_o0_512_S512x128⟩,
   ⟨slab ![3, 0] inb_S4096x128_S512x128_3_0_s_8_1, extractStridedSlice S512x128 ![0, 384] y slices_S512x1024_o0_384_S512x128⟩,
   ⟨slab ![2, 0] inb_S4096x128_S512x128_2_0_s_8_1, extractStridedSlice S512x128 ![0, 256] y slices_S512x1024_o0_256_S512x128⟩,
   ⟨slab ![1, 0] inb_S4096x128_S512x128_1_0_s_8_1, extractStridedSlice S512x128 ![0, 128] y slices_S512x1024_o0_128_S512x128⟩,
   ⟨slab ![0, 0] inb_S4096x128_S512x128_0_0_s_8_1, extractStridedSlice S512x128 ![0, 0] y slices_S512x1024_o0_0_S512x128⟩]

/-- A slab's store writes what the laid-out result holds there. -/
theorem slab_piece (y : FVec F S512x1024 .f32) (k : ℕ) (hk : k < 8) (h) (hs : S512x1024.Slices (![0, 128 * k] : Fin 2 → ℕ) S512x128)
    (x : S512x128.Idx) : extractStridedSlice S512x128 ![0, 128 * k] y hs x = slabbed y ((slab ![k, 0] h).emb x) := by
  have h0 : ((slab ![k, 0] h).emb x 0).val = k + 8 * (x 0).val := rfl
  have h1 : ((slab ![k, 0] h).emb x 1).val = 0 + 1 * (x 1).val := rfl
  refine extractStridedSlice_apply (s := S512x1024) (t := S512x128) ![0, 128 * k] y hs x (slabSrc ((slab ![k, 0] h).emb x)) ?_
  intro a
  match a with
  | ⟨0, _⟩ => show ((slab ![k, 0] h).emb x 0).val / 8 = 0 + (x 0).val; rw [h0]; omega
  | ⟨1, _⟩ => show ((slab ![k, 0] h).emb x 0).val % 8 * 128 + ((slab ![k, 0] h).emb x 1).val = 128 * k + (x 1).val; rw [h0, h1]; omega

/-- Every index of the block lies in one of the slabs. -/
theorem slab_cover (y : FVec F S512x1024 .f32) (z : S4096x128.Idx) : ∃ p ∈ slabStores y, z ∈ p.1.set := by
  have key : ∀ (k : ℕ) (h), (z 0).val % 8 = k → z ∈ (slab ![k, 0] h).set := by
    intro k h hk
    have hz0 : (z 0).val < 4096 := (z 0).isLt
    have hz1 : (z 1).val < 128 := (z 1).isLt
    rw [LoadRect.mem_set]
    intro a
    match a with
    | ⟨0, _⟩ => exact ⟨(z 0).val / 8, show (z 0).val / 8 < 512 by omega, show (z 0).val = k + 8 * ((z 0).val / 8) by omega⟩
    | ⟨1, _⟩ => exact ⟨(z 1).val, hz1, show (z 1).val = 0 + 1 * (z 1).val by omega⟩
  have hm := Nat.mod_lt (z 0).val (show 0 < 8 by decide)
  generalize hk : (z 0).val % 8 = k at hm
  unfold slabStores
  have h8 : k = 0 ∨ k = 1 ∨ k = 2 ∨ k = 3 ∨ k = 4 ∨ k = 5 ∨ k = 6 ∨ k = 7 := by omega
  rcases h8 with rfl | rfl | rfl | rfl | rfl | rfl | rfl | rfl
  · exact ⟨_, List.Mem.tail _ (List.Mem.tail _ (List.Mem.tail _ (List.Mem.tail _ (List.Mem.tail _ (List.Mem.tail _ (List.Mem.tail _ (List.Mem.head _))))))), key 0 inb_S4096x128_S512x128_0_0_s_8_1 hk⟩
  · exact ⟨_, List.Mem.tail _ (List.Mem.tail _ (List.Mem.tail _ (List.Mem.tail _ (List.Mem.tail _ (List.Mem.tail _ (List.Mem.head _)))))), key 1 inb_S4096x128_S512x128_1_0_s_8_1 hk⟩
  · exact ⟨_, List.Mem.tail _ (List.Mem.tail _ (List.Mem.tail _ (List.Mem.tail _ (List.Mem.tail _ (List.Mem.head _))))), key 2 inb_S4096x128_S512x128_2_0_s_8_1 hk⟩
  · exact ⟨_, List.Mem.tail _ (List.Mem.tail _ (List.Mem.tail _ (List.Mem.tail _ (List.Mem.head _)))), key 3 inb_S4096x128_S512x128_3_0_s_8_1 hk⟩
  · exact ⟨_, List.Mem.tail _ (List.Mem.tail _ (List.Mem.tail _ (List.Mem.head _))), key 4 inb_S4096x128_S512x128_4_0_s_8_1 hk⟩
  · exact ⟨_, List.Mem.tail _ (List.Mem.tail _ (List.Mem.head _)), key 5 inb_S4096x128_S512x128_5_0_s_8_1 hk⟩
  · exact ⟨_, List.Mem.tail _ (List.Mem.head _), key 6 inb_S4096x128_S512x128_6_0_s_8_1 hk⟩
  · exact ⟨_, List.Mem.head _, key 7 inb_S4096x128_S512x128_7_0_s_8_1 hk⟩

/-- The eight stores leave the result laid out in slabs, whatever the buffer held before. -/
theorem read_slabStores {sig : RefSig} {κ : Kind} {sp : Space} (v : View sig κ sp S4096x128 .f32) (f : v.ty.Contents (Elt F)) (y : FVec F S512x1024 .f32) :
    v.read (Elt F) (v.writes (Elt F) f (slabStores y)) = slabbed y := by
  rw [View.read_writes_eq_canon v f _ (slab_cover y)]
  funext z
  refine View.canon_apply_of_pieces (slabbed y) _ ?_ z (slab_cover y z)
  intro p hp
  unfold slabStores at hp
  simp only [List.mem_cons, List.not_mem_nil, or_false] at hp
  rcases hp with rfl | rfl | rfl | rfl | rfl | rfl | rfl | rfl
  · exact slab_piece y 7 (by decide) _ slices_S512x1024_o0_896_S512x128
  · exact slab_piece y 6 (by decide) _ slices_S512x1024_o0_768_S512x128
  · exact slab_piece y 5 (by decide) _ slices_S512x1024_o0_640_S512x128
  · exact slab_piece y 4 (by decide) _ slices_S512x1024_o0_512_S512x128
  · exact slab_piece y 3 (by decide) _ slices_S512x1024_o0_384_S512x128
  · exact slab_piece y 2 (by decide) _ slices_S512x1024_o0_256_S512x128
  · exact slab_piece y 1 (by decide) _ slices_S512x1024_o0_128_S512x128
  · exact slab_piece y 0 (by decide) _ slices_S512x1024_o0_0_S512x128

section
variable (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1024x2048 .f32) (x2 : Vec F S1x1x2048 .f32) (x3 : Vec F S1x1024x1024 .f32) (x4 : Vec F S1x1x1024 .f32)
    (xs0 : Vec F S1024x2048 .bf16) (xs1 : Vec F S1024x1024 .bf16) (xt0 : TbBuf (F := F) c beM) (xt1 : TbBuf (F := F) c nuM)

/-- A read of a whole buffer's contents through a rectangle picks them. -/
theorem readAt_unread_pick {sp : Space} {S : Shape} {e : EltTy} (M : Memref sig .tc sp S e) (hM : M.IsWhole) (x : Vec F S e) (B : LoadRect S) :
    View.readAt (Elt F) M.view B (hM.unread x) = pick x B :=
  congrArg (fun (x : Vec F S e) (j : B.shape.Idx) => x (B.idx j)) (hM.read_unread x)

/-- Picking through the whole rectangle changes nothing. -/
theorem pick_full {S : Shape} {e : EltTy} (x : Vec F S e) (off : Fin S.rank → ℕ) (h0 : ∀ a, off a = 0) (inb) : pick x (Rect.unit (s := S) off S.size inb).toLoadRect = x := by
  funext j
  exact congrArg x (funext fun a => Fin.ext (by show off a + 1 * (j a).val = (j a).val; rw [h0]; omega))

/-- A used block whose weights stay: its result block. -/
theorem runKept_out (hc1) (hc3) (hf) :
    (runKept (F := F) c i arg3 harg3 arg4 harg4 arg5 harg5 arg6 harg6 arg7 harg7 arg8 harg8 arg9 harg9 arg10 harg10 x0 x2 x4 xs0 xs1 xt0 xt1 hc1 hc3 hf).1
      = slabStores (expertOut x0 xs0 x2 xs1 x4) := by
  unfold runKept; dsimp only
  unfold runKept.sl.r_5 runKept.sl.r_6 runKept.sl.r_3 runKept.sl.r_4 runKept.sl.cst_20
  simp only [readAt_unread_pick]
  rw [show (pick xs0 (Rect.unit (s := S1024x2048) ![0, 0] S1024x2048.size inb_S1024x2048_S1024x2048_0_0).toLoadRect) = xs0 from pick_full _ _ (by decide) _,
    show (pick xs1 (Rect.unit (s := S1024x1024) ![0, 0] S1024x1024.size inb_S1024x1024_S1024x1024_0_0).toLoadRect) = xs1 from pick_full _ _ (by decide) _,
    show (pick x2 (Rect.unit (s := S1x1x2048) ![0, 0, 0] S1x1x2048.size inb_S1x1x2048_S1x1x2048_0_0_0).toLoadRect) = x2 from pick_full _ _ (by decide) _,
    show (pick x4 (Rect.unit (s := S1x1x1024) ![0, 0, 0] S1x1x1024.size inb_S1x1x1024_S1x1x1024_0_0_0).toLoadRect) = x4 from pick_full _ _ (by decide) _]
  rfl

/-- The first scratch after the cast: one store over all of it; -/
theorem fresh_sg : runFresh.sl.HS0_1 (F := F) c arg4 harg4 x1
    = [⟨Rect.unit (s := S1024x2048) ![0, 0] S1024x2048.size inb_S1024x2048_S1024x2048_0_0, k0_pay3 x1⟩] := by
  unfold runFresh.sl.HS0_1
  simp only [readAt_unread_pick]
  rw [show (pick x1 (Rect.unit (s := S1x1024x2048) ![0, 0, 0] S1x1024x2048.size inb_S1x1024x2048_S1x1024x2048_0_0_0).toLoadRect) = x1 from pick_full _ _ (by decide) _]
/-- and the second. -/
theorem fresh_sd : runFresh.sl.HS1_1 (F := F) c arg6 harg6 x3
    = [⟨Rect.unit (s := S1024x1024) ![0, 0] S1024x1024.size inb_S1024x1024_S1024x1024_0_0, k0_pay4 x3⟩] := by
  unfold runFresh.sl.HS1_1
  simp only [readAt_unread_pick]
  rw [show (pick x3 (Rect.unit (s := S1x1024x1024) ![0, 0, 0] S1x1024x1024.size inb_S1x1024x1024_S1x1024x1024_0_0_0).toLoadRect) = x3 from pick_full _ _ (by decide) _]

/-- A used block whose weights are cast anew: its result block, -/
theorem runFresh_out (hc1) (hc3) (hf) :
    (runFresh (F := F) c i arg3 harg3 arg4 harg4 arg5 harg5 arg6 harg6 arg7 harg7 arg8 harg8 arg9 harg9 arg10 harg10 x0 x1 x2 x3 x4 xt0 xt1 hc1 hc3 hf).1
      = slabStores (expertOut x0 (k0_pay3 x1) x2 (k0_pay4 x3) x4) := by
  unfold runFresh; dsimp only
  unfold runFresh.sl.r_5 runFresh.sl.r_6 runFresh.sl.r_3 runFresh.sl.r_4 runFresh.sl.cst_20 runFresh.sl.v51 runFresh.sl.v29
  rw [fresh_sg, fresh_sd]
  simp only [readAt_unread_pick]
  rw [View.readCov_cons_unit_lit' (S := S1024x2048) _ _ _ _ _ (by decide) (by decide),
    View.readCov_cons_unit_lit' (S := S1024x1024) _ _ _ _ _ (by decide) (by decide),
    show (pick x2 (Rect.unit (s := S1x1x2048) ![0, 0, 0] S1x1x2048.size inb_S1x1x2048_S1x1x2048_0_0_0).toLoadRect) = x2 from pick_full _ _ (by decide) _,
    show (pick x4 (Rect.unit (s := S1x1x1024) ![0, 0, 0] S1x1x1024.size inb_S1x1x1024_S1x1x1024_0_0_0).toLoadRect) = x4 from pick_full _ _ (by decide) _]
  rfl
/-- the first scratch -/
theorem runFresh_sg (hc1) (hc3) (hf) :
    (runFresh (F := F) c i arg3 harg3 arg4 harg4 arg5 harg5 arg6 harg6 arg7 harg7 arg8 harg8 arg9 harg9 arg10 harg10 x0 x1 x2 x3 x4 xt0 xt1 hc1 hc3 hf).2.1
      = [⟨Rect.unit (s := S1024x2048) ![0, 0] S1024x2048.size inb_S1024x2048_S1024x2048_0_0, k0_pay3 x1⟩] := by
  unfold runFresh; dsimp only; exact fresh_sg c arg4 harg4 x1
/-- and the second. -/
theorem runFresh_sd (hc1) (hc3) (hf) :
    (runFresh (F := F) c i arg3 harg3 arg4 harg4 arg5 harg5 arg6 harg6 arg7 harg7 arg8 harg8 arg9 harg9 arg10 harg10 x0 x1 x2 x3 x4 xt0 xt1 hc1 hc3 hf).2.2.1
      = [⟨Rect.unit (s := S1024x1024) ![0, 0] S1024x1024.size inb_S1024x1024_S1024x1024_0_0, k0_pay4 x3⟩] := by
  unfold runFresh; dsimp only; exact fresh_sd c arg6 harg6 x3
/-- A block that is not used: its result block. -/
theorem runUnused_out (hc1) (hc3) :
    (runUnused (F := F) c i arg3 harg3 arg4 harg4 arg5 harg5 arg6 harg6 arg7 harg7 arg8 harg8 xt0 xt1 hc1 hc3).1
      = [⟨Rect.unit (s := S4096x128) ![0, 0] S4096x128.size inb_S4096x128_S4096x128_0_0, k0_pay2 (F := F)⟩] := rfl
/-- So the result block and the scratch read, after a block whose weights are cast anew, -/
theorem runFresh_read (hc1) (hc3) (hf) (f) :
    arg8.view.read (Elt F) (arg8.view.writes (Elt F) f (runFresh (F := F) c i arg3 harg3 arg4 harg4 arg5 harg5 arg6 harg6 arg7 harg7 arg8 harg8 arg9 harg9 arg10 harg10 x0 x1 x2 x3 x4 xt0 xt1 hc1 hc3 hf).1)
      = slabbed (expertOut x0 (k0_pay3 x1) x2 (k0_pay4 x3) x4) := by
  rw [runFresh_out]; exact read_slabStores _ _ _
/-- the first matrix, -/
theorem runFresh_read_sg (hc1) (hc3) (hf) (f) :
    arg9.view.read (Elt F) (arg9.view.writes (Elt F) f (runFresh (F := F) c i arg3 harg3 arg4 harg4 arg5 harg5 arg6 harg6 arg7 harg7 arg8 harg8 arg9 harg9 arg10 harg10 x0 x1 x2 x3 x4 xt0 xt1 hc1 hc3 hf).2.1) = k0_pay3 x1 := by
  rw [runFresh_sg]; exact View.read_writes_full _ _ _ _ _
/-- and the second; -/
theorem runFresh_read_sd (hc1) (hc3) (hf) (f) :
    arg10.view.read (Elt F) (arg10.view.writes (Elt F) f (runFresh (F := F) c i arg3 harg3 arg4 harg4 arg5 harg5 arg6 harg6 arg7 harg7 arg8 harg8 arg9 harg9 arg10 harg10 x0 x1 x2 x3 x4 xt0 xt1 hc1 hc3 hf).2.2.1) = k0_pay4 x3 := by
  rw [runFresh_sd]; exact View.read_writes_full _ _ _ _ _
/-- the result block after a block that keeps the weights, -/
theorem runKept_read (hc1) (hc3) (hf) (f) :
    arg8.view.read (Elt F) (arg8.view.writes (Elt F) f (runKept (F := F) c i arg3 harg3 arg4 harg4 arg5 harg5 arg6 harg6 arg7 harg7 arg8 harg8 arg9 harg9 arg10 harg10 x0 x2 x4 xs0 xs1 xt0 xt1 hc1 hc3 hf).1)
      = slabbed (expertOut x0 xs0 x2 xs1 x4) := by
  rw [runKept_out]; exact read_slabStores _ _ _
/-- and after one that is not used. -/
theorem runUnused_read (hc1) (hc3) (f) :
    arg8.view.read (Elt F) (arg8.view.writes (Elt F) f (runUnused (F := F) c i arg3 harg3 arg4 harg4 arg5 harg5 arg6 harg6 arg7 harg7 arg8 harg8 xt0 xt1 hc1 hc3).1)
      = k0_pay2 (F := F) := by
  rw [runUnused_out]; exact View.read_writes_full _ _ _ _ _
end

end Cert.KernelIdeal.Experts

end
-- ==== Proof.KernelIdeal.Words.lean ====
/- The words of the tables: what the body's decisions and the windows' index maps say of them, in plain numbers. -/
module

public import proofs.«01_k».proof.Proof.KernelIdeal.Kit

@[expose] public section

set_option maxRecDepth 16384

noncomputable section

namespace Cert.KernelIdeal.Experts

open Cert.KernelIdeal Cert.KernelIdeal.Gen
open Idealize.ShloMosaic Idealize.ShloMosaic.TcCoe

variable {F : FTy → Type} [FloatOps F]

/-- The table entry of block `n`. -/
def atBlock (n : ℕ) (h : n < 544) : S544.Idx := fun a => match a with | ⟨0, _⟩ => ⟨n, h⟩

/-- A grid point's coordinate is its number. -/
theorem coord_val (t : Fin grid0.N) : (grid0.coords t 0).val = t.val := by
  have ht : t.val < 544 := lt_of_lt_of_eq t.isLt N_0
  rw [Pipeline.Grid.coords_val t 0 (S := 1) (B := 544) (by decide) rfl]; omega

theorem coord_lt (i : grid0.Coords) : (i 0).val < 544 := (i 0).isLt

/-- The expert the body reads at a point is the table's entry there; -/
theorem beW_eq (T0 : S544.Idx → Elt F .i32) (i : grid0.Coords) : beW T0 i = T0 (atBlock (i 0).val (coord_lt i)) := by
  refine congrArg T0 (funext fun a => Fin.ext ?_)
  have h := coord_lt i
  match a with
  | ⟨0, _⟩ =>
    show (BitVec.ofNat 32 (i 0).val).toNat + 1 * 0 = (i 0).val
    rw [BitVec.toNat_ofNat]; omega

/-- the one before it, away from the first point, the entry before. -/
theorem prevW_eq (T0 : S544.Idx → Elt F .i32) (i : grid0.Coords) (h0 : (i 0).val ≠ 0) :
    prevW T0 i = T0 (atBlock ((i 0).val - 1) (by have := coord_lt i; omega)) := by
  refine congrArg T0 (funext fun a => Fin.ext ?_)
  have h := coord_lt i
  match a with
  | ⟨0, _⟩ =>
    show (Scalar.maxsi (Scalar.subi (BitVec.ofNat 32 (i 0).val) 1#32) 0#32).toNat + 1 * 0 = (i 0).val - 1
    have e : Scalar.subi (BitVec.ofNat 32 (i 0).val) 1#32 = BitVec.ofNat 32 ((i 0).val - 1) := by
      apply BitVec.eq_of_toNat_eq
      show (BitVec.ofNat 32 (i 0).val - 1#32).toNat = _
      rw [BitVec.toNat_sub, BitVec.toNat_ofNat, BitVec.toNat_ofNat, BitVec.toNat_ofNat]; omega
    rw [e]
    have e2 : Scalar.maxsi (BitVec.ofNat 32 ((i 0).val - 1)) 0#32 = BitVec.ofNat 32 ((i 0).val - 1) := by
      show IntOp.maxsi _ _ = _
      unfold IntOp.maxsi
      have e3 : (BitVec.ofNat 32 ((i 0).val - 1)).toInt = (((i 0).val - 1 : ℕ) : ℤ) := WordCmp.toInt_ofNat_of_lt (by omega)
      have e4 : (0#32 : BitVec 32).toInt = 0 := rfl
      by_cases hp : (i 0).val - 1 = 0
      · rw [hp]; decide
      · have e5 : BitVec.slt 0#32 (BitVec.ofNat 32 ((i 0).val - 1)) = true := by
          simp only [BitVec.slt, e3, e4, decide_eq_true_eq]; omega
        rw [if_pos e5]
    rw [e2, BitVec.toNat_ofNat]; omega

/-- Used: the block's number is below the table's number of used blocks (read as a signed word). -/
theorem used_iff (i : grid0.Coords) (T1 : S1.Idx → Elt F .i32) : Used i T1 ↔ ((i 0).val : ℤ) < (nuW T1).toInt := by
  have h := coord_lt i
  have e : (BitVec.ofNat 32 (i 0).val).toInt = ((i 0).val : ℤ) := WordCmp.toInt_ofNat_of_lt (by omega)
  unfold Used k0_cond1
  show IntOp.cmpi .ne (Scalar.extui (IntOp.cmpi .slt (BitVec.ofNat 32 (i 0).val) (nuW T1))) 0#32 = 1#1 ↔ _
  rw [WordCmp.cmpi_slt_eq, e]
  by_cases hlt : ((i 0).val : ℤ) < (nuW T1).toInt
  · simp only [hlt, decide_true, iff_true]; decide
  · simp only [hlt, decide_false, iff_false]; decide

/-- Not used: the body's two conditions are complementary. -/
theorem unused_iff (i : grid0.Coords) (T1 : S1.Idx → Elt F .i32) : Unused i T1 ↔ ¬ Used i T1 := by
  rw [used_iff]
  have h := coord_lt i
  have e : (BitVec.ofNat 32 (i 0).val).toInt = ((i 0).val : ℤ) := WordCmp.toInt_ofNat_of_lt (by omega)
  unfold Unused k0_cond3
  show IntOp.cmpi .ne (Scalar.extui (IntOp.cmpi .sge (BitVec.ofNat 32 (i 0).val) (nuW T1))) 0#32 = 1#1 ↔ _
  rw [WordCmp.cmpi_sge_eq, e]
  by_cases hlt : ((i 0).val : ℤ) < (nuW T1).toInt
  · have : ¬ ((nuW T1).toInt ≤ ((i 0).val : ℤ)) := by omega
    simp only [hlt, this, decide_false, not_true, iff_false]; decide
  · have : ((nuW T1).toInt ≤ ((i 0).val : ℤ)) := by omega
    simp only [hlt, this, decide_true, not_false_iff, iff_true]; decide

/-- The weights are kept only away from the first point, where the block before has the same expert. -/
theorem kept (i : grid0.Coords) (T0 : S544.Idx → Elt F .i32) (hf : ¬ Fresh i T0) :
    ∃ h0 : (i 0).val ≠ 0, T0 (atBlock (i 0).val (coord_lt i)) = T0 (atBlock ((i 0).val - 1) (by have := coord_lt i; omega)) := by
  have h := coord_lt i
  by_cases h0 : (i 0).val = 0
  · refine absurd ?_ hf
    unfold Fresh
    have e : Scalar.cmpi .eq (BitVec.ofNat 32 (i 0).val) 0#32 = 1#1 := by rw [h0]; decide
    rw [e]
    have : ∀ b : BitVec 1, Scalar.cmpi .ne (Scalar.extui (Scalar.ori 1#1 b)) 0#32 = 1#1 := by decide
    exact this _
  · refine ⟨h0, ?_⟩
    by_contra hne
    refine hf ?_
    unfold Fresh
    have e : Scalar.cmpi .ne (beW T0 i) (prevW T0 i) = 1#1 := by
      show IntOp.cmpi .ne _ _ = _
      rw [WordCmp.cmpi_ne_eq, beW_eq, prevW_eq T0 i h0]
      simpa only [ne_eq, WordCmp.ofBool_decide_eq_one_iff] using hne
    rw [e]
    have : ∀ b : BitVec 1, Scalar.cmpi .ne (Scalar.extui (Scalar.ori b 1#1)) 0#32 = 1#1 := by decide
    exact this _

/-! ## The index maps -/

/-- The four windows over the experts' arrays stage the block's expert. -/
theorem map_eq (pf : pre0.Contents (Elt F)) (i : grid0.Coords) :
    cc0_transform_1 k0_off1_inb numel1_S1 pf i = ![(pf 0 (atBlock (i 0).val (coord_lt i)) : BitVec 32).toNat, 0, 0]
    ∧ cc0_transform_2 k0_off1_inb numel1_S1 pf i = ![(pf 0 (atBlock (i 0).val (coord_lt i)) : BitVec 32).toNat, 0, 0]
    ∧ cc0_transform_3 k0_off1_inb numel1_S1 pf i = ![(pf 0 (atBlock (i 0).val (coord_lt i)) : BitVec 32).toNat, 0, 0]
    ∧ cc0_transform_4 k0_off1_inb numel1_S1 pf i = ![(pf 0 (atBlock (i 0).val (coord_lt i)) : BitVec 32).toNat, 0, 0] := by
  have e : Scalar.addi 0#32 (pf.at 0 (Rect.unit (s := S544) ![(Scalar.indexCast (BitVec.ofNat 32 (i 0).val)).toNat] S1.size (k0_off1_inb i)) numel1_S1)
      = pf 0 (atBlock (i 0).val (coord_lt i)) := by
    refine (BitVec.zero_add _).trans (congrArg (pf 0) (funext fun a => Fin.ext ?_))
    have h := coord_lt i
    match a with
    | ⟨0, _⟩ =>
      show (BitVec.ofNat 32 (i 0).val).toNat + 1 * 0 = (i 0).val
      rw [BitVec.toNat_ofNat]; omega
  refine ⟨?_, ?_, ?_, ?_⟩
  · unfold cc0_transform_1; dsimp only; rw [e]; rfl
  · unfold cc0_transform_2; dsimp only; rw [e]; rfl
  · unfold cc0_transform_3; dsimp only; rw [e]; rfl
  · unfold cc0_transform_4; dsimp only; rw [e]; rfl

/-- Where every entry of the block → expert table is below 64, every staged block lies inside its array. -/
theorem ok_of_lt (pf : pre0.Contents (Elt F)) (h : ∀ n hn, (pf 0 (atBlock n hn) : BitVec 32).toNat < 64) : ok0 pf := by
  have key : ∀ (i : grid0.Coords) (p q P Q : ℕ), p ≤ P → q ≤ Q → ∀ a : Fin 3,
      ((![(pf 0 (atBlock (i 0).val (coord_lt i)) : BitVec 32).toNat, 0, 0] : Fin 3 → ℕ) a + 1) * (![1, p, q] : Fin 3 → ℕ) a ≤ (![64, P, Q] : Fin 3 → ℕ) a := by
    intro i p q P Q hp hq a
    have hw := h (i 0).val (coord_lt i)
    match a with
    | ⟨0, _⟩ => show ((pf 0 (atBlock (i 0).val (coord_lt i)) : BitVec 32).toNat + 1) * 1 ≤ 64; omega
    | ⟨1, _⟩ => show (0 + 1) * p ≤ P; omega
    | ⟨2, _⟩ => show (0 + 1) * q ≤ Q; omega
  refine ⟨fun i => ?_, fun i => ?_, fun i => ?_, fun i => ?_⟩
  · exact ⟨by rw [(map_eq pf i).1]; exact key i 1024 2048 1024 2048 le_rfl le_rfl, .inl rfl⟩
  · exact ⟨by rw [(map_eq pf i).2.1]; exact key i 1 2048 1 2048 le_rfl le_rfl, .inl rfl⟩
  · exact ⟨by rw [(map_eq pf i).2.2.1]; exact key i 1024 1024 1024 1024 le_rfl le_rfl, .inl rfl⟩
  · exact ⟨by rw [(map_eq pf i).2.2.2]; exact key i 1 1024 1 1024 le_rfl le_rfl, .inl rfl⟩

/-- And conversely. -/
theorem lt_of_ok (pf : pre0.Contents (Elt F)) (h : ok0 pf) (i : grid0.Coords) : (pf 0 (atBlock (i 0).val (coord_lt i)) : BitVec 32).toNat < 64 := by
  obtain ⟨h1, _⟩ := h.1 i
  have := h1 0
  rw [(map_eq pf i).1] at this
  have h2 : ((pf 0 (atBlock (i 0).val (coord_lt i)) : BitVec 32).toNat + 1) * 1 ≤ 64 := this
  omega

end Cert.KernelIdeal.Experts

end
-- ==== Proof.KernelIdeal.Blocks.lean ====
/- The blocks the windows stage at a point, read off the arguments. -/
module

public import proofs.«01_k».proof.Proof.KernelIdeal.Words

@[expose] public section

set_option maxRecDepth 16384

noncomputable section

namespace Cert.KernelIdeal.Experts

open Cert.KernelIdeal Cert.KernelIdeal.Gen
open Idealize.ShloMosaic Idealize.ShloMosaic.TcCoe

variable {F : FTy → Type} [FloatOps F]
variable (m : (ℓ : Loc nD τ sig) → Buf (Elt F) ℓ)

theorem pt_lt (hO : Ok m) (t : Fin (cfgM m hO).N) : t.val < 544 := lt_of_lt_of_eq t.isLt (show (cfgM m hO).N = 544 from N_0)

/-- The expert of block `n`, read off the launch memory. -/
def expert (n : ℕ) (h : n < 544) : BitVec 32 := tbl m 0 (atBlock n h)

theorem map_at (pf : pre0.Contents (Elt F)) (t : Fin grid0.N) (ht : t.val < 544) : atBlock (grid0.coords t 0).val (coord_lt _) = atBlock t.val ht := by
  funext a
  match a with
  | ⟨0, _⟩ => exact Fin.ext (coord_val t)

/-- Window 0 stages rows `4096 t … 4096 t + 4095` of the dispatched rows. -/
theorem iblk_rows (hO : Ok m) (c : Dev nD) (t : Fin (cfgM m hO).N) (j : S4096x128.Idx) (k : S2228224x128.Idx)
    (h0 : (k 0).val = t.val * 4096 + (j 0).val) (h1 : (k 1).val = (j 1).val) :
    iblk m hO c 0 t j = V m c main_arg2 k := by
  unfold iblk
  refine (View.read_apply _ _).trans ((cast_eq _ _).trans (congrArg (V m c main_arg2) (funext fun a => Fin.ext ?_)))
  have ht := pt_lt m hO t
  match a with
  | ⟨0, _⟩ =>
    refine Eq.trans ?_ h0.symm
    show (BitVec.ofNat 32 (grid0.coords t 0).val).toNat * 4096 + 1 * (j 0).val = _
    rw [BitVec.toNat_ofNat, coord_val]; omega
  | ⟨1, _⟩ =>
    refine Eq.trans ?_ h1.symm
    show 0 * 128 + 1 * (j 1).val = _
    omega

/-- Windows 1 to 4 stage the weights and biases of the block's expert. -/
theorem iblk_wgu (hO : Ok m) (c : Dev nD) (t : Fin (cfgM m hO).N) (j : S1x1024x2048.Idx) (k : S64x1024x2048.Idx)
    (h0 : (k 0).val = (expert m t.val (pt_lt m hO t)).toNat) (h1 : (k 1).val = (j 1).val) (h2 : (k 2).val = (j 2).val) :
    iblk m hO c 1 t j = V m c main_arg3 k := by
  unfold iblk
  refine (View.read_apply _ _).trans ((cast_eq _ _).trans (congrArg (V m c main_arg3) (funext fun a => Fin.ext ?_)))
  have hj : (j 0).val < 1 := (j 0).isLt
  have e : cc0_transform_1 k0_off1_inb numel1_S1 (tbl m) (grid0.coords t) = ![(expert m t.val (pt_lt m hO t)).toNat, 0, 0] := by
    rw [(map_eq (tbl m) (grid0.coords t)).1, map_at (tbl m) t (pt_lt m hO t)]; rfl
  match a with
  | ⟨0, _⟩ =>
    refine Eq.trans ?_ h0.symm
    show cc0_transform_1 k0_off1_inb numel1_S1 (tbl m) (grid0.coords t) 0 * 1 + 1 * (j 0).val = _
    rw [e]; show (expert m t.val (pt_lt m hO t)).toNat * 1 + 1 * (j 0).val = _; omega
  | ⟨1, _⟩ =>
    refine Eq.trans ?_ h1.symm
    show 0 * 1024 + 1 * (j 1).val = _; omega
  | ⟨2, _⟩ =>
    refine Eq.trans ?_ h2.symm
    show 0 * 2048 + 1 * (j 2).val = _; omega

theorem iblk_bgu (hO : Ok m) (c : Dev nD) (t : Fin (cfgM m hO).N) (j : S1x1x2048.Idx) (k : S64x1x2048.Idx)
    (h0 : (k 0).val = (expert m t.val (pt_lt m hO t)).toNat) (h2 : (k 2).val = (j 2).val) :
    iblk m hO c 2 t j = V m c main_arg4 k := by
  unfold iblk
  refine (View.read_apply _ _).trans ((cast_eq _ _).trans (congrArg (V m c main_arg4) (funext fun a => Fin.ext ?_)))
  have hj : (j 0).val < 1 := (j 0).isLt
  have hj1 : (j 1).val < 1 := (j 1).isLt
  have hk1 : (k 1).val < 1 := (k 1).isLt
  have e : cc0_transform_2 k0_off1_inb numel1_S1 (tbl m) (grid0.coords t) = ![(expert m t.val (pt_lt m hO t)).toNat, 0, 0] := by
    rw [(map_eq (tbl m) (grid0.coords t)).2.1, map_at (tbl m) t (pt_lt m hO t)]; rfl
  match a with
  | ⟨0, _⟩ =>
    refine Eq.trans ?_ h0.symm
    show cc0_transform_2 k0_off1_inb numel1_S1 (tbl m) (grid0.coords t) 0 * 1 + 1 * (j 0).val = _
    rw [e]; show (expert m t.val (pt_lt m hO t)).toNat * 1 + 1 * (j 0).val = _; omega
  | ⟨1, _⟩ =>
    show 0 * 1 + 1 * (j 1).val = (k 1).val; omega
  | ⟨2, _⟩ =>
    refine Eq.trans ?_ h2.symm
    show 0 * 2048 + 1 * (j 2).val = _; omega

theorem iblk_wd (hO : Ok m) (c : Dev nD) (t : Fin (cfgM m hO).N) (j : S1x1024x1024.Idx) (k : S64x1024x1024.Idx)
    (h0 : (k 0).val = (expert m t.val (pt_lt m hO t)).toNat) (h1 : (k 1).val = (j 1).val) (h2 : (k 2).val = (j 2).val) :
    iblk m hO c 3 t j = V m c main_arg5 k := by
  unfold iblk
  refine (View.read_apply _ _).trans ((cast_eq _ _).trans (congrArg (V m c main_arg5) (funext fun a => Fin.ext ?_)))
  have hj : (j 0).val < 1 := (j 0).isLt
  have e : cc0_transform_3 k0_off1_inb numel1_S1 (tbl m) (grid0.coords t) = ![(expert m t.val (pt_lt m hO t)).toNat, 0, 0] := by
    rw [(map_eq (tbl m) (grid0.coords t)).2.2.1, map_at (tbl m) t (pt_lt m hO t)]; rfl
  match a with
  | ⟨0, _⟩ =>
    refine Eq.trans ?_ h0.symm
    show cc0_transform_3 k0_off1_inb numel1_S1 (tbl m) (grid0.coords t) 0 * 1 + 1 * (j 0).val = _
    rw [e]; show (expert m t.val (pt_lt m hO t)).toNat * 1 + 1 * (j 0).val = _; omega
  | ⟨1, _⟩ =>
    refine Eq.trans ?_ h1.symm
    show 0 * 1024 + 1 * (j 1).val = _; omega
  | ⟨2, _⟩ =>
    refine Eq.trans ?_ h2.symm
    show 0 * 1024 + 1 * (j 2).val = _; omega

theorem iblk_bd (hO : Ok m) (c : Dev nD) (t : Fin (cfgM m hO).N) (j : S1x1x1024.Idx) (k : S64x1x1024.Idx)
    (h0 : (k 0).val = (expert m t.val (pt_lt m hO t)).toNat) (h2 : (k 2).val = (j 2).val) :
    iblk m hO c 4 t j = V m c main_arg6 k := by
  unfold iblk
  refine (View.read_apply _ _).trans ((cast_eq _ _).trans (congrArg (V m c main_arg6) (funext fun a => Fin.ext ?_)))
  have hj : (j 0).val < 1 := (j 0).isLt
  have hj1 : (j 1).val < 1 := (j 1).isLt
  have hk1 : (k 1).val < 1 := (k 1).isLt
  have e : cc0_transform_4 k0_off1_inb numel1_S1 (tbl m) (grid0.coords t) = ![(expert m t.val (pt_lt m hO t)).toNat, 0, 0] := by
    rw [(map_eq (tbl m) (grid0.coords t)).2.2.2, map_at (tbl m) t (pt_lt m hO t)]; rfl
  match a with
  | ⟨0, _⟩ =>
    refine Eq.trans ?_ h0.symm
    show cc0_transform_4 k0_off1_inb numel1_S1 (tbl m) (grid0.coords t) 0 * 1 + 1 * (j 0).val = _
    rw [e]; show (expert m t.val (pt_lt m hO t)).toNat * 1 + 1 * (j 0).val = _; omega
  | ⟨1, _⟩ =>
    show 0 * 1 + 1 * (j 1).val = (k 1).val; omega
  | ⟨2, _⟩ =>
    refine Eq.trans ?_ h2.symm
    show 0 * 1024 + 1 * (j 2).val = _; omega

theorem expert_lt (hO : Ok m) (n : ℕ) (h : n < 544) : (expert m n h).toNat < 64 := by
  have := lt_of_ok (tbl m) hO (grid0.coords ⟨n, lt_of_lt_of_eq h N_0.symm⟩)
  rw [map_at (tbl m) _ h] at this
  exact this

/-- Two points with the same expert stage the same weights. -/
theorem iblk_same (hO : Ok m) (c : Dev nD) (t s : Fin (cfgM m hO).N)
    (h : expert m t.val (pt_lt m hO t) = expert m s.val (pt_lt m hO s)) :
    (iblk m hO c 1 t : S1x1024x2048.Idx → Elt F .f32) = iblk m hO c 1 s ∧ (iblk m hO c 3 t : S1x1024x1024.Idx → Elt F .f32) = iblk m hO c 3 s := by
  have hl := expert_lt m hO t.val (pt_lt m hO t)
  constructor
  · funext (j : S1x1024x2048.Idx)
    let k : S64x1024x2048.Idx := fun a => match a with | ⟨0, _⟩ => ⟨_, hl⟩ | ⟨1, _⟩ => j 1 | ⟨2, _⟩ => j 2
    exact (iblk_wgu m hO c t j k rfl rfl rfl).trans (iblk_wgu m hO c s j k (congrArg BitVec.toNat h) rfl rfl).symm
  · funext (j : S1x1024x1024.Idx)
    let k : S64x1024x1024.Idx := fun a => match a with | ⟨0, _⟩ => ⟨_, hl⟩ | ⟨1, _⟩ => j 1 | ⟨2, _⟩ => j 2
    exact (iblk_wd m hO c t j k rfl rfl rfl).trans (iblk_wd m hO c s j k (congrArg BitVec.toNat h) rfl rfl).symm

end Cert.KernelIdeal.Experts

end
-- ==== Proof.KernelIdeal.Body.lean ====
/- The body obligation of the experts' pipeline: what every point leaves in the result's block, and the invariant the
   scratch buffers keep from point to point (after a used block they hold that block's expert's weights, cast). -/
module

public import proofs.«01_k».proof.Proof.KernelIdeal.Outs
public import proofs.«01_k».proof.Proof.KernelIdeal.Blocks

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves in the result's block: the expert's result of its rows where the block is used, zeros elsewhere. -/
def outBlk (hO : Ok m) (c : Dev nD) (t : Fin (cfgM m hO).N) : Vec F S4096x128 .f32 :=
  if Used (grid0.coords t) (tbl m 1) then
    slabbed (expertOut (iblk m hO c 0 t) (k0_pay3 (iblk m hO c 1 t)) (iblk m hO c 2 t) (k0_pay4 (iblk m hO c 3 t)) (iblk m hO c 4 t))
  else k0_pay2

/-- What the scratch buffers hold before point `n`: if the point before was used, its expert's weights, cast. -/
def Carried (hO : Ok m) (c : Dev nD) (n : ℕ) (s0 : Vec F S1024x2048 .bf16) (s1 : Vec F S1024x1024 .bf16) : Prop :=
  ∀ t : Fin (cfgM m hO).N, t.val + 1 = n → Used (grid0.coords t) (tbl m 1) →
    s0 = k0_pay3 (iblk m hO c 1 t) ∧ s1 = k0_pay4 (iblk m hO c 3 t)

/-- The invariant before point `n`: the scratch buffers so, the generator register at something, the tables. -/
def inv (hO : Ok m) (c : Dev nD) (n : ℕ) : sProp 𝕄 :=
  iprop(iprop((∃ s0, ∃ s1, ⌜Carried m hO c n s0 s1⌝ ∗ (owns (c : Thread nD τ) sgM fullShare s0 ∗ owns (c : Thread nD τ) sdM fullShare s1)) ∗ (∃ r, prngReg c r))
    ∗ Pipeline.ΦT pre0 (tbl m) c)

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outBlk m hO c t := by dsimp only [dats]; try rfl

theorem before_0 (hO : Ok m) (c : Dev nD) (t : Fin (cfgM m hO).N) (d) : (dats m hO 0 c).before 0 t d = iblk m hO c 0 t :=
  before_rows hO (dats m hO 0 c) (A_eq m hO c 0) (after_0 m hO c) t d
theorem before_1 (hO : Ok m) (c : Dev nD) (t : Fin (cfgM m hO).N) (d) : (dats m hO 0 c).before 1 t d = iblk m hO c 1 t :=
  before_wgu hO (dats m hO 0 c) (A_eq m hO c 1) (after_1 m hO c) t d
theorem before_2 (hO : Ok m) (c : Dev nD) (t : Fin (cfgM m hO).N) (d) : (dats m hO 0 c).before 2 t d = iblk m hO c 2 t :=
  before_bgu hO (dats m hO 0 c) (A_eq m hO c 2) (after_2 m hO c) t d
theorem before_3 (hO : Ok m) (c : Dev nD) (t : Fin (cfgM m hO).N) (d) : (dats m hO 0 c).before 3 t d = iblk m hO c 3 t :=
  before_wd hO (dats m hO 0 c) (A_eq m hO c 3) (after_3 m hO c) t d
theorem before_4 (hO : Ok m) (c : Dev nD) (t : Fin (cfgM m hO).N) (d) : (dats m hO 0 c).before 4 t d = iblk m hO c 4 t :=
  before_bd hO (dats m hO 0 c) (A_eq m hO c 4) (after_4 m hO c) t d

/-- A used point leaves the scratch as the invariant after it wants. -/
theorem carried_fresh (hO : Ok m) (c : Dev nD) (t : Fin (cfgM m hO).N) :
    Carried m hO c (t.val + 1) (k0_pay3 (iblk m hO c 1 t)) (k0_pay4 (iblk m hO c 3 t)) := fun s hs _ => by
  have : s = t := Fin.ext (by omega)
  subst this; exact ⟨rfl, rfl⟩

/-- A point that is not used asks nothing of the scratch. -/
theorem carried_unused (hO : Ok m) (c : Dev nD) (t : Fin (cfgM m hO).N) (h : ¬ Used (grid0.coords t) (tbl m 1)) (s0 s1) :
    Carried m hO c (t.val + 1) s0 s1 := fun s hs hu => by
  have : s = t := Fin.ext (by omega)
  subst this; exact absurd hu h

/-- A used point that keeps the weights finds its own expert's in the scratch. -/
theorem carried_kept (hO : Ok m) (c : Dev nD) (t : Fin (cfgM m hO).N) (hu : Used (grid0.coords t) (tbl m 1)) (hf : ¬ Fresh (grid0.coords t) (tbl m 0))
    (s0 s1) (h : Carried m hO c t.val s0 s1) : s0 = k0_pay3 (iblk m hO c 1 t) ∧ s1 = k0_pay4 (iblk m hO c 3 t) := by
  obtain ⟨h0, he⟩ := kept (grid0.coords t) (tbl m 0) hf
  have ht := pt_lt m hO t
  have hv : (grid0.coords t 0).val = t.val := coord_val t
  rw [hv] at h0
  let s : Fin (cfgM m hO).N := ⟨t.val - 1, by have := t.isLt; omega⟩
  have hsv : (grid0.coords s 0).val = t.val - 1 := coord_val s
  have hus : Used (grid0.coords s) (tbl m 1) := by
    have h1 := (used_iff _ _).mp hu
    rw [hv] at h1
    refine (used_iff _ _).mpr ?_
    rw [hsv]; omega
  obtain ⟨e0, e1⟩ := h s (show t.val - 1 + 1 = t.val by omega) hus
  have hx : expert m t.val (pt_lt m hO t) = expert m s.val (pt_lt m hO s) := by
    unfold expert
    have a1 : atBlock (grid0.coords t 0).val (coord_lt _) = atBlock t.val ht := map_at (tbl m) t ht
    have a2 : atBlock ((grid0.coords t 0).val - 1) (by have := coord_lt (grid0.coords t); omega) = atBlock s.val (pt_lt m hO s) := by
      funext a
      match a with
      | ⟨0, _⟩ => exact Fin.ext (show (grid0.coords t 0).val - 1 = t.val - 1 by rw [hv])
    rw [a1, a2] at he; exact he
  obtain ⟨b1, b3⟩ := iblk_same m hO c t s hx
  rw [b1, b3]; exact ⟨e0, e1⟩

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 6400000 in
/-- The body at any point, by its three roads. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    after_0, after_1, after_2, after_3, after_4, after_5]
  rw [show (dats m hO 0 c).Φ t.succ = inv m hO c (t.val + 1) from rfl, show (dats m hO 0 c).Φ t.castSucc = inv m hO c t.val from rfl]
  unfold inv
  rw [tables_eq]
  by_cases hu : Used (grid0.coords t) (tbl m 1)
  · have hn : ¬ Unused (grid0.coords t) (tbl m 1) := fun h => (unused_iff _ _).mp h hu
    rw [show outBlk m hO c t = _ from if_pos hu]
    by_cases hf : Fresh (grid0.coords t) (tbl m 0)
    · iintro ⟨⟨⟨⟨%s0, %s1, -, ⟨HS0, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
      iapply ((runFresh c (grid0.coords t) _ _ _ _ _ _ _ _ _ _ _ _ _ _ _ _ (iblk m hO c 0 t) (iblk m hO c 1 t) (iblk m hO c 2 t) (iblk m hO c 3 t) (iblk m hO c 4 t) (tbl m 0) (tbl m 1) hu hn hf).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HT0]; · iexact HT0
      isplitl [HT1]; · iexact HT1
      iintro ⟨H0, H1, H2, H3, H4, ⟨%e5, H5⟩, ⟨%es0, HS0⟩, ⟨%es1, HS1⟩, HT0, HT1⟩
      isplitl [HS0 HS1 Hg HT0 HT1]
      · isplitl [HS0 HS1 Hg]
        · isplitl [HS0 HS1]
          · iexists k0_pay3 (iblk m hO c 1 t); iexists k0_pay4 (iblk m hO c 3 t)
            isplitr; · ipureintro; exact carried_fresh m hO c t
            isplitl [HS0]
            · unfold owns; iexists _; isplitr
              swap; · iexact HS0
              ipureintro; apply runFresh_read_sg
            unfold owns; iexists _; isplitr
            swap; · iexact HS1
            ipureintro; apply runFresh_read_sd
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; apply runFresh_read
    · iintro ⟨⟨⟨⟨%s0, %s1, %hs, ⟨HS0, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
      obtain ⟨rfl, rfl⟩ := carried_kept m hO c t hu hf s0 s1 hs
      iapply ((runKept c (grid0.coords t) _ _ _ (hs1 m hO t) _ _ _ (hs3 m hO t) _ _ _ _ _ _ _ _ (iblk m hO c 0 t) (iblk m hO c 2 t) (iblk m hO c 4 t) _ _ (tbl m 0) (tbl m 1) hu hn hf).2 Set.univ _)
      isplitl [H0]; · iexact H0
      isplitl [H2]; · iexact H2
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H2, H4, ⟨%e5, H5⟩, HS0, HS1, HT0, HT1⟩
      isplitl [HS0 HS1 Hg HT0 HT1]
      · isplitl [HS0 HS1 Hg]
        · isplitl [HS0 HS1]
          · iexists k0_pay3 (iblk m hO c 1 t); iexists k0_pay4 (iblk m hO c 3 t)
            isplitr; · ipureintro; exact carried_fresh m hO c t
            isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; apply runKept_read
  · have hn : Unused (grid0.coords t) (tbl m 1) := (unused_iff _ _).mpr hu
    rw [show outBlk m hO c t = _ from if_neg hu]
    iintro ⟨⟨⟨⟨%s0, %s1, -, ⟨HS0, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
    iapply ((runUnused c (grid0.coords t) (ms0 m hO t) (hs0 m hO t) (ms1 m hO t) (hs1 m hO t) (ms2 m hO t) (hs2 m hO t) (ms3 m hO t) (hs3 m hO t) (ms4 m hO t) (hs4 m hO t) _ _ (tbl m 0) (tbl m 1) hu hn).2 Set.univ _)
    isplitl [H5]; · iexists _; iexact H5
    isplitl [HT0]; · iexact HT0
    isplitl [HT1]; · iexact HT1
    iintro ⟨⟨%e5, H5⟩, HT0, HT1⟩
    isplitl [HS0 HS1 Hg HT0 HT1]
    · isplitl [HS0 HS1 Hg]
      · isplitl [HS0 HS1]
        · iexists s0; iexists s1
          isplitr; · ipureintro; exact carried_unused m hO c t hu s0 s1
          isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; apply runUnused_read

/-- The body table's row at point `t`'s slots is the body so spelt. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  have hfl : ((cfgM m hO).win (5 : Fin 6)).flush t = true := flush_out (adm m hO) t
  refine triple_restated (sound_body m hO c t) rfl .rfl fun _ => ?_
  unfold bodyPost
  generalize (cfgM m hO).idle (5 : Fin 6) ((cfgM m hO).grid.coords t) = b
  generalize ((cfgM m hO).win (5 : Fin 6)).flush t = f at hfl
  subst hfl
  cases b
  · exact .rfl
  · exact .rfl

/-- What the launch hands the region is the invariant before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, scratch_eq]
  unfold inv
  iintro ⟨⟨⟨⟨%s0, HS0⟩, ⟨%s1, HS1⟩⟩, Hg⟩, HT⟩
  isplitl [HS0 HS1 Hg]
  · isplitl [HS0 HS1]
    · iexists s0; iexists s1
      isplitr
      · ipureintro; intro s hs; exact absurd hs (Nat.succ_ne_zero _)
      isplitl [HS0]; · iexact HS0
      iexact HS1
    iexact Hg
  iexact HT

/-- and the invariant after the last point gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = inv m hO c (Fin.last (cfgM m hO).N).val from rfl, scratch_eq]
  unfold inv
  iintro ⟨⟨⟨%s0, %s1, -, ⟨HS0, HS1⟩⟩, Hg⟩, -⟩
  isplitl [HS0 HS1]
  · isplitl [HS0]
    · iexists _; iexact HS0
    iexists _; iexact HS1
  iexact Hg

/-! ## The run and the frame -/

set_option backward.isDefEq.respectTransparency.types false in
/-- Every execution ends, every array of the pipeline as the proof data say, every other buffer as found, the counters at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame: every execution ends with the arguments unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4))⟩, h.2⟩) (run_main m ρ hO)

end Cert.KernelIdeal.Experts

end
-- ==== Proof.Value.Range.lean ====
/- The precondition read back: every entry of the block → expert table is one of the 32 experts. -/
module

public import proofs.«01_k».proof.Pre_experts_in_range
public import Idealize.ShloMosaic.Lib.ReduceAll

@[expose] public section

set_option maxRecDepth 16384

noncomputable section

namespace Cert.Experts

open Cert.Pre_experts_in_range
open Idealize.ShloMosaic

/-- The side conditions of the precondition's operations. -/
instance rangeFacts : Cert.Pre_experts_in_range.Facts where
  bcast_S_S544 := by decide
  reducesTo_S544_S_d0 := by decide
  h_S_ := by decide

variable {F : FTy → Type} [FloatOps F]

/-- Where the precondition holds, every entry of the table is below 32. -/
theorem lt_of_range (a0 : S544.Idx → BitVec 32) (a1 a2 a3 a4 a5 a6)
    (h : Cert.Pre_experts_in_range.fn (F := F) a0 a1 a2 a3 a4 a5 a6 = fun _ => 1#1) (i : S544.Idx) : (a0 i).toNat < 32 := by
  have e : Host.reduce IntOp.andi _ _ _ _ (fun a => a.elim0) = 1#1 := congrFun h (fun a => a.elim0)
  have : Subsingleton S_.Idx := ⟨fun a b => funext fun k => k.elim0⟩
  have e1 := Host.reduce_andi_all _ _ _ _ _ e i
  have e2 : IntOp.andi (IntOp.cmpi .sge (a0 i) 0#32) (IntOp.cmpi .slt (a0 i) 32#32) = 1#1 := e1
  rw [IntOp.andi_eq_one, IntOp.cmpi_sge, IntOp.cmpi_slt] at e2
  obtain ⟨p, q⟩ := e2
  have : (0#32 : BitVec 32).toInt = 0 := rfl
  have : (32#32 : BitVec 32).toInt = 32 := rfl
  simp only [BitVec.toInt] at *
  omega

end Cert.Experts

end
-- ==== Proof.Value.Spec.lean ====
/- The experts' feed-forward of one block of rows, over the extended reals: what both programs compute at a block. -/
module

public import Idealize.ShloMosaic.Lib.Pointwise

@[expose] public section

noncomputable section

namespace Cert.Experts

open Idealize.ShloMosaic

/-- The activation: the gate cut off above at 7, the other half clipped to [-7, 7], `(u + 1) · (g · σ(1.702 g))`. -/
def mix (g u : EReal) : EReal :=
  (min (Ideal.ofBits .f32 0x40E00000#32) (max (Ideal.ofBits .f32 0xC0E00000#32) u) + 1)
    * (min g (Ideal.ofBits .f32 0x40E00000#32)
      * Ideal.logistic (Ideal.ofBits .f32 0x3FD9DB23#32 * min g (Ideal.ofBits .f32 0x40E00000#32)))

/-- Gate and up projection of a row, before the activation. -/
def proj (x : Fin 1024 → EReal) (W : Fin 1024 → Fin 2048 → EReal) (b : Fin 2048 → EReal) (n : Fin 2048) : EReal :=
  ∑ k : Fin 1024, x k * W k n + b n

/-- An entry of an expert's output for a row. -/
def ffn (x : Fin 1024 → EReal) (W : Fin 1024 → Fin 2048 → EReal) (b : Fin 2048 → EReal) (D : Fin 1024 → Fin 1024 → EReal)
    (d : Fin 1024 → EReal) (q : Fin 1024) : EReal :=
  ∑ k : Fin 1024, mix (proj x W b ⟨k.val, by omega⟩) (proj x W b ⟨1024 + k.val, by omega⟩) * D k q + d q

/-- The whole result at row `r`, lane `l` of the slabs, from the table, the number of used blocks and the arrays. -/
def result (T : Fin 544 → BitVec 32) (u : BitVec 32) (X : Fin 2228224 → Fin 128 → EReal) (W : Fin 64 → Fin 1024 → Fin 2048 → EReal)
    (b : Fin 64 → Fin 2048 → EReal) (D : Fin 64 → Fin 1024 → Fin 1024 → EReal) (d : Fin 64 → Fin 1024 → EReal)
    (r : Fin 2228224) (l : Fin 128) : EReal :=
  if (r.val / 4096 : ℕ) < u.toInt then
    let e : Fin 64 := ⟨(T ⟨r.val / 4096, by omega⟩).toNat % 64, Nat.mod_lt _ (by decide)⟩
    ffn (fun k => X ⟨r.val / 8 * 8 + k.val / 128, by omega⟩ ⟨k.val % 128, by omega⟩) (W e) (b e) (D e) (d e) ⟨r.val % 8 * 128 + l.val, by omega⟩
  else 0

end Cert.Experts

end
-- ==== Proof.Value.KernBlock.lean ====
/- The kernel's block of results, read at an index: the output of the block's expert for the block's rows, laid out in slabs. -/
module

public import proofs.«01_k».proof.Proof.KernelIdeal.Outs
public import proofs.«01_k».proof.Proof.Value.Spec
public import Idealize.ShloMosaic.Lib.Pointwise

@[expose] public section

set_option maxRecDepth 16384

noncomputable section

namespace Cert.KernelIdeal.Experts

open Cert.KernelIdeal Cert.KernelIdeal.Gen Cert.Experts
open Idealize.ShloMosaic Idealize.ShloMosaic.TcCoe

/-- The eight slabs side by side are the block of rows. -/
theorem rows_concat {α : Type} (x0 : S4096x128.Idx → α) (f0 f1 f2 f3 f4 f5 f6 f7 : S512x128.Idx → α)
    (h0 : ∀ (p : Fin 512) (l : Fin 128), f0 (ix2 p l) = x0 (ix2 ⟨p.val * 8 + 0, by omega⟩ l))
    (h1 : ∀ (p : Fin 512) (l : Fin 128), f1 (ix2 p l) = x0 (ix2 ⟨p.val * 8 + 1, by omega⟩ l))
    (h2 : ∀ (p : Fin 512) (l : Fin 128), f2 (ix2 p l) = x0 (ix2 ⟨p.val * 8 + 2, by omega⟩ l))
    (h3 : ∀ (p : Fin 512) (l : Fin 128), f3 (ix2 p l) = x0 (ix2 ⟨p.val * 8 + 3, by omega⟩ l))
    (h4 : ∀ (p : Fin 512) (l : Fin 128), f4 (ix2 p l) = x0 (ix2 ⟨p.val * 8 + 4, by omega⟩ l))
    (h5 : ∀ (p : Fin 512) (l : Fin 128), f5 (ix2 p l) = x0 (ix2 ⟨p.val * 8 + 5, by omega⟩ l))
    (h6 : ∀ (p : Fin 512) (l : Fin 128), f6 (ix2 p l) = x0 (ix2 ⟨p.val * 8 + 6, by omega⟩ l))
    (h7 : ∀ (p : Fin 512) (l : Fin 128), f7 (ix2 p l) = x0 (ix2 ⟨p.val * 8 + 7, by omega⟩ l)) (p : Fin 512) (k : Fin 1024) :
    concatenate S512x1024 1 [⟨S512x128, f0⟩, ⟨S512x128, f1⟩, ⟨S512x128, f2⟩, ⟨S512x128, f3⟩, ⟨S512x128, f4⟩, ⟨S512x128, f5⟩, ⟨S512x128, f6⟩, ⟨S512x128, f7⟩]
      concatenates_S512x128_S512x128_S512x128_S512x128_S512x128_S512x128_S512x128_S512x128_S512x1024_d1 (ix2 p k)
      = x0 (ix2 ⟨p.val * 8 + k.val / 128, by omega⟩ ⟨k.val % 128, by omega⟩) := by
  have key : ∀ (j : ℕ) (l : ℕ) (h1 h2), k.val = 128 * j + l → l < 128 → x0 (ix2 ⟨p.val * 8 + j, h1⟩ ⟨l, h2⟩) = x0 (ix2 ⟨p.val * 8 + k.val / 128, by omega⟩ ⟨k.val % 128, by omega⟩) := by
    intro j l h1 h2 e hl
    have a : j = k.val / 128 := by omega
    have b : l = k.val % 128 := by omega
    subst a b
    rfl
  pointwise
  by_cases c0 : k.val < 128
  · rw [dif_pos c0]; exact (h0 _ _).trans (key 0 _ _ _ (by omega) (by omega))
  rw [dif_neg c0]
  by_cases c1 : k.val - 128 < 128
  · rw [dif_pos c1]; exact (h1 _ _).trans (key 1 _ _ _ (by omega) (by omega))
  rw [dif_neg c1]
  by_cases c2 : k.val - 128 - 128 < 128
  · rw [dif_pos c2]; exact (h2 _ _).trans (key 2 _ _ _ (by omega) (by omega))
  rw [dif_neg c2]
  by_cases c3 : k.val - 128 - 128 - 128 < 128
  · rw [dif_pos c3]; exact (h3 _ _).trans (key 3 _ _ _ (by omega) (by omega))
  rw [dif_neg c3]
  by_cases c4 : k.val - 128 - 128 - 128 - 128 < 128
  · rw [dif_pos c4]; exact (h4 _ _).trans (key 4 _ _ _ (by omega) (by omega))
  rw [dif_neg c4]
  by_cases c5 : k.val - 128 - 128 - 128 - 128 - 128 < 128
  · rw [dif_pos c5]; exact (h5 _ _).trans (key 5 _ _ _ (by omega) (by omega))
  rw [dif_neg c5]
  by_cases c6 : k.val - 128 - 128 - 128 - 128 - 128 - 128 < 128
  · rw [dif_pos c6]; exact (h6 _ _).trans (key 6 _ _ _ (by omega) (by omega))
  rw [dif_neg c6]
  exact (h7 _ _).trans (key 7 _ _ _ (by omega) (by omega))

/-- A slab's entry. -/
theorem pick_slab (x0 : Vec Ideal S4096x128 .f32) (j : ℕ) (hj : j < 8) (h) (p : Fin 512) (l : Fin 128) :
    pick x0 (slab ![j, 0] h).toLoadRect (ix2 p l) = x0 (ix2 ⟨p.val * 8 + j, by omega⟩ l) := by
  refine congrArg x0 (funext fun a => Fin.ext ?_)
  match a with
  | ⟨0, _⟩ => show j + 8 * p.val = p.val * 8 + j; omega
  | ⟨1, _⟩ => show 0 + 1 * l.val = l.val; omega

/-- The first layer of rows `x` at an index. -/
theorem proj_term (x : FVec Ideal S512x1024 .f32) (w : FVec Ideal S1024x2048 .bf16) (b : Vec Ideal S1x1x2048 .f32) (p : Fin 512) (c : Fin 2048) :
    addf (matmul dot_S512x1024_S1024x2048_S512x2048_1_0_0_1_n_n none (truncf .bf16 x bitsLt_bf16_f32) w (constant S512x2048 .f32 0x00000000#32))
      (broadcastTo S512x2048 (shapeCast S1x2048 b shapeCasts_S1x1x2048_S1x2048) broadcasts_S1x2048_S512x2048) (ix2 p c)
      = ∑ k : Fin 1024, x (ix2 p k) * w (ix2 k c) + b (ix3 0 0 c) := by
  pointwise

/-- The first layer at an index. -/
theorem pay5_at (x0 : Vec Ideal S4096x128 .f32) (sg : Vec Ideal S1024x2048 .bf16) (x2 : Vec Ideal S1x1x2048 .f32) (p : Fin 512) (c : Fin 2048) :
    (withSlabs x0 fun a b c d e f g h => k0_pay5 a b c d e f g h sg x2) (ix2 p c)
      = proj (fun k => x0 (ix2 ⟨p.val * 8 + k.val / 128, by omega⟩ ⟨k.val % 128, by omega⟩)) (fun k n => sg (ix2 k n)) (fun n => x2 (ix3 0 0 n)) c := by
  unfold withSlabs k0_pay5
  dsimp only
  have hc := rows_concat x0 _ _ _ _ _ _ _ _
    (pick_slab x0 0 (by decide) inb_S4096x128_S512x128_0_0_s_8_1) (pick_slab x0 1 (by decide) inb_S4096x128_S512x128_1_0_s_8_1)
    (pick_slab x0 2 (by decide) inb_S4096x128_S512x128_2_0_s_8_1) (pick_slab x0 3 (by decide) inb_S4096x128_S512x128_3_0_s_8_1)
    (pick_slab x0 4 (by decide) inb_S4096x128_S512x128_4_0_s_8_1) (pick_slab x0 5 (by decide) inb_S4096x128_S512x128_5_0_s_8_1)
    (pick_slab x0 6 (by decide) inb_S4096x128_S512x128_6_0_s_8_1) (pick_slab x0 7 (by decide) inb_S4096x128_S512x128_7_0_s_8_1) p
  refine (proj_term _ sg x2 p c).trans ?_
  unfold proj
  exact congrArg₂ (· + ·) (Finset.sum_congr rfl fun k _ => congrArg₂ (· * ·) (hc k) rfl) rfl

/-- The activation and the second layer at an index. -/
theorem ffn_term (g : FVec Ideal S512x2048 .f32) (sd : FVec Ideal S1024x1024 .bf16) (x4 : Vec Ideal S1x1x1024 .f32) (p : Fin 512) (q : Fin 1024) :
    k0_pay8 (minimumf (extractStridedSlice S512x1024 ![0, 0] g slices_S512x2048_o0_0_S512x1024) (broadcast S512x1024 (Scalar.ofBits .f32 0x40E00000#32)))
      (extractStridedSlice S512x1024 ![0, 1024] g slices_S512x2048_o0_1024_S512x1024) (Scalar.ofBits .f32 0xC0E00000#32) sd x4 (ix2 p q)
      = ∑ k : Fin 1024, mix (g (ix2 p ⟨k.val, by omega⟩)) (g (ix2 p ⟨1024 + k.val, by omega⟩)) * sd (ix2 k q) + x4 (ix3 0 0 q) := by
  unfold mix k0_pay8
  pointwise

/-- The expert's result at an index. -/
theorem expertOut_at (x0 : Vec Ideal S4096x128 .f32) (sg : Vec Ideal S1024x2048 .bf16) (x2 : Vec Ideal S1x1x2048 .f32) (sd : Vec Ideal S1024x1024 .bf16)
    (x4 : Vec Ideal S1x1x1024 .f32) (p : Fin 512) (q : Fin 1024) :
    expertOut x0 sg x2 sd x4 (ix2 p q)
      = ffn (fun k => x0 (ix2 ⟨p.val * 8 + k.val / 128, by omega⟩ ⟨k.val % 128, by omega⟩)) (fun k n => sg (ix2 k n)) (fun n => x2 (ix3 0 0 n))
          (fun k n => sd (ix2 k n)) (fun n => x4 (ix3 0 0 n)) q := by
  have hg := pay5_at x0 sg x2 p
  refine (ffn_term (withSlabs x0 fun a b c d e f g h => k0_pay5 a b c d e f g h sg x2) sd x4 p q).trans ?_
  unfold ffn
  exact congrArg₂ (· + ·) (Finset.sum_congr rfl fun k _ => congrArg₂ (· * ·) (congrArg₂ mix (hg _) (hg _)) rfl) rfl

/-- The cast first weights at an index. -/
theorem pay3_at (w : Vec Ideal S1x1024x2048 .f32) (k : Fin 1024) (n : Fin 2048) : k0_pay3 w (ix2 k n) = w (ix3 0 k n) := by
  pointwise [k0_pay3]

/-- The cast second weights at an index. -/
theorem pay4_at (w : Vec Ideal S1x1024x1024 .f32) (k : Fin 1024) (n : Fin 1024) : k0_pay4 w (ix2 k n) = w (ix3 0 k n) := by
  pointwise [k0_pay4]

end Cert.KernelIdeal.Experts
end
-- ==== Proof.Value.KernValue.lean ====
/- The kernel's result at an index: block `t` of the rows is written by grid point `t`, the blocks tile the result. -/
module

public import proofs.«01_k».proof.Proof.KernelIdeal.Body
public import proofs.«01_k».proof.Proof.Value.KernBlock
public import Idealize.ShloMosaic.Lib.Pipeline.ValueKit.Geometry

@[expose] public section

set_option maxRecDepth 16384

noncomputable section

namespace Cert.KernelIdeal.Experts

open Cert.KernelIdeal Cert.KernelIdeal.Gen Cert.Experts
open Idealize.ShloMosaic Idealize.ShloMosaic.TcCoe Idealize.ShloMosaic.Pipeline Idealize.SL.Sem

variable (m : (ℓ : Loc nD τ sig) → Buf (Elt Ideal) ℓ) (ρ : Dev nD → PrngReg)

/-- The result over the extended reals, from the launch memory. -/
def resultOf (c : Dev nD) : FVec Ideal S2228224x128 .f32 := fun i =>
  result (fun b => (m ((c.tc : Thread nD τ).loc main_arg0) : IVec S544 32) (ix1 b)) ((m ((c.tc : Thread nD τ).loc main_arg1) : IVec S1 32) (ix1 0))
    (fun r l => (m ((c.tc : Thread nD τ).loc main_arg2) : FVec Ideal S2228224x128 .f32) (ix2 r l))
    (fun e k n => (m ((c.tc : Thread nD τ).loc main_arg3) : FVec Ideal S64x1024x2048 .f32) (ix3 e k n))
    (fun e n => (m ((c.tc : Thread nD τ).loc main_arg4) : FVec Ideal S64x1x2048 .f32) (ix3 e 0 n))
    (fun e k n => (m ((c.tc : Thread nD τ).loc main_arg5) : FVec Ideal S64x1024x1024 .f32) (ix3 e k n))
    (fun e n => (m ((c.tc : Thread nD τ).loc main_arg6) : FVec Ideal S64x1x1024 .f32) (ix3 e 0 n)) (i 0) (i 1)

/-- The tables are the first two arguments. -/
theorem expert_eq (c : Dev nD) (n : ℕ) (h : n < 544) : expert m n h = (m ((c.tc : Thread nD τ).loc main_arg0) : IVec S544 32) (ix1 ⟨n, h⟩) := by
  obtain rfl : c = 0 := Subsingleton.elim _ _
  unfold expert
  refine congrArg (tbl m 0) (funext fun a => ?_)
  match a with
  | ⟨0, _⟩ => rfl
theorem used_eq (c : Dev nD) : nuW (tbl m 1) = (m ((c.tc : Thread nD τ).loc main_arg1) : IVec S1 32) (ix1 0) := by
  obtain rfl : c = 0 := Subsingleton.elim _ _
  refine congrArg (tbl m 1) (funext fun a => Fin.ext ?_)
  match a with
  | ⟨0, _⟩ => rfl

/-- What point `t` leaves at row `r`, lane `l` of its block. -/
theorem block_at (hO : Ok m) (c : Dev nD) (t : Fin (cfgM m hO).N) (ht : t.val < 544) (r : Fin 4096) (l : Fin 128) :
    outBlk m hO c t (ix2 r l) = resultOf m c (ix2 ⟨t.val * 4096 + r.val, by omega⟩ l) := by
  unfold outBlk resultOf result
  have ei : ((ix2 (⟨t.val * 4096 + r.val, by omega⟩ : Fin 2228224) l : S2228224x128.Idx) 0) = (⟨t.val * 4096 + r.val, by omega⟩ : Fin 2228224) := rfl
  have hq : (t.val * 4096 + r.val) / 4096 = t.val := by omega
  have hu : Used (grid0.coords t) (tbl m 1) ↔ (((t.val * 4096 + r.val) / 4096 : ℕ) : ℤ) < ((m ((c.tc : Thread nD τ).loc main_arg1) : IVec S1 32) (ix1 0)).toInt := by
    refine (used_iff _ _).trans ?_
    rw [used_eq m c, hq, coord_val]
  by_cases h : Used (grid0.coords t) (tbl m 1)
  · refine (congrFun (if_pos h) _).trans (Eq.trans ?_ (if_pos (hu.mp h)).symm)
    have hs : slabSrc (ix2 r l) = ix2 ⟨r.val / 8, by omega⟩ ⟨r.val % 8 * 128 + l.val, by omega⟩ := by
      funext a
      match a with
      | ⟨0, _⟩ => rfl
      | ⟨1, _⟩ => rfl
    unfold slabbed
    rw [hs]
    refine (expertOut_at _ _ _ _ _ _ _).trans ?_
    have he : (expert m t.val ht).toNat < 64 := expert_lt m hO _ _
    have he' : (⟨((m ((c.tc : Thread nD τ).loc main_arg0) : IVec S544 32) (ix1 ⟨(t.val * 4096 + r.val) / 4096, by omega⟩)).toNat % 64, Nat.mod_lt _ (by decide)⟩ : Fin 64)
        = ⟨(expert m t.val ht).toNat, he⟩ := by
      refine Fin.ext ?_
      show _ % 64 = _
      simp only [hq]
      rw [← expert_eq m c t.val ht, Nat.mod_eq_of_lt he]
    refine Eq.trans ?_ (congrArg (fun e : Fin 64 => ffn
      (fun k => (m ((c.tc : Thread nD τ).loc main_arg2) : FVec Ideal S2228224x128 .f32) (ix2 ⟨(t.val * 4096 + r.val) / 8 * 8 + k.val / 128, by omega⟩ ⟨k.val % 128, by omega⟩))
      (fun k n => (m ((c.tc : Thread nD τ).loc main_arg3) : FVec Ideal S64x1024x2048 .f32) (ix3 e k n))
      (fun n => (m ((c.tc : Thread nD τ).loc main_arg4) : FVec Ideal S64x1x2048 .f32) (ix3 e 0 n))
      (fun k n => (m ((c.tc : Thread nD τ).loc main_arg5) : FVec Ideal S64x1024x1024 .f32) (ix3 e k n))
      (fun n => (m ((c.tc : Thread nD τ).loc main_arg6) : FVec Ideal S64x1x1024 .f32) (ix3 e 0 n))
      (⟨(t.val * 4096 + r.val) % 8 * 128 + l.val, by omega⟩ : Fin 1024)) he').symm
    have a0 : (fun k : Fin 1024 => (iblk m hO c 0 t : S4096x128.Idx → EReal) (ix2 ⟨r.val / 8 * 8 + k.val / 128, by omega⟩ ⟨k.val % 128, by omega⟩))
        = fun k => (m ((c.tc : Thread nD τ).loc main_arg2) : FVec Ideal S2228224x128 .f32) (ix2 ⟨(t.val * 4096 + r.val) / 8 * 8 + k.val / 128, by omega⟩ ⟨k.val % 128, by omega⟩) := by
      funext k
      refine iblk_rows m hO c t _ _ ?_ rfl
      show (t.val * 4096 + r.val) / 8 * 8 + k.val / 128 = t.val * 4096 + (r.val / 8 * 8 + k.val / 128)
      omega
    have a1 : (fun (k : Fin 1024) (n : Fin 2048) => k0_pay3 (iblk m hO c 1 t) (ix2 k n))
        = fun k n => (m ((c.tc : Thread nD τ).loc main_arg3) : FVec Ideal S64x1024x2048 .f32) (ix3 ⟨(expert m t.val ht).toNat, he⟩ k n) := by
      funext k n
      exact (pay3_at _ k n).trans (iblk_wgu m hO c t _ _ rfl rfl rfl)
    have a2 : (fun (n : Fin 2048) => (iblk m hO c 2 t : S1x1x2048.Idx → EReal) (ix3 0 0 n))
        = fun n => (m ((c.tc : Thread nD τ).loc main_arg4) : FVec Ideal S64x1x2048 .f32) (ix3 ⟨(expert m t.val ht).toNat, he⟩ 0 n) := by
      funext n
      exact iblk_bgu m hO c t _ _ rfl rfl
    have a3 : (fun (k n : Fin 1024) => k0_pay4 (iblk m hO c 3 t) (ix2 k n))
        = fun k n => (m ((c.tc : Thread nD τ).loc main_arg5) : FVec Ideal S64x1024x1024 .f32) (ix3 ⟨(expert m t.val ht).toNat, he⟩ k n) := by
      funext k n
      exact (pay4_at _ k n).trans (iblk_wd m hO c t _ _ rfl rfl rfl)
    have a4 : (fun (n : Fin 1024) => (iblk m hO c 4 t : S1x1x1024.Idx → EReal) (ix3 0 0 n))
        = fun n => (m ((c.tc : Thread nD τ).loc main_arg6) : FVec Ideal S64x1x1024 .f32) (ix3 ⟨(expert m t.val ht).toNat, he⟩ 0 n) := by
      funext n
      exact iblk_bd m hO c t _ _ rfl rfl
    have a5 : (⟨r.val % 8 * 128 + l.val, by omega⟩ : Fin 1024) = ⟨(t.val * 4096 + r.val) % 8 * 128 + l.val, by omega⟩ := Fin.ext (by show r.val % 8 * 128 + l.val = (t.val * 4096 + r.val) % 8 * 128 + l.val; omega)
    exact congr (congr (congr (congr (congr (congrArg ffn a0) a1) a2) a3) a4) a5
  · refine (congrFun (if_neg h) _).trans (Eq.trans ?_ (if_neg (fun hh => h (hu.mpr hh))).symm)
    exact (show _ = Ideal.ofBits .f32 0#32 from rfl).trans (Ideal.ofBits_zero _)

/-- The final result array. -/
theorem final_eq (hO : Ok m) (c : Dev nD) : (dats m hO 0 c).arrAt 5 (cfgM m hO).N = resultOf m c := by
  have key : ∀ (t : Fin (cfgM m hO).N) (y : S4096x128.Idx), (((cfgM m hO).win 5).blk t).view.emb y = (ix2 (⟨t.val * 4096 + (y 0).val, by have := pt_lt m hO t; have : (y 0).val < 4096 := (y 0).isLt; omega⟩ : Fin 2228224) (y 1 : Fin 128) : S2228224x128.Idx) := by
    intro t y
    have ht := pt_lt m hO t
    funext a
    refine Fin.ext ?_
    match a with
    | ⟨0, _⟩ =>
      show (BitVec.ofNat 32 (grid0.coords t 0).val).toNat * 4096 + 1 * (y 0).val = t.val * 4096 + (y 0).val
      rw [BitVec.toNat_ofNat, coord_val]; omega
    | ⟨1, _⟩ =>
      show 0 * 128 + 1 * (y 1).val = (y 1).val
      omega
  have piece : ∀ (t : Fin (cfgM m hO).N) (y : S4096x128.Idx),
      (dats m hO 0 c).after 5 t y = resultOf m c ((((cfgM m hO).win 5).blk t).view.emb y) := by
    intro t y
    refine (congrFun (after_5 m hO c t) y).trans ?_
    refine Eq.trans ?_ (congrArg (resultOf m c) (key t y)).symm
    have hy : y = ix2 (y 0 : Fin 4096) (y 1 : Fin 128) := by
      funext a
      match a with
      | ⟨0, _⟩ => rfl
      | ⟨1, _⟩ => rfl
    exact (congrArg (outBlk m hO c t) hy).trans (block_at m hO c t (pt_lt m hO t) (y 0) (y 1))
  have cover : ∀ i : S2228224x128.Idx, ∃ t : Fin (cfgM m hO).N, ((cfgM m hO).win 5).flush t = true ∧ i ∈ (((cfgM m hO).win 5).blk t).view.set := by
    intro i
    have i0 : (i 0).val < 2228224 := (i 0).isLt
    have ht : (i 0).val / 4096 < (cfgM m hO).N := by show _ < 544; omega
    refine ⟨⟨(i 0).val / 4096, ht⟩, flush_out (adm m hO) _, ?_⟩
    have e := key ⟨(i 0).val / 4096, ht⟩ (ix2 (⟨(i 0).val % 4096, by omega⟩ : Fin 4096) (i 1 : Fin 128))
    have hi : (ix2 (⟨(i 0).val / 4096 * 4096 + (i 0).val % 4096, by omega⟩ : Fin 2228224) (i 1 : Fin 128) : S2228224x128.Idx) = i := by
      funext a
      refine Fin.ext ?_
      match a with
      | ⟨0, _⟩ => show (i 0).val / 4096 * 4096 + (i 0).val % 4096 = (i 0).val; omega
      | ⟨1, _⟩ => rfl
    exact Eq.subst (motive := fun x => x ∈ (((cfgM m hO).win 5).blk ⟨(i 0).val / 4096, ht⟩).view.set) (e.trans hi)
      ((((cfgM m hO).win 5).blk ⟨(i 0).val / 4096, ht⟩).view.emb_mem_set (ix2 (⟨(i 0).val % 4096, by omega⟩ : Fin 4096) (i 1 : Fin 128)))
  exact (dats m hO 0 c).arrAt_eq_of_emb 5 (resultOf m c) (fun t _ y => (cast_eq _ _).trans (piece t y)) cover

/-- The launch's result and its untouched arguments. -/
theorem run (hO : Ok m) :
    θ_run defs (onTc (τ := τ) (main (F := Ideal))) ⟨m, fun _ => 0, ρ⟩ (fun r => ∀ c : Dev nD, r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ⟨((h.1 c).1 5).trans (final_eq m hO c), (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4))⟩) (run_main m ρ hO)

end Cert.KernelIdeal.Experts
end
-- ==== Proof.Value.RefTrip.lean ====
/- One trip of the reference's loop over blocks, read at an index: the block's entry of the result is the expert's output of the
   block's rows, every other entry is kept. -/
module

public import proofs.«01_k».proof.Proof.Gen.ReferenceIdeal.Run
public import proofs.«01_k».proof.Proof.Value.Spec
public import Idealize.ShloMosaic.Lib.Pointwise
public import Idealize.ShloMosaic.Lib.DynamicIndex

@[expose] public section

set_option maxRecDepth 16384

noncomputable section

namespace Cert.ReferenceIdeal.Experts

open Cert.ReferenceIdeal Cert.ReferenceIdeal.Gen Cert.ReferenceIdeal.Value Cert.Experts
open Idealize.ShloMosaic Idealize.ShloMosaic.TcCoe Idealize.ShloMosaic.StableHlo

/-! ## Slices that start inside -/

section slices

variable {α : Type}

/-- Row block `n`. -/
theorem slice_rows (X : S544x512x1024.Idx → α) (w0 w1 w2 : IVec S_ 32) (z : S_.Idx) (n : ℕ) (hn : n < 544) (h0 : (w0 z).toInt = n)
    (h1 : (w1 z).toInt = 0) (h2 : (w2 z).toInt = 0) (h hc) (p : Fin 512) (q : Fin 1024) :
    shapeCast S512x1024 (Host.dynamicSlice S1x512x1024 X (fun k => ((![w0, w1, w2] : Fin 3 → IVec S_ 32) k z).toInt) h) hc (ix2 p q)
      = X (ix3 ⟨n, hn⟩ p q) := by
  have c0 := Host.clampedStart_of_le h.1 (fun k => ((![w0, w1, w2] : Fin 3 → IVec S_ 32) k z).toInt) 0 n h0 (by show n + 1 ≤ 544; omega)
  have c1 := Host.clampedStart_of_le h.1 (fun k => ((![w0, w1, w2] : Fin 3 → IVec S_ 32) k z).toInt) 1 0 h1 (by show 0 + 512 ≤ 512; omega)
  have c2 := Host.clampedStart_of_le h.1 (fun k => ((![w0, w1, w2] : Fin 3 → IVec S_ 32) k z).toInt) 2 0 h2 (by show 0 + 1024 ≤ 1024; omega)
  pointwise
  simp only [c0, c1, c2, Nat.zero_add]

/-- First weights `n`. -/
theorem slice_wgu (X : S64x1024x2048.Idx → α) (w0 w1 w2 : IVec S_ 32) (z : S_.Idx) (n : ℕ) (hn : n < 64) (h0 : (w0 z).toInt = n)
    (h1 : (w1 z).toInt = 0) (h2 : (w2 z).toInt = 0) (h hc) (p : Fin 1024) (q : Fin 2048) :
    shapeCast S1024x2048 (Host.dynamicSlice S1x1024x2048 X (fun k => ((![w0, w1, w2] : Fin 3 → IVec S_ 32) k z).toInt) h) hc (ix2 p q)
      = X (ix3 ⟨n, hn⟩ p q) := by
  have c0 := Host.clampedStart_of_le h.1 (fun k => ((![w0, w1, w2] : Fin 3 → IVec S_ 32) k z).toInt) 0 n h0 (by show n + 1 ≤ 64; omega)
  have c1 := Host.clampedStart_of_le h.1 (fun k => ((![w0, w1, w2] : Fin 3 → IVec S_ 32) k z).toInt) 1 0 h1 (by show 0 + 1024 ≤ 1024; omega)
  have c2 := Host.clampedStart_of_le h.1 (fun k => ((![w0, w1, w2] : Fin 3 → IVec S_ 32) k z).toInt) 2 0 h2 (by show 0 + 2048 ≤ 2048; omega)
  pointwise
  simp only [c0, c1, c2, Nat.zero_add]

/-- Second weights `n`. -/
theorem slice_wd (X : S64x1024x1024.Idx → α) (w0 w1 w2 : IVec S_ 32) (z : S_.Idx) (n : ℕ) (hn : n < 64) (h0 : (w0 z).toInt = n)
    (h1 : (w1 z).toInt = 0) (h2 : (w2 z).toInt = 0) (h hc) (p : Fin 1024) (q : Fin 1024) :
    shapeCast S1024x1024 (Host.dynamicSlice S1x1024x1024 X (fun k => ((![w0, w1, w2] : Fin 3 → IVec S_ 32) k z).toInt) h) hc (ix2 p q)
      = X (ix3 ⟨n, hn⟩ p q) := by
  have c0 := Host.clampedStart_of_le h.1 (fun k => ((![w0, w1, w2] : Fin 3 → IVec S_ 32) k z).toInt) 0 n h0 (by show n + 1 ≤ 64; omega)
  have c1 := Host.clampedStart_of_le h.1 (fun k => ((![w0, w1, w2] : Fin 3 → IVec S_ 32) k z).toInt) 1 0 h1 (by show 0 + 1024 ≤ 1024; omega)
  have c2 := Host.clampedStart_of_le h.1 (fun k => ((![w0, w1, w2] : Fin 3 → IVec S_ 32) k z).toInt) 2 0 h2 (by show 0 + 1024 ≤ 1024; omega)
  pointwise
  simp only [c0, c1, c2, Nat.zero_add]

/-- First bias `n`. -/
theorem slice_bgu (X : S64x2048.Idx → α) (w0 w1 : IVec S_ 32) (z : S_.Idx) (n : ℕ) (hn : n < 64) (h0 : (w0 z).toInt = n)
    (h1 : (w1 z).toInt = 0) (h hc) (q : Fin 2048) :
    shapeCast S2048 (Host.dynamicSlice S1x2048 X (fun k => ((![w0, w1] : Fin 2 → IVec S_ 32) k z).toInt) h) hc (ix1 q) = X (ix2 ⟨n, hn⟩ q) := by
  have c0 := Host.clampedStart_of_le h.1 (fun k => ((![w0, w1] : Fin 2 → IVec S_ 32) k z).toInt) 0 n h0 (by show n + 1 ≤ 64; omega)
  have c1 := Host.clampedStart_of_le h.1 (fun k => ((![w0, w1] : Fin 2 → IVec S_ 32) k z).toInt) 1 0 h1 (by show 0 + 2048 ≤ 2048; omega)
  pointwise
  simp only [c0, c1, Nat.zero_add]

/-- Second bias `n`. -/
theorem slice_bd (X : S64x1024.Idx → α) (w0 w1 : IVec S_ 32) (z : S_.Idx) (n : ℕ) (hn : n < 64) (h0 : (w0 z).toInt = n)
    (h1 : (w1 z).toInt = 0) (h hc) (q : Fin 1024) :
    shapeCast S1024 (Host.dynamicSlice S1x1024 X (fun k => ((![w0, w1] : Fin 2 → IVec S_ 32) k z).toInt) h) hc (ix1 q) = X (ix2 ⟨n, hn⟩ q) := by
  have c0 := Host.clampedStart_of_le h.1 (fun k => ((![w0, w1] : Fin 2 → IVec S_ 32) k z).toInt) 0 n h0 (by show n + 1 ≤ 64; omega)
  have c1 := Host.clampedStart_of_le h.1 (fun k => ((![w0, w1] : Fin 2 → IVec S_ 32) k z).toInt) 1 0 h1 (by show 0 + 1024 ≤ 1024; omega)
  pointwise
  simp only [c0, c1, Nat.zero_add]

/-- The table's entry `n`. -/
theorem slice_word (X : S544.Idx → α) (w0 : IVec S_ 32) (z : S_.Idx) (n : ℕ) (hn : n < 544) (h0 : (w0 z).toInt = n) (h hc) (j : S_.Idx) :
    shapeCast S_ (Host.dynamicSlice S1 X (fun k => ((![w0] : Fin 1 → IVec S_ 32) k z).toInt) h) hc j = X (ix1 ⟨n, hn⟩) := by
  have c0 := Host.clampedStart_of_le h.1 (fun _ => (w0 z).toInt) 0 n h0 (by show n + 1 ≤ 544; omega)
  pointwise
  refine congrArg X (funext fun a => Fin.ext ?_)
  match a with
  | ⟨0, _⟩ => exact c0

/-- A row block put at `n`. -/
theorem update_rows (X : S544x512x1024.Idx → α) (U : S1x512x1024.Idx → α) (w0 w1 w2 : IVec S_ 32) (z : S_.Idx) (n : ℕ) (hn : n < 544)
    (h0 : (w0 z).toInt = n) (h1 : (w1 z).toInt = 0) (h2 : (w2 z).toInt = 0) (h) (b : Fin 544) (p : Fin 512) (q : Fin 1024) :
    Host.dynamicUpdateSlice X U (fun k => ((![w0, w1, w2] : Fin 3 → IVec S_ 32) k z).toInt) h (ix3 b p q)
      = if b.val = n then U (ix3 0 p q) else X (ix3 b p q) := by
  have c0 := Host.clampedStart_of_le h.1 (fun k => ((![w0, w1, w2] : Fin 3 → IVec S_ 32) k z).toInt) 0 n h0 (by show n + 1 ≤ 544; omega)
  have c1 := Host.clampedStart_of_le h.1 (fun k => ((![w0, w1, w2] : Fin 3 → IVec S_ 32) k z).toInt) 1 0 h1 (by show 0 + 512 ≤ 512; omega)
  have c2 := Host.clampedStart_of_le h.1 (fun k => ((![w0, w1, w2] : Fin 3 → IVec S_ 32) k z).toInt) 2 0 h2 (by show 0 + 1024 ≤ 1024; omega)
  pointwise
  simp only [c0, c1, c2]
  have hp := p.isLt
  have hq := q.isLt
  by_cases hb : b.val = n
  · rw [dif_pos (by omega), if_pos hb]
    subst hb
    simp only [Nat.sub_self, Nat.sub_zero]
    rfl
  · rw [dif_neg (by omega), if_neg hb]

end slices

/-! ## The two layers of the block -/

/-- The first layer at an index. -/
theorem proj_term (x : FVec Ideal S512x1024 .f32) (w : FVec Ideal S1024x2048 .f32) (b : FVec Ideal S2048 .f32) (p : Fin 512) (c : Fin 2048) :
    addf (Host.dotGeneral dot_S512x1024_S1024x2048_S512x2048_1_0_0_1_n_n none x w)
      (broadcastInDim S512x2048 ![0, 1] bcast_S1x2048_S512x2048_0_1 (broadcastInDim S1x2048 ![1] bcast_S2048_S1x2048_1 b)) (ix2 p c)
      = ∑ k : Fin 1024, x (ix2 p k) * w (ix2 k c) + b (ix1 c) := by
  pointwise

/-- The activation and the second layer at an index. -/
theorem ffn_term (g : FVec Ideal S512x2048 .f32) (w : FVec Ideal S1024x1024 .f32) (b : FVec Ideal S1024 .f32) (p : Fin 512) (q : Fin 1024) :
    broadcastInDim S1x512x1024 ![1, 2] bcast_S512x1024_S1x512x1024_1_2 (addf (Host.dotGeneral dot_S512x1024_S1024x1024_S512x1024_1_0_0_1_n_n none (mulf (addf (minimumf (broadcastInDim S512x1024 ![] bcast_S_S512x1024 (id (constant S_ .f32 0x40E00000#32))) (maximumf (broadcastInDim S512x1024 ![] bcast_S_S512x1024 (id (constant S_ .f32 0xC0E00000#32))) (extractStridedSlice S512x1024 ![0, 1024] g slices_S512x2048_S512x1024_0_1024))) (broadcastInDim S512x1024 ![] bcast_S_S512x1024 (constant S_ .f32 0x3F800000#32))) (mulf (minimumf (extractStridedSlice S512x1024 ![0, 0] g slices_S512x2048_S512x1024_0_0) (broadcastInDim S512x1024 ![] bcast_S_S512x1024 (constant S_ .f32 0x40E00000#32))) (Host.divf (broadcastInDim S512x1024 ![] bcast_S_S512x1024 (constant S_ .f32 0x3F800000#32)) (addf (broadcastInDim S512x1024 ![] bcast_S_S512x1024 (constant S_ .f32 0x3F800000#32)) (Host.exp (Host.negf (mulf (broadcastInDim S512x1024 ![] bcast_S_S512x1024 (constant S_ .f32 0x3FD9DB23#32)) (minimumf (extractStridedSlice S512x1024 ![0, 0] g slices_S512x2048_S512x1024_0_0) (broadcastInDim S512x1024 ![] bcast_S_S512x1024 (constant S_ .f32 0x40E00000#32)))))))))) w)
      (broadcastInDim S512x1024 ![0, 1] bcast_S1x1024_S512x1024_0_1 (broadcastInDim S1x1024 ![1] bcast_S1024_S1x1024_1 b))) (ix3 0 p q)
      = ∑ k : Fin 1024, mix (g (ix2 p ⟨k.val, by omega⟩)) (g (ix2 p ⟨1024 + k.val, by omega⟩)) * w (ix2 k q) + b (ix1 q) := by
  unfold mix
  pointwise
  rfl

/-! ## The trip -/

section trip

variable (V0 : Valuation τ sig (Elt Ideal)) (n : ℕ) (hn : n < 544) (e : ℕ) (he : e < 64)
  (X : FVec Ideal S544x512x1024 .f32) (T : IVec S544 32) (W : FVec Ideal S64x1024x2048 .f32) (B : FVec Ideal S64x2048 .f32)
  (D : FVec Ideal S64x1024x1024 .f32) (d : FVec Ideal S64x1024 .f32)
  (hX : V0 (Proc.devRef .tc main_v4_0) = X) (hT : V0 (Proc.devRef .tc main_v4_1) = T) (hW : V0 (Proc.devRef .tc main_v4_2) = W)
  (hB : V0 (Proc.devRef .tc main_v4_3) = B) (hD : V0 (Proc.devRef .tc main_v4_4) = D) (hd : V0 (Proc.devRef .tc main_v4_5) = d)
  (h6 : V0 (Proc.devRef .tc main_v4_6) = fun _ => BitVec.ofNat 32 n) (hTe : T (ix1 ⟨n, hn⟩) = BitVec.ofNat 32 e)

include hT h6 hTe

/-- The trip's expert. -/
theorem word_at : res_main_while0b_v13 V0 = constantI S_ 32 (BitVec.ofNat 32 e) := by
  funext j
  unfold res_main_while0b_v13
  rw [hT, h6]
  exact (slice_word T _ _ n hn (toInt_ofNat_of_lt (by omega)) _ _ _).trans hTe

include hX hW hB he

/-- The trip's projections. -/
theorem proj_at (p : Fin 512) (c : Fin 2048) :
    (res_main_while0b_v36 V0 : FVec Ideal S512x2048 .f32) (ix2 p c)
      = proj (fun k => X (ix3 ⟨n, hn⟩ p k)) (fun k c => W (ix3 ⟨e, he⟩ k c)) (fun c => B (ix2 ⟨e, he⟩ c)) c := by
  unfold res_main_while0b_v36
  rw [word_at V0 n hn e T hT h6 hTe, hX, hW, hB, h6]
  have e0 := toInt_wrap_ofNat (s := S_) e (by omega) (d := constantI S_ 32 64#32) (i := Shape.Idx.first h_S_)
  have z0 := fun d : IVec S_ 32 => toInt_wrap_ofNat (s := S_) 0 (by omega) (d := d) (i := Shape.Idx.first h_S_)
  refine (proj_term _ _ _ p c).trans ?_
  unfold proj
  refine congrArg₂ (· + ·) (Finset.sum_congr rfl fun k _ => congrArg₂ (· * ·) ?_ ?_) ?_
  · exact slice_rows X _ _ _ _ n hn (toInt_ofNat_of_lt (by omega)) rfl rfl _ _ _ _
  · exact slice_wgu W _ _ _ _ e he e0 (z0 _) (z0 _) _ _ _ _
  · exact slice_bgu B _ _ _ e he e0 (z0 _) _ _ _

include hD hd

/-- The trip's entries of the result. -/
theorem rows_at (O : FVec Ideal S544x512x1024 .f32) (h7 : V0 (Proc.devRef .tc main_v4_7) = O) (b : Fin 544) (p : Fin 512) (q : Fin 1024) :
    (step_main_v4_7 V0 : FVec Ideal S544x512x1024 .f32) (ix3 b p q)
      = if b.val = n then ffn (fun k => X (ix3 ⟨n, hn⟩ p k)) (fun k c => W (ix3 ⟨e, he⟩ k c)) (fun c => B (ix2 ⟨e, he⟩ c))
          (fun k c => D (ix3 ⟨e, he⟩ k c)) (fun c => d (ix2 ⟨e, he⟩ c)) q
        else O (ix3 b p q) := by
  have e0 := toInt_wrap_ofNat (s := S_) e (by omega) (d := constantI S_ 32 64#32) (i := Shape.Idx.first h_S_)
  have z0 := fun d : IVec S_ 32 => toInt_wrap_ofNat (s := S_) 0 (by omega) (d := d) (i := Shape.Idx.first h_S_)
  have hg := proj_at V0 n hn e he X T W B hX hT hW hB h6 hTe
  unfold step_main_v4_7 res_main_while0b_v40
  rw [word_at V0 n hn e T hT h6 hTe, hD, hd, h6, h7]
  refine (update_rows O _ _ _ _ _ n hn (toInt_ofNat_of_lt (by omega)) rfl rfl _ b p q).trans ?_
  refine if_congr Iff.rfl ?_ rfl
  refine (ffn_term _ _ _ p q).trans ?_
  unfold ffn
  refine congrArg₂ (· + ·) (Finset.sum_congr rfl fun k _ => congrArg₂ (· * ·) (congrArg₂ mix (hg _ _) (hg _ _)) ?_) ?_
  · exact slice_wd D _ _ _ _ e he e0 (z0 _) (z0 _) _ _ _ _
  · exact slice_bd d _ _ _ e he e0 (z0 _) _ _ _

end trip

end Cert.ReferenceIdeal.Experts
end
-- ==== Proof.Value.RefValue.lean ====
/- The reference's result at an index: the loop over blocks fills one block of rows a trip, the blocks from the number of used ones on
   are zero. -/
module

public import proofs.«01_k».proof.Proof.Value.RefTrip
public import Idealize.ShloMosaic.Lib.Quiescent

@[expose] public section

set_option maxRecDepth 16384

noncomputable section

namespace Cert.ReferenceIdeal.Experts

open Cert.ReferenceIdeal Cert.ReferenceIdeal.Gen Cert.ReferenceIdeal.Value Cert.Experts
open Idealize.ShloMosaic Idealize.ShloMosaic.TcCoe Idealize.ShloMosaic.StableHlo Idealize.SL.Sem

variable (m : (ℓ : Loc nD τ sig) → Buf (Elt Ideal) ℓ) (c : Dev nD)

/-! ## The arrays the loop starts from -/

abbrev entry : Valuation τ sig (Elt Ideal) := entryContents preI m c

/-- The rows, block by block. -/
def rows : FVec Ideal S544x512x1024 .f32 := shapeCast S544x512x1024 (m ((c.tc : Thread nD τ).loc main_arg2)) shapeCasts_S2228224x128_S544x512x1024
/-- The block → expert table. -/
def table : IVec S544 32 := m ((c.tc : Thread nD τ).loc main_arg0)
/-- The first weights, -/
def wgu : FVec Ideal S64x1024x2048 .f32 := m ((c.tc : Thread nD τ).loc main_arg3)
/-- their biases, -/
def bgu : FVec Ideal S64x2048 .f32 := shapeCast S64x2048 (m ((c.tc : Thread nD τ).loc main_arg4)) shapeCasts_S64x1x2048_S64x2048
/-- the second weights, -/
def wd : FVec Ideal S64x1024x1024 .f32 := m ((c.tc : Thread nD τ).loc main_arg5)
/-- their biases. -/
def bd : FVec Ideal S64x1024 .f32 := shapeCast S64x1024 (m ((c.tc : Thread nD τ).loc main_arg6)) shapeCasts_S64x1x1024_S64x1024

theorem entry_0 : entry m c (Proc.devRef .tc main_v4_0) = rows m c := by
  simp only [entry, entryContents, afterL_cons, afterL_nil]
  after_reads_simp
  rfl
theorem entry_1 : entry m c (Proc.devRef .tc main_v4_1) = table m c := by
  simp only [entry, entryContents, afterL_cons, afterL_nil]
  after_reads_simp
  rfl
theorem entry_2 : entry m c (Proc.devRef .tc main_v4_2) = wgu m c := by
  simp only [entry, entryContents, afterL_cons, afterL_nil]
  after_reads_simp
  rfl
theorem entry_3 : entry m c (Proc.devRef .tc main_v4_3) = bgu m c := by
  simp only [entry, entryContents, afterL_cons, afterL_nil]
  after_reads_simp
  rfl
theorem entry_4 : entry m c (Proc.devRef .tc main_v4_4) = wd m c := by
  simp only [entry, entryContents, afterL_cons, afterL_nil]
  after_reads_simp
  rfl
theorem entry_5 : entry m c (Proc.devRef .tc main_v4_5) = bd m c := by
  simp only [entry, entryContents, afterL_cons, afterL_nil]
  after_reads_simp
  rfl
theorem entry_7 : entry m c (Proc.devRef .tc main_v4_7) = (fun _ => 0 : FVec Ideal S544x512x1024 .f32) := by
  simp only [entry, entryContents, afterL_cons, afterL_nil]
  after_reads_simp
  funext j
  exact (show _ = Ideal.ofBits .f32 0#32 from rfl).trans (Ideal.ofBits_zero _)

/-! ## The trips -/

theorem iter_0 : ∀ k, (STEP^[k] (entry m c)) (Proc.devRef .tc main_v4_0) = rows m c
  | 0 => entry_0 m c
  | k + 1 => by rw [Function.iterate_succ_apply']; exact (STEP_main_v4_0 _).trans (iter_0 k)
theorem iter_1 : ∀ k, (STEP^[k] (entry m c)) (Proc.devRef .tc main_v4_1) = table m c
  | 0 => entry_1 m c
  | k + 1 => by rw [Function.iterate_succ_apply']; exact (STEP_main_v4_1 _).trans (iter_1 k)
theorem iter_2 : ∀ k, (STEP^[k] (entry m c)) (Proc.devRef .tc main_v4_2) = wgu m c
  | 0 => entry_2 m c
  | k + 1 => by rw [Function.iterate_succ_apply']; exact (STEP_main_v4_2 _).trans (iter_2 k)
theorem iter_3 : ∀ k, (STEP^[k] (entry m c)) (Proc.devRef .tc main_v4_3) = bgu m c
  | 0 => entry_3 m c
  | k + 1 => by rw [Function.iterate_succ_apply']; exact (STEP_main_v4_3 _).trans (iter_3 k)
theorem iter_4 : ∀ k, (STEP^[k] (entry m c)) (Proc.devRef .tc main_v4_4) = wd m c
  | 0 => entry_4 m c
  | k + 1 => by rw [Function.iterate_succ_apply']; exact (STEP_main_v4_4 _).trans (iter_4 k)
theorem iter_5 : ∀ k, (STEP^[k] (entry m c)) (Proc.devRef .tc main_v4_5) = bd m c
  | 0 => entry_5 m c
  | k + 1 => by rw [Function.iterate_succ_apply']; exact (STEP_main_v4_5 _).trans (iter_5 k)

/-- The counter before trip `k`. -/
theorem iter_6 : ∀ k, (STEP^[k] (entry m c)) (Proc.devRef .tc main_v4_6) = fun _ => BitVec.ofNat 32 k
  | 0 => ctr_entry m c
  | k + 1 => by
    rw [Function.iterate_succ_apply']
    refine (STEP_main_v4_6 _).trans ?_
    unfold step_main_v4_6
    rw [iter_6 k]
    funext j
    exact (BitVec.ofNat_add k 1).symm

variable (hT : ∀ b, (table m c (ix1 b)).toNat < 64)

/-- Block `b`'s entry at row `p`, column `q`: the output of the block's expert for the block's row. -/
def block (b : Fin 544) (p : Fin 512) (q : Fin 1024) : EReal :=
  ffn (fun k => rows m c (ix3 b p k)) (fun k j => wgu m c (ix3 ⟨(table m c (ix1 b)).toNat, hT b⟩ k j)) (fun j => bgu m c (ix2 ⟨(table m c (ix1 b)).toNat, hT b⟩ j))
    (fun k j => wd m c (ix3 ⟨(table m c (ix1 b)).toNat, hT b⟩ k j)) (fun j => bd m c (ix2 ⟨(table m c (ix1 b)).toNat, hT b⟩ j)) q

theorem word_ofNat (w : BitVec 32) : w = BitVec.ofNat 32 w.toNat := by
  apply BitVec.eq_of_toNat_eq
  rw [BitVec.toNat_ofNat, Nat.mod_eq_of_lt w.isLt]

/-- After `k` trips the first `k` blocks are filled. -/
theorem iter_7 : ∀ k, k ≤ 544 → ∀ (b : Fin 544) (p : Fin 512) (q : Fin 1024),
    ((STEP^[k] (entry m c)) (Proc.devRef .tc main_v4_7) : FVec Ideal S544x512x1024 .f32) (ix3 b p q) = if b.val < k then block m c hT b p q else 0
  | 0, _, b, p, q => by rw [if_neg (Nat.not_lt_zero _)]; exact congrFun (entry_7 m c) _
  | k + 1, hk, b, p, q => by
    rw [Function.iterate_succ_apply']
    refine (congrFun (STEP_main_v4_7 _) _).trans ?_
    refine (rows_at _ k (by omega) (table m c (ix1 ⟨k, by omega⟩)).toNat (hT _) _ _ _ _ _ _ (iter_0 m c k) (iter_1 m c k) (iter_2 m c k) (iter_3 m c k)
      (iter_4 m c k) (iter_5 m c k) (iter_6 m c k) (word_ofNat _) _ rfl b p q).trans ?_
    by_cases hb : b.val = k
    · rw [if_pos hb, if_pos (by omega)]
      obtain ⟨b, hb'⟩ := b
      dsimp only at hb
      subst hb
      rfl
    · rw [if_neg hb, iter_7 k (by omega)]
      exact if_congr (by omega) rfl rfl

/-! ## The result -/

section reshapes

variable {α : Type}

/-- The rows' slabs as blocks of rows. -/
theorem rows_reshape (X : S2228224x128.Idx → α) (b : Fin 544) (p : Fin 512) (k : Fin 1024) :
    shapeCast S544x512x1024 X shapeCasts_S2228224x128_S544x512x1024 (ix3 b p k)
      = X (ix2 ⟨b.val * 4096 + p.val * 8 + k.val / 128, by omega⟩ ⟨k.val % 128, by omega⟩) := by
  refine shapeCast_apply (s := S2228224x128) (t := S544x512x1024) X _ _ _ ?_
  refine (Shape.rowMajor_val_two _).trans ((?_ : _ = _).trans (Shape.rowMajor_val_three _).symm)
  show (b.val * 4096 + p.val * 8 + k.val / 128) * 128 + k.val % 128 = (b.val * 512 + p.val) * 1024 + k.val
  omega

/-- The first biases without their unit axis. -/
theorem bgu_reshape (X : S64x1x2048.Idx → α) (e : Fin 64) (k : Fin 2048) :
    shapeCast S64x2048 X shapeCasts_S64x1x2048_S64x2048 (ix2 e k) = X (ix3 e 0 k) := by
  pointwise

/-- The second biases without their unit axis. -/
theorem bd_reshape (X : S64x1x1024.Idx → α) (e : Fin 64) (k : Fin 1024) :
    shapeCast S64x1024 X shapeCasts_S64x1x1024_S64x1024 (ix2 e k) = X (ix3 e 0 k) := by
  pointwise

end reshapes

/-- The operations after the loop, at an index. -/
theorem out_at (V0 : Valuation τ sig (Elt Ideal)) (O : FVec Ideal S544x512x1024 .f32) (u : IVec S1 32)
    (h7 : V0 (Proc.devRef .tc main_v4_7) = O) (h1 : V0 (Proc.devRef .tc main_arg1) = u) (r : Fin 2228224) (l : Fin 128) :
    (out_main_v11 V0 : FVec Ideal S2228224x128 .f32) (ix2 r l)
      = if ((r.val / 4096 : ℕ) : ℤ) < (u (ix1 0)).toInt then O (ix3 ⟨r.val / 4096, by omega⟩ ⟨r.val / 8 % 512, by omega⟩ ⟨r.val % 8 * 128 + l.val, by omega⟩) else 0 := by
  unfold out_main_v11
  rw [h7, h1]
  pointwise
  have e : (BitVec.ofNat 32 (r.val / 4096)).toInt = ((r.val / 4096 : ℕ) : ℤ) := toInt_ofNat_of_lt (by omega)
  exact if_congr (IntOp.cmpi_slt.trans (by rw [e])) rfl ((show _ = Ideal.ofBits .f32 0#32 from rfl).trans (Ideal.ofBits_zero _))

include hT in
/-- The reference's result at row `r`, lane `l`. -/
theorem result_at (r : Fin 2228224) (l : Fin 128) :
    (out_main_v11 (STEP^[544] (entry m c)) : FVec Ideal S2228224x128 .f32) (ix2 r l)
      = result (fun b => (m ((c.tc : Thread nD τ).loc main_arg0) : IVec S544 32) (ix1 b)) ((m ((c.tc : Thread nD τ).loc main_arg1) : IVec S1 32) (ix1 0))
          (fun r l => (m ((c.tc : Thread nD τ).loc main_arg2) : FVec Ideal S2228224x128 .f32) (ix2 r l))
          (fun e k n => (m ((c.tc : Thread nD τ).loc main_arg3) : FVec Ideal S64x1024x2048 .f32) (ix3 e k n))
          (fun e n => (m ((c.tc : Thread nD τ).loc main_arg4) : FVec Ideal S64x1x2048 .f32) (ix3 e 0 n))
          (fun e k n => (m ((c.tc : Thread nD τ).loc main_arg5) : FVec Ideal S64x1024x1024 .f32) (ix3 e k n))
          (fun e n => (m ((c.tc : Thread nD τ).loc main_arg6) : FVec Ideal S64x1x1024 .f32) (ix3 e 0 n)) r l := by
  have := hT
  refine (out_at _ _ _ rfl (iter_main_arg1 m c 544) r l).trans ?_
  unfold result
  refine if_congr Iff.rfl ?_ rfl
  refine (iter_7 m c hT 544 le_rfl _ _ _).trans ?_
  rw [if_pos (by show r.val / 4096 < 544; omega)]
  have he : ∀ b h, (⟨(table m c (ix1 b)).toNat, h⟩ : Fin 64) = ⟨(table m c (ix1 b)).toNat % 64, Nat.mod_lt _ (by decide)⟩ :=
    fun b h => Fin.ext (Nat.mod_eq_of_lt h).symm
  unfold block
  simp only [he]
  have hr : ∀ (b : Fin 544) (p : Fin 512) (k : Fin 1024), rows m c (ix3 b p k) = (m ((c.tc : Thread nD τ).loc main_arg2) : FVec Ideal S2228224x128 .f32) (ix2 ⟨b.val * 4096 + p.val * 8 + k.val / 128, by omega⟩ ⟨k.val % 128, by omega⟩) := by
    intro b p k
    exact rows_reshape _ b p k
  have hb : ∀ (e : Fin 64) (k : Fin 2048), bgu m c (ix2 e k) = (m ((c.tc : Thread nD τ).loc main_arg4) : FVec Ideal S64x1x2048 .f32) (ix3 e 0 k) := by
    intro e k
    exact bgu_reshape _ e k
  have hd : ∀ (e : Fin 64) (k : Fin 1024), bd m c (ix2 e k) = (m ((c.tc : Thread nD τ).loc main_arg6) : FVec Ideal S64x1x1024 .f32) (ix3 e 0 k) := by
    intro e k
    exact bd_reshape _ e k
  simp only [hr, hb, hd]
  have hk : ∀ k : Fin 1024, (⟨r.val / 4096 * 4096 + r.val / 8 % 512 * 8 + k.val / 128, by omega⟩ : Fin 2228224) = ⟨r.val / 8 * 8 + k.val / 128, by omega⟩ :=
    fun k => Fin.ext (by show r.val / 4096 * 4096 + r.val / 8 % 512 * 8 + k.val / 128 = r.val / 8 * 8 + k.val / 128; omega)
  simp only [hk]
  rfl

/-- The reference runs, leaves its arguments and every counter as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2, sem_eq_zero_of_no_sems (by decide) _⟩) (run m ρ)

end Cert.ReferenceIdeal.Experts
end
-- ==== Proof.Proj.Spec.lean ====
/- The projection of the normed and modulated rows, as a function of numbers: what both the kernel's calls and the reference compute. -/
module

public import Idealize.ShloMosaic.Lib.Pointwise

@[expose] public section

noncomputable section

namespace Cert.Proj

open Idealize.ShloMosaic

/-- A row divided by the root of its mean square, times the gain, scaled and shifted. -/
def normed (x g sc sh : Fin 1024 → EReal) (k : Fin 1024) : EReal :=
  x k * Ideal.rsqrt (Ideal.div (∑ j, x j * x j) (Ideal.ofBits FTy.f32 0x44800000#32) + Ideal.ofBits FTy.f32 0x358637BD#32) * g k * (1 + sc k) + sh k

/-- One entry of the projection: such a row against a column of weights. -/
def cell (x g sc sh w : Fin 1024 → EReal) : EReal := ∑ k, normed x g sc sh k * w k

/-- The entry of row `r` of the flattened stream, the scale and the shift taken from the row's sequence. -/
def cellAt (X : Fin 8 → Fin 8192 → Fin 1024 → EReal) (M : Fin 16 → Fin 6144 → EReal) (g w : Fin 1024 → EReal) (r : Fin 65536) : EReal :=
  cell (X ⟨r.val / 8192, by omega⟩ ⟨r.val % 8192, by omega⟩) g (fun k => M ⟨r.val / 8192, by omega⟩ ⟨1024 + k.val, by omega⟩)
    (fun k => M ⟨r.val / 8192, by omega⟩ ⟨k.val, by omega⟩) w

/-- A column of zeros gives zero. -/
theorem cellAt_zero (X : Fin 8 → Fin 8192 → Fin 1024 → EReal) (M : Fin 16 → Fin 6144 → EReal) (g : Fin 1024 → EReal) (r : Fin 65536) :
    cellAt X M g (fun _ => 0) r = 0 := by
  unfold cellAt cell
  exact Finset.sum_eq_zero fun _ _ => mul_zero _

/-- The low-rank columns: the 32 columns from 3072 on, then zeros. -/
def tailAt (X : Fin 8 → Fin 8192 → Fin 1024 → EReal) (M : Fin 16 → Fin 6144 → EReal) (g : Fin 1024 → EReal) (W : Fin 1024 → Fin 3616 → EReal) (r : Fin 65536) (q : Fin 128) : EReal :=
  if q.val < 32 then cellAt X M g (fun k => W k ⟨3072 + q.val, by omega⟩) r else 0

end Cert.Proj
end
-- ==== Proof.Proj.OddKern.lean ====
/- The odd layers' projection call: each result array at an index. -/
module

public import proofs.«01_k».proof.Proof.Gen.OddProjIdeal.Value
public import proofs.«01_k».proof.Proof.Proj.Spec
public import Idealize.ShloMosaic.Lib.Pipeline.ValueKit

@[expose] public section

set_option maxRecDepth 16384

noncomputable section

namespace Cert.OddProjIdeal.Proj

open Cert.OddProjIdeal Cert.OddProjIdeal.Gen Cert.Proj
open Idealize.ShloMosaic Idealize.ShloMosaic.TcCoe Idealize.ShloMosaic.Pipeline Idealize.SL.Sem

/-- The block's rows, normed and modulated. -/
theorem norm_at (x0 : Vec Ideal S512x1024 .f32) (x1 : Vec Ideal S1x8x1024 .f32) (x2 : Vec Ideal S1x1024 .f32) (p : Fin 512) (k : Fin 1024) :
    k0_pay4 (View.ld x0 r0_0) (View.ld x2 r0_1) (View.ld x1 r0_2) (View.ld x1 r0_3) (ix2 p k)
      = normed (fun k => x0 (ix2 p k)) (fun k => x2 (ix2 0 k)) (fun k => x1 (ix3 0 1 k)) (fun k => x1 (ix3 0 0 k)) k := by
  unfold normed
  pointwise [k0_pay4, r0_0, r0_1, r0_2, r0_3]

/-- A product with a block of 512 columns. -/
theorem prod_at (h : FVec Ideal S512x1024 .bf16) (w : FVec Ideal S1024x512 .bf16) (p q : Fin 512) :
    k0_pay1 h w (ix2 p q) = ∑ k : Fin 1024, h (ix2 p k) * w (ix2 k q) := by
  pointwise [k0_pay1]

/-- A piece of the block of results. -/
theorem piece_at (x0 : Vec Ideal S512x1024 .f32) (x1 : Vec Ideal S1x8x1024 .f32) (x2 : Vec Ideal S1x1024 .f32) (W : Vec Ideal S1024x2560 .bf16)
    (w : FVec Ideal S1024x512 .bf16) (off : ℕ) (ho : off + 512 ≤ 2560) (hw : ∀ (k : Fin 1024) (q : Fin 512), w (ix2 k q) = W (ix2 k ⟨off + q.val, by omega⟩)) (p q : Fin 512) :
    k0_pay1 (k0_pay4 (View.ld x0 r0_0) (View.ld x2 r0_1) (View.ld x1 r0_2) (View.ld x1 r0_3)) w (ix2 p q)
      = cell (fun k => x0 (ix2 p k)) (fun k => x2 (ix2 0 k)) (fun k => x1 (ix3 0 1 k)) (fun k => x1 (ix3 0 0 k)) (fun k => W (ix2 k ⟨off + q.val, by omega⟩)) :=
  (prod_at _ _ p q).trans (Finset.sum_congr rfl fun k _ => congrArg₂ (· * ·) (norm_at x0 x1 x2 p k) (hw k q))

variable (m : (ℓ : Loc nD τ sig) → Buf (Elt Ideal) ℓ) (c : Dev nD)

/-- The arguments as functions of numbers. -/
def argX (a : Fin 8) (s : Fin 8192) (k : Fin 1024) : EReal := (m (c, main_arg0) : FVec Ideal S8x8192x1024 .f32) (ix3 a s k)
def argM (a : Fin 16) (k : Fin 6144) : EReal := (m (c, main_arg1) : FVec Ideal S16x6144 .f32) (ix2 a k)
def argG (k : Fin 1024) : EReal := (m (c, main_arg2) : FVec Ideal S1024 .f32) (ix1 k)
def argW (k : Fin 1024) (n : Fin 2560) : EReal := (m (c, main_arg3) : FVec Ideal S1024x2560 .f32) (ix2 k n)

theorem rows_at (r : Fin 65536) (k : Fin 1024) :
    (V m c main_v0 : FVec Ideal S65536x1024 .f32) (ix2 r k) = argX m c ⟨r.val / 8192, by omega⟩ ⟨r.val % 8192, by omega⟩ k := by
  unfold V argX
  after_results_simp
  pointwise

theorem gain_at (k : Fin 1024) : (V m c main_v6 : FVec Ideal S1x1024 .f32) (ix2 0 k) = argG m c k := by
  unfold V argG
  after_results_simp
  pointwise

theorem weights_at (k : Fin 1024) (n : Fin 2560) : (V m c main_v5 : FVec Ideal S1024x2560 .bf16) (ix2 k n) = argW m c k n := by
  unfold V argW
  after_results_simp
  pointwise

theorem scale_at (a : Fin 8) (k : Fin 1024) :
    (V m c main_v4 : FVec Ideal S8x8x1024 .f32) (ix3 a 1 k) = argM m c ⟨a.val, by omega⟩ ⟨1024 + k.val, by omega⟩ := by
  unfold V argM
  after_results_simp
  pointwise
  after_results_simp
  pointwise

theorem shift_at (a : Fin 8) (k : Fin 1024) :
    (V m c main_v4 : FVec Ideal S8x8x1024 .f32) (ix3 a 0 k) = argM m c ⟨a.val, by omega⟩ ⟨k.val, by omega⟩ := by
  unfold V argM
  after_results_simp
  pointwise
  after_results_simp
  pointwise

/-- The block of each window at a point of the grid. -/
theorem index_rows : ∀ t : Fin cfg0.N, win0_0.index t = ![t.val, 0] := by decide +kernel
theorem index_mod : ∀ t : Fin cfg0.N, win0_1.index t = ![t.val / 16, 0, 0] := by decide +kernel
theorem index_gain : ∀ t : Fin cfg0.N, win0_2.index t = ![0, 0] := by decide +kernel
theorem index_weights : ∀ t : Fin cfg0.N, win0_3.index t = ![0, 0] := by decide +kernel
theorem index_out4 : ∀ t : Fin cfg0.N, win0_4.index t = ![t.val, 0] := by decide +kernel
theorem index_out5 : ∀ t : Fin cfg0.N, win0_5.index t = ![t.val, 0] := by decide +kernel
theorem index_out6 : ∀ t : Fin cfg0.N, win0_6.index t = ![t.val, 0] := by decide +kernel

theorem lt_points (t : Fin cfg0.N) : t.val < 128 := t.isLt

theorem blkRows_at (t : Fin cfg0.N) (p : Fin 512) (k : Fin 1024) :
    (iblk m c 0 t : S512x1024.Idx → EReal) (ix2 p k) = (V m c main_v0 : S65536x1024.Idx → EReal) (ix2 ⟨t.val * 512 + p.val, by have := lt_points t; omega⟩ k) := by
  blk_ext [iblk, index_rows]

theorem blkMod_at (t : Fin cfg0.N) (j : Fin 8) (k : Fin 1024) :
    (iblk m c 1 t : S1x8x1024.Idx → EReal) (ix3 0 j k) = (V m c main_v4 : S8x8x1024.Idx → EReal) (ix3 ⟨t.val / 16, by have := lt_points t; omega⟩ j k) := by
  blk_ext [iblk, index_mod]

theorem blkGain_at (t : Fin cfg0.N) (k : Fin 1024) :
    (iblk m c 2 t : S1x1024.Idx → EReal) (ix2 0 k) = (V m c main_v6 : S1x1024.Idx → EReal) (ix2 0 k) := by
  blk_ext [iblk, index_gain]

theorem blkWeights_at (t : Fin cfg0.N) (k : Fin 1024) (n : Fin 2560) :
    (iblk m c 3 t : S1024x2560.Idx → EReal) (ix2 k n) = (V m c main_v5 : S1024x2560.Idx → EReal) (ix2 k n) := by
  blk_ext [iblk, index_weights]

/-- A piece of the block of results at point `t`, as the entry of its row and column. -/
theorem pieceArg_at (t : Fin cfg0.N) (w : FVec Ideal S1024x512 .bf16) (off : ℕ) (ho : off + 512 ≤ 2560)
    (hw : ∀ (k : Fin 1024) (q : Fin 512), w (ix2 k q) = (iblk m c 3 t : S1024x2560.Idx → EReal) (ix2 k ⟨off + q.val, by omega⟩)) (y : S512x512.Idx)
    (r : Fin 65536) (n : Fin 2560) (hr : r.val = t.val * 512 + (y 0).val) (hn : n.val = off + (y 1).val) :
    k0_pay1 (k0_pay4 (View.ld (iblk m c 0 t) r0_0) (View.ld (iblk m c 2 t) r0_1) (View.ld (iblk m c 1 t) r0_2) (View.ld (iblk m c 1 t) r0_3)) w y
      = cellAt (argX m c) (argM m c) (argG m c) (fun k => argW m c k n) r := by
  have ht := lt_points t
  obtain ⟨p, q, rfl⟩ : ∃ (p q : Fin 512), y = ix2 p q := ⟨y 0, y 1, by funext a; match a with | ⟨0, _⟩ => rfl | ⟨1, _⟩ => rfl⟩
  have hr : r.val = t.val * 512 + p.val := hr
  have hn : n.val = off + q.val := hn
  refine (piece_at (iblk m c 0 t) (iblk m c 1 t) (iblk m c 2 t) (iblk m c 3 t) w off ho hw p q).trans ?_
  unfold cellAt
  have e0 : (⟨t.val * 512 + p.val, by omega⟩ : Fin 65536) = r := Fin.ext hr.symm
  have e1 : (⟨t.val / 16, by omega⟩ : Fin 8) = ⟨r.val / 8192, by omega⟩ := Fin.ext (by show t.val / 16 = r.val / 8192; omega)
  have e2 : (⟨off + q.val, by omega⟩ : Fin 2560) = n := Fin.ext hn.symm
  have hx : (fun k => (iblk m c 0 t : S512x1024.Idx → EReal) (ix2 p k)) = argX m c ⟨r.val / 8192, by omega⟩ ⟨r.val % 8192, by omega⟩ := by
    funext k; rw [blkRows_at, e0]; exact rows_at m c r k
  have hg : (fun k => (iblk m c 2 t : S1x1024.Idx → EReal) (ix2 0 k)) = argG m c := by
    funext k; rw [blkGain_at]; exact gain_at m c k
  have hs : (fun k => (iblk m c 1 t : S1x8x1024.Idx → EReal) (ix3 0 1 k)) = fun k => argM m c ⟨r.val / 8192, by omega⟩ ⟨1024 + k.val, by omega⟩ := by
    funext k; rw [blkMod_at, e1]; exact scale_at m c _ k
  have hh : (fun k => (iblk m c 1 t : S1x8x1024.Idx → EReal) (ix3 0 0 k)) = fun k => argM m c ⟨r.val / 8192, by omega⟩ ⟨k.val, by omega⟩ := by
    funext k; rw [blkMod_at, e1]; exact shift_at m c _ k
  have hc : (fun k => (iblk m c 3 t : S1024x2560.Idx → EReal) (ix2 k ⟨off + q.val, by omega⟩)) = fun k => argW m c k n := by
    funext k; rw [blkWeights_at, e2]; exact weights_at m c k n
  exact congr (congr (congr (congr (congrArg cell hx) hg) hs) hh) hc

/-- The columns of the weights the kernel loads. -/
theorem ld_weights (W : Vec Ideal S1024x2560 .bf16) (off : ℕ) (ho : off + 512 ≤ 2560) (h) (k : Fin 1024) (q : Fin 512) :
    (View.ld W (Rect.unit (s := S1024x2560) ![0, off] S1024x512.size h) : FVec Ideal S1024x512 .bf16) (ix2 k q) = W (ix2 k ⟨off + q.val, by omega⟩) := by
  pointwise

/-- The results: `n` columns of the projection, from column `off` on. -/
def cols (n off : ℕ) (h : off + n ≤ 2560) (r : Fin 65536) (q : Fin n) : EReal :=
  cellAt (argX m c) (argM m c) (argG m c) (fun k => argW m c k ⟨off + q.val, by omega⟩) r

def outU : FVec Ideal S65536x1024 .bf16 := fun y => cols m c 1024 0 (by decide) (y 0) (y 1)
def outV : FVec Ideal S65536x512 .bf16 := fun y => cols m c 512 1024 (by decide) (y 0) (y 1)
def outZ : FVec Ideal S65536x1024 .bf16 := fun y => cols m c 1024 1536 (by decide) (y 0) (y 1)

theorem final4 : (dats m 0 c).arrAt 4 cfg0.N = outU m c := by
  refine (dats m 0 c).arrAt_eq_of_covers 4 _ (by decide +kernel) fun t hf (y : S512x1024.Idx) => ?_
  have ht := lt_points t
  blk_simp; rw [after0_4]; unfold out0_4
  canon_tiles y h
  · refine pieceArg_at m c t _ 512 (by decide) (ld_weights _ 512 (by decide) _) _ _ _ ?_ ?_
    all_goals blk_simp [index_out4]
    all_goals first | omega | (dsimp only; omega)
  · refine pieceArg_at m c t _ 0 (by decide) (ld_weights _ 0 (by decide) _) _ _ _ ?_ ?_
    all_goals blk_simp [index_out4]
    all_goals first | omega | (dsimp only; omega)

theorem final5 : (dats m 0 c).arrAt 5 cfg0.N = outV m c := by
  refine (dats m 0 c).arrAt_eq_of_covers 5 _ (by decide +kernel) fun t hf (y : S512x512.Idx) => ?_
  have ht := lt_points t
  blk_simp; rw [after0_5]; unfold out0_5 k0_pay7
  canon_tiles y h
  refine pieceArg_at m c t _ 1024 (by decide) (ld_weights _ 1024 (by decide) _) _ _ _ ?_ ?_
  all_goals blk_simp [index_out5]
  all_goals first | omega | (dsimp only; omega)

theorem final6 : (dats m 0 c).arrAt 6 cfg0.N = outZ m c := by
  refine (dats m 0 c).arrAt_eq_of_covers 6 _ (by decide +kernel) fun t hf (y : S512x1024.Idx) => ?_
  have ht := lt_points t
  blk_simp; rw [after0_6]; unfold out0_6 k0_pay7
  canon_tiles y h
  · refine pieceArg_at m c t _ 2048 (by decide) (ld_weights _ 2048 (by decide) _) _ _ _ ?_ ?_
    all_goals blk_simp [index_out6]
    all_goals first | omega | (dsimp only; omega)
  · refine pieceArg_at m c t _ 1536 (by decide) (ld_weights _ 1536 (by decide) _) _ _ _ ?_ ?_
    all_goals blk_simp [index_out6]
    all_goals first | omega | (dsimp only; omega)

/-- The call runs and leaves the projections in its results. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v7_0) = outU m c
      ∧ r.2.mem ((c : Thread nD τ).loc main_v7_1) = outV m c
      ∧ r.2.mem ((c : Thread nD τ).loc main_v7_2) = outZ m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩)
    (Cert.OddProjIdeal.Value.run_blocks m ρ)

end Cert.OddProjIdeal.Proj
end
-- ==== Proof.Proj.OddRef.lean ====
/- The reference's odd projections at an index. -/
module

public import proofs.«01_k».proof.Proof.Gen.OddRefIdeal.Run
public import proofs.«01_k».proof.Proof.Proj.Spec
public import Idealize.ShloMosaic.Lib.Pointwise

@[expose] public section

set_option maxRecDepth 16384

noncomputable section

namespace Cert.OddRefIdeal.Proj

open Cert.OddRefIdeal Cert.OddRefIdeal.Gen Cert.Proj
open Idealize.ShloMosaic Idealize.ShloMosaic.TcCoe Idealize.SL.Sem

/-- The rows normed and modulated, as the reference writes them. -/
def hidden (x : FVec Ideal S8x8192x1024 .f32) (M : FVec Ideal S16x6144 .f32) (g : FVec Ideal S1024 .f32) : FVec Ideal S8x8192x1024 .f32 :=
  addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1
    (Host.reduceAdd (mulf x x) (constant S_ .f32 0x00000000#32) reducesTo_S8x8192x1024_S8x8192_d2 h_S_)) (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g)))
    (broadcastInDim S8x8192x1024 ![0, 1, 2] bcast_S8x1x1024_S8x8192x1024_0_1_2 (addf (broadcastInDim S8x1x1024 ![] bcast_S_S8x1x1024 (constant S_ .f32 0x3F800000#32))
      (broadcastInDim S8x1x1024 ![0, 2] bcast_S8x1024_S8x1x1024_0_2 (extractStridedSlice S8x1024 ![0, 1024] (extractStridedSlice S8x6144 ![0, 0] M slices_S16x6144_S8x6144_0_0) slices_S8x6144_S8x1024_0_1024)))))
    (broadcastInDim S8x8192x1024 ![0, 1, 2] bcast_S8x1x1024_S8x8192x1024_0_1_2 (broadcastInDim S8x1x1024 ![0, 2] bcast_S8x1024_S8x1x1024_0_2
      (extractStridedSlice S8x1024 ![0, 0] (extractStridedSlice S8x6144 ![0, 0] M slices_S16x6144_S8x6144_0_0) slices_S8x6144_S8x1024_0_0)))

theorem hidden_at (x : FVec Ideal S8x8192x1024 .f32) (M : FVec Ideal S16x6144 .f32) (g : FVec Ideal S1024 .f32) (a : Fin 8) (s : Fin 8192) (k : Fin 1024) :
    hidden x M g (ix3 a s k) = normed (fun k => x (ix3 a s k)) (fun k => g (ix1 k)) (fun k => M (ix2 ⟨a.val, by omega⟩ ⟨1024 + k.val, by omega⟩))
      (fun k => M (ix2 ⟨a.val, by omega⟩ ⟨k.val, by omega⟩)) k := by
  unfold normed
  pointwise [hidden]

/-- The projection of every row, rounded. -/
def all (x : FVec Ideal S8x8192x1024 .f32) (M : FVec Ideal S16x6144 .f32) (g : FVec Ideal S1024 .f32) (w : FVec Ideal S1024x2560 .f32) : FVec Ideal S65536x2560 .bf16 :=
  truncf .bf16 (shapeCast _ (Host.dotGeneral dot_S8x8192x1024_S1024x2560_S8x8192x2560_2_0_01_1_n_n none (hidden x M g) w) shapeCasts_S8x8192x2560_S65536x2560) bitsLt_bf16_f32

theorem all_at (x : FVec Ideal S8x8192x1024 .f32) (M : FVec Ideal S16x6144 .f32) (g : FVec Ideal S1024 .f32) (w : FVec Ideal S1024x2560 .f32) (r : Fin 65536) (n : Fin 2560) :
    all x M g w (ix2 r n) = cellAt (fun a s k => x (ix3 a s k)) (fun a k => M (ix2 a k)) (fun k => g (ix1 k)) (fun k => w (ix2 k n)) r := by
  have e : all x M g w (ix2 r n) = ∑ k : Fin 1024, hidden x M g (ix3 ⟨r.val / 8192, by omega⟩ ⟨r.val % 8192, by omega⟩ k) * w (ix2 k n) := by
    pointwise [all]
  exact e.trans (Finset.sum_congr rfl fun k _ => congrArg₂ (· * ·) (hidden_at x M g _ _ k) rfl)

/-- The three results at an index. -/
theorem u_at (P : FVec Ideal S65536x2560 .bf16) (r : Fin 65536) (q : Fin 1024) :
    extractStridedSlice S65536x1024 ![0, 0] P slices_S65536x2560_S65536x1024_0_0 (ix2 r q) = P (ix2 r ⟨0 + q.val, by omega⟩) := by
  pointwise

theorem v_at (P : FVec Ideal S65536x2560 .bf16) (r : Fin 65536) (q : Fin 512) :
    extractStridedSlice S65536x512 ![0, 1024] P slices_S65536x2560_S65536x512_0_1024 (ix2 r q) = P (ix2 r ⟨1024 + q.val, by omega⟩) := by
  pointwise

theorem z_at (P : FVec Ideal S65536x2560 .bf16) (r : Fin 65536) (q : Fin 1024) :
    extractStridedSlice S65536x1024 ![0, 1536] P slices_S65536x2560_S65536x1024_0_1536 (ix2 r q) = P (ix2 r ⟨1536 + q.val, by omega⟩) := by
  pointwise

variable (m : (ℓ : Loc nD τ sig) → Buf (Elt Ideal) ℓ)

/-- The columns of the projection from `off` on, of the arguments in memory. -/
def cols (c : Dev nD) (n off : ℕ) (h : off + n ≤ 2560) (r : Fin 65536) (q : Fin n) : EReal :=
  cellAt (fun a s k => (m ((c.tc : Thread nD τ).loc main_arg0) : FVec Ideal S8x8192x1024 .f32) (ix3 a s k))
    (fun a k => (m ((c.tc : Thread nD τ).loc main_arg1) : FVec Ideal S16x6144 .f32) (ix2 a k))
    (fun k => (m ((c.tc : Thread nD τ).loc main_arg2) : FVec Ideal S1024 .f32) (ix1 k))
    (fun k => (m ((c.tc : Thread nD τ).loc main_arg3) : FVec Ideal S1024x2560 .f32) (ix2 k ⟨off + q.val, by omega⟩)) r

theorem idx_eq (A B : ℕ) (y : (⟨2, ![A, B]⟩ : Shape).Idx) : y = ix2 (y 0) (y 1) := by
  funext a; match a with | ⟨0, _⟩ => rfl | ⟨1, _⟩ => rfl

/-- The reference runs and leaves the projections in its results, its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v31) = (fun y => cols m c 1024 0 (by decide) (y 0) (y 1) : FVec Ideal S65536x1024 .bf16)
      ∧ r.2.mem ((c.tc : Thread nD τ).loc main_v32) = (fun y => cols m c 512 1024 (by decide) (y 0) (y 1) : FVec Ideal S65536x512 .bf16)
      ∧ r.2.mem ((c.tc : Thread nD τ).loc main_v33) = (fun y => cols m c 1024 1536 (by decide) (y 0) (y 1) : FVec Ideal S65536x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => (congrArg _ (idx_eq 65536 1024 y)).trans ((u_at _ (y 0) (y 1)).trans (all_at _ _ _ _ _ _))),
     (h c).2.1.trans (funext fun y => (congrArg _ (idx_eq 65536 512 y)).trans ((v_at _ (y 0) (y 1)).trans (all_at _ _ _ _ _ _))),
     (h c).2.2.1.trans (funext fun y => (congrArg _ (idx_eq 65536 1024 y)).trans ((z_at _ (y 0) (y 1)).trans (all_at _ _ _ _ _ _))), (h c).2.2.2⟩)
    (Cert.OddRefIdeal.Value.run m ρ)

/-- The reference runs, leaves its arguments and every counter as they were. -/
theorem frame (ρ : Dev nD → PrngReg) : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2, sem_eq_zero_of_no_sems (by decide) _⟩) (Cert.OddRefIdeal.Value.run m ρ)

end Cert.OddRefIdeal.Proj
end
-- ==== Proof.Proj.EvenKern.lean ====
/- The even layers' projection call: each result array at an index. -/
module

public import proofs.«01_k».proof.Proof.Gen.EvenProjIdeal.Value
public import proofs.«01_k».proof.Proof.Proj.OddKern
public import Idealize.ShloMosaic.Lib.Pipeline.ValueKit

@[expose] public section

set_option maxRecDepth 16384

noncomputable section

namespace Cert.EvenProjIdeal.Proj

open Cert.EvenProjIdeal Cert.EvenProjIdeal.Gen Cert.Proj
open Idealize.ShloMosaic Idealize.ShloMosaic.TcCoe Idealize.ShloMosaic.Pipeline Idealize.SL.Sem

/-- The block's rows, normed and modulated. -/
theorem norm_at (x0 : Vec Ideal S512x1024 .f32) (x1 : Vec Ideal S1x8x1024 .f32) (x2 : Vec Ideal S1x1024 .f32) (p : Fin 512) (k : Fin 1024) :
    k0_pay2 (View.ld x0 r0_0) (View.ld x2 r0_1) (View.ld x1 r0_2) (View.ld x1 r0_3) (ix2 p k)
      = normed (fun k => x0 (ix2 p k)) (fun k => x2 (ix2 0 k)) (fun k => x1 (ix3 0 1 k)) (fun k => x1 (ix3 0 0 k)) k :=
  Cert.OddProjIdeal.Proj.norm_at x0 x1 x2 p k

/-- A product with a block of 512 columns. -/
theorem prod_at (h : FVec Ideal S512x1024 .bf16) (w : FVec Ideal S1024x512 .bf16) (p q : Fin 512) :
    k0_pay5 h w (ix2 p q) = ∑ k : Fin 1024, h (ix2 p k) * w (ix2 k q) :=
  Cert.OddProjIdeal.Proj.prod_at h w p q

/-- A product with the 128 low-rank columns. -/
theorem prodTail_at (h : FVec Ideal S512x1024 .bf16) (w : FVec Ideal S1024x128 .bf16) (p : Fin 512) (q : Fin 128) :
    k0_pay1 h w (ix2 p q) = ∑ k : Fin 1024, h (ix2 p k) * w (ix2 k q) := by
  pointwise [k0_pay1]

variable (m : (ℓ : Loc nD τ sig) → Buf (Elt Ideal) ℓ) (c : Dev nD)

/-- The arguments as functions of numbers. -/
def argX (a : Fin 8) (s : Fin 8192) (k : Fin 1024) : EReal := (m (c, main_arg0) : FVec Ideal S8x8192x1024 .f32) (ix3 a s k)
def argM (a : Fin 16) (k : Fin 6144) : EReal := (m (c, main_arg1) : FVec Ideal S16x6144 .f32) (ix2 a k)
def argG (k : Fin 1024) : EReal := (m (c, main_arg2) : FVec Ideal S1024 .f32) (ix1 k)
def argW (k : Fin 1024) (n : Fin 3616) : EReal := (m (c, main_arg3) : FVec Ideal S1024x3616 .f32) (ix2 k n)

theorem rows_at (r : Fin 65536) (k : Fin 1024) :
    (V m c main_v0 : FVec Ideal S65536x1024 .f32) (ix2 r k) = argX m c ⟨r.val / 8192, by omega⟩ ⟨r.val % 8192, by omega⟩ k := by
  unfold V argX
  after_results_simp
  pointwise

theorem gain_at (k : Fin 1024) : (V m c main_v17 : FVec Ideal S1x1024 .f32) (ix2 0 k) = argG m c k := by
  unfold V argG
  after_results_simp
  pointwise

/-- The large weights: the columns before the low-rank ones, then those after. -/
theorem weights_at (k : Fin 1024) (n : Fin 3584) (n' : Fin 3616) (h : n'.val = if n.val < 3072 then n.val else n.val + 32) :
    (V m c main_v12 : FVec Ideal S1024x3584 .bf16) (ix2 k n) = argW m c k n' := by
  have e : ∀ (j : ℕ) (hj : j < 3616), j = n'.val → (m (c, main_arg3) : FVec Ideal S1024x3616 .f32) (ix2 k ⟨j, hj⟩) = argW m c k n' := by
    intro j hj e
    exact congrArg (argW m c k) (Fin.ext e)
  unfold V
  after_results_simp
  pointwise
  by_cases c0 : n.val < 512
  · rw [if_pos (show n.val < 3072 by omega)] at h
    rw [dif_pos c0]; after_results_simp; pointwise; exact e _ _ (by omega)
  rw [dif_neg c0]
  by_cases c1 : n.val - 512 < 512
  · rw [if_pos (show n.val < 3072 by omega)] at h
    rw [dif_pos c1]; after_results_simp; pointwise; exact e _ _ (by omega)
  rw [dif_neg c1]
  by_cases c2 : n.val - 512 - 512 < 1024
  · rw [if_pos (show n.val < 3072 by omega)] at h
    rw [dif_pos c2]; after_results_simp; pointwise; exact e _ _ (by omega)
  rw [dif_neg c2]
  by_cases c3 : n.val - 512 - 512 - 1024 < 1024
  · rw [if_pos (show n.val < 3072 by omega)] at h
    rw [dif_pos c3]; after_results_simp; pointwise; exact e _ _ (by omega)
  rw [dif_neg c3, if_neg (show ¬ n.val < 3072 by omega)] at *
  after_results_simp; pointwise; exact e _ _ (by omega)

/-- The low-rank weights, then zeros. -/
theorem tail_at (k : Fin 1024) (n : Fin 128) :
    (V m c main_v15 : FVec Ideal S1024x128 .bf16) (ix2 k n) = if h : n.val < 32 then argW m c k ⟨3072 + n.val, by omega⟩ else 0 := by
  have e : ∀ (j : ℕ) (hj : j < 3616), n.val < 32 → j = 3072 + n.val →
      (m (c, main_arg3) : FVec Ideal S1024x3616 .f32) (ix2 k ⟨j, hj⟩) = if h : n.val < 32 then argW m c k ⟨3072 + n.val, by omega⟩ else 0 := by
    intro j hj l e
    rw [dif_pos l]
    exact congrArg (argW m c k) (Fin.ext e)
  unfold V
  after_results_simp
  pointwise
  by_cases c0 : n.val < 16
  · rw [dif_pos c0]; after_results_simp; pointwise; exact e _ _ (by omega) (by omega)
  rw [dif_neg c0]
  by_cases c1 : n.val - 16 < 16
  · rw [dif_pos c1]; after_results_simp; pointwise; exact e _ _ (by omega) (by omega)
  rw [dif_neg c1, dif_neg (show ¬ n.val < 32 by omega)]
  after_results_simp; pointwise

theorem scale_at (a : Fin 8) (k : Fin 1024) :
    (V m c main_v16 : FVec Ideal S8x8x1024 .f32) (ix3 a 1 k) = argM m c ⟨a.val, by omega⟩ ⟨1024 + k.val, by omega⟩ := by
  unfold V argM
  after_results_simp
  pointwise
  after_results_simp
  pointwise

theorem shift_at (a : Fin 8) (k : Fin 1024) :
    (V m c main_v16 : FVec Ideal S8x8x1024 .f32) (ix3 a 0 k) = argM m c ⟨a.val, by omega⟩ ⟨k.val, by omega⟩ := by
  unfold V argM
  after_results_simp
  pointwise
  after_results_simp
  pointwise

/-- The block of each window at a point of the grid. -/
theorem index_rows : ∀ t : Fin cfg0.N, win0_0.index t = ![t.val, 0] := by decide +kernel
theorem index_mod : ∀ t : Fin cfg0.N, win0_1.index t = ![t.val / 16, 0, 0] := by decide +kernel
theorem index_gain : ∀ t : Fin cfg0.N, win0_2.index t = ![0, 0] := by decide +kernel
theorem index_weights : ∀ t : Fin cfg0.N, win0_3.index t = ![0, 0] := by decide +kernel
theorem index_tail : ∀ t : Fin cfg0.N, win0_4.index t = ![0, 0] := by decide +kernel
theorem index_out5 : ∀ t : Fin cfg0.N, win0_5.index t = ![t.val, 0] := by decide +kernel
theorem index_out6 : ∀ t : Fin cfg0.N, win0_6.index t = ![t.val, 0] := by decide +kernel
theorem index_out7 : ∀ t : Fin cfg0.N, win0_7.index t = ![t.val, 0] := by decide +kernel
theorem index_out8 : ∀ t : Fin cfg0.N, win0_8.index t = ![t.val, 0] := by decide +kernel
theorem index_out9 : ∀ t : Fin cfg0.N, win0_9.index t = ![t.val, 0] := by decide +kernel
theorem index_out10 : ∀ t : Fin cfg0.N, win0_10.index t = ![t.val, 0] := by decide +kernel

theorem lt_points (t : Fin cfg0.N) : t.val < 128 := t.isLt

theorem blkRows_at (t : Fin cfg0.N) (p : Fin 512) (k : Fin 1024) :
    (iblk m c 0 t : S512x1024.Idx → EReal) (ix2 p k) = (V m c main_v0 : S65536x1024.Idx → EReal) (ix2 ⟨t.val * 512 + p.val, by have := lt_points t; omega⟩ k) := by
  blk_ext [iblk, index_rows]

theorem blkMod_at (t : Fin cfg0.N) (j : Fin 8) (k : Fin 1024) :
    (iblk m c 1 t : S1x8x1024.Idx → EReal) (ix3 0 j k) = (V m c main_v16 : S8x8x1024.Idx → EReal) (ix3 ⟨t.val / 16, by have := lt_points t; omega⟩ j k) := by
  blk_ext [iblk, index_mod]

theorem blkGain_at (t : Fin cfg0.N) (k : Fin 1024) :
    (iblk m c 2 t : S1x1024.Idx → EReal) (ix2 0 k) = (V m c main_v17 : S1x1024.Idx → EReal) (ix2 0 k) := by
  blk_ext [iblk, index_gain]

theorem blkWeights_at (t : Fin cfg0.N) (k : Fin 1024) (n : Fin 3584) :
    (iblk m c 3 t : S1024x3584.Idx → EReal) (ix2 k n) = (V m c main_v12 : S1024x3584.Idx → EReal) (ix2 k n) := by
  blk_ext [iblk, index_weights]

theorem blkTail_at (t : Fin cfg0.N) (k : Fin 1024) (n : Fin 128) :
    (iblk m c 4 t : S1024x128.Idx → EReal) (ix2 k n) = (V m c main_v15 : S1024x128.Idx → EReal) (ix2 k n) := by
  blk_ext [iblk, index_tail]

/-- The block's row `p` at point `t` against a column, as the entry of its row. -/
theorem sum_at (t : Fin cfg0.N) (p : Fin 512) (w : Fin 1024 → EReal) (r : Fin 65536) (hr : r.val = t.val * 512 + p.val) :
    ∑ k, (k0_pay2 (View.ld (iblk m c 0 t) r0_0) (View.ld (iblk m c 2 t) r0_1) (View.ld (iblk m c 1 t) r0_2) (View.ld (iblk m c 1 t) r0_3) : S512x1024.Idx → EReal) (ix2 p k) * w k
      = cellAt (argX m c) (argM m c) (argG m c) w r := by
  have ht := lt_points t
  refine (Finset.sum_congr rfl fun k _ => congrArg₂ (· * ·) (norm_at (iblk m c 0 t) (iblk m c 1 t) (iblk m c 2 t) p k) rfl).trans ?_
  show cell _ _ _ _ w = _
  unfold cellAt
  have e0 : (⟨t.val * 512 + p.val, by omega⟩ : Fin 65536) = r := Fin.ext hr.symm
  have e1 : (⟨t.val / 16, by omega⟩ : Fin 8) = ⟨r.val / 8192, by omega⟩ := Fin.ext (by show t.val / 16 = r.val / 8192; omega)
  have hx : (fun k => (iblk m c 0 t : S512x1024.Idx → EReal) (ix2 p k)) = argX m c ⟨r.val / 8192, by omega⟩ ⟨r.val % 8192, by omega⟩ := by
    funext k; rw [blkRows_at, e0]; exact rows_at m c r k
  have hg : (fun k => (iblk m c 2 t : S1x1024.Idx → EReal) (ix2 0 k)) = argG m c := by
    funext k; rw [blkGain_at]; exact gain_at m c k
  have hs : (fun k => (iblk m c 1 t : S1x8x1024.Idx → EReal) (ix3 0 1 k)) = fun k => argM m c ⟨r.val / 8192, by omega⟩ ⟨1024 + k.val, by omega⟩ := by
    funext k; rw [blkMod_at, e1]; exact scale_at m c _ k
  have hh : (fun k => (iblk m c 1 t : S1x8x1024.Idx → EReal) (ix3 0 0 k)) = fun k => argM m c ⟨r.val / 8192, by omega⟩ ⟨k.val, by omega⟩ := by
    funext k; rw [blkMod_at, e1]; exact shift_at m c _ k
  exact congrFun (congr (congr (congr (congrArg cell hx) hg) hs) hh) w

/-- The columns of the weights the kernel loads. -/
theorem ld_weights (t : Fin cfg0.N) (off : ℕ) (ho : off + 512 ≤ 3584) (h) (k : Fin 1024) (q : Fin 512) :
    (View.ld (iblk m c 3 t : Vec Ideal S1024x3584 .bf16) (Rect.unit (s := S1024x3584) ![0, off] S1024x512.size h) : FVec Ideal S1024x512 .bf16) (ix2 k q)
      = (iblk m c 3 t : S1024x3584.Idx → EReal) (ix2 k ⟨off + q.val, by omega⟩) := by
  pointwise

/-- A piece of the block of results at point `t`, as the entry of its row and column. -/
theorem pieceArg_at (t : Fin cfg0.N) (w : FVec Ideal S1024x512 .bf16) (off : ℕ) (ho : off + 512 ≤ 3584)
    (hw : ∀ (k : Fin 1024) (q : Fin 512), w (ix2 k q) = (iblk m c 3 t : S1024x3584.Idx → EReal) (ix2 k ⟨off + q.val, by omega⟩)) (y : S512x512.Idx)
    (r : Fin 65536) (n : Fin 3616) (hr : r.val = t.val * 512 + (y 0).val) (hn : n.val = if off + (y 1).val < 3072 then off + (y 1).val else off + (y 1).val + 32) :
    k0_pay5 (k0_pay2 (View.ld (iblk m c 0 t) r0_0) (View.ld (iblk m c 2 t) r0_1) (View.ld (iblk m c 1 t) r0_2) (View.ld (iblk m c 1 t) r0_3)) w y
      = cellAt (argX m c) (argM m c) (argG m c) (fun k => argW m c k n) r := by
  obtain ⟨p, q, rfl⟩ : ∃ (p q : Fin 512), y = ix2 p q := ⟨y 0, y 1, by funext a; match a with | ⟨0, _⟩ => rfl | ⟨1, _⟩ => rfl⟩
  refine (prod_at _ _ p q).trans ((Finset.sum_congr rfl fun k _ => congrArg _ ?_).trans (sum_at m c t p (fun k => argW m c k n) r hr))
  exact (hw k q).trans ((blkWeights_at m c t k _).trans (weights_at m c k _ n hn))

/-- The low-rank piece. -/
theorem pieceTail_at (t : Fin cfg0.N) (y : S512x128.Idx) (r : Fin 65536) (n : Fin 128) (hr : r.val = t.val * 512 + (y 0).val) (hn : n.val = (y 1).val) :
    k0_pay1 (k0_pay2 (View.ld (iblk m c 0 t) r0_0) (View.ld (iblk m c 2 t) r0_1) (View.ld (iblk m c 1 t) r0_2) (View.ld (iblk m c 1 t) r0_3)) (View.ld (iblk m c 4 t) r0_14) y
      = tailAt (argX m c) (argM m c) (argG m c) (argW m c) r n := by
  obtain ⟨p, q, rfl⟩ : ∃ (p : Fin 512) (q : Fin 128), y = ix2 p q := ⟨y 0, y 1, by funext a; match a with | ⟨0, _⟩ => rfl | ⟨1, _⟩ => rfl⟩
  obtain rfl : n = q := Fin.ext hn
  have hw : ∀ k : Fin 1024, (View.ld (iblk m c 4 t : Vec Ideal S1024x128 .bf16) r0_14 : FVec Ideal S1024x128 .bf16) (ix2 k n)
      = if h : n.val < 32 then argW m c k ⟨3072 + n.val, by omega⟩ else 0 := by
    intro k
    refine Eq.trans ?_ ((blkTail_at m c t k n).trans (tail_at m c k n))
    pointwise [r0_14]
  refine (prodTail_at _ _ p n).trans ((Finset.sum_congr rfl fun k _ => congrArg _ (hw k)).trans ((sum_at m c t p _ r hr).trans ?_))
  unfold tailAt
  by_cases h : n.val < 32
  · rw [if_pos h]; simp only [dif_pos h]
  · rw [if_neg h]; simp only [dif_neg h]; exact cellAt_zero _ _ _ _

/-- The results: `n` columns of the projection, from column `off` on. -/
def cols (n off : ℕ) (h : off + n ≤ 3616) (r : Fin 65536) (q : Fin n) : EReal :=
  cellAt (argX m c) (argM m c) (argG m c) (fun k => argW m c k ⟨off + q.val, by omega⟩) r

def outQ : FVec Ideal S65536x512 .bf16 := fun y => cols m c 512 0 (by decide) (y 0) (y 1)
def outK : FVec Ideal S65536x512 .bf16 := fun y => cols m c 512 512 (by decide) (y 0) (y 1)
def outV : FVec Ideal S65536x1024 .bf16 := fun y => cols m c 1024 1024 (by decide) (y 0) (y 1)
def outR : FVec Ideal S65536x1024 .bf16 := fun y => cols m c 1024 2048 (by decide) (y 0) (y 1)
def outF : FVec Ideal S65536x512 .bf16 := fun y => cols m c 512 3104 (by decide) (y 0) (y 1)
def outTail : FVec Ideal S65536x128 .f32 := fun y => tailAt (argX m c) (argM m c) (argG m c) (argW m c) (y 0) (y 1)

theorem final5 : (dats m 0 c).arrAt 5 cfg0.N = outQ m c := by
  refine (dats m 0 c).arrAt_eq_of_covers 5 _ (by decide +kernel) fun t hf (y : S512x512.Idx) => ?_
  have ht := lt_points t
  blk_simp; rw [after0_5]; unfold out0_5
  canon_tiles y h
  · refine pieceArg_at m c t _ 0 (by decide) (ld_weights m c t 0 (by decide) _) _ _ _ ?_ ?_
    all_goals blk_simp [index_out5]
    all_goals first | omega | (dsimp only; split <;> omega)

theorem final6 : (dats m 0 c).arrAt 6 cfg0.N = outK m c := by
  refine (dats m 0 c).arrAt_eq_of_covers 6 _ (by decide +kernel) fun t hf (y : S512x512.Idx) => ?_
  have ht := lt_points t
  blk_simp; rw [after0_6]; unfold out0_6
  canon_tiles y h
  · refine pieceArg_at m c t _ 512 (by decide) (ld_weights m c t 512 (by decide) _) _ _ _ ?_ ?_
    all_goals blk_simp [index_out6]
    all_goals first | omega | (dsimp only; split <;> omega)

theorem final7 : (dats m 0 c).arrAt 7 cfg0.N = outV m c := by
  refine (dats m 0 c).arrAt_eq_of_covers 7 _ (by decide +kernel) fun t hf (y : S512x1024.Idx) => ?_
  have ht := lt_points t
  blk_simp; rw [after0_7]; unfold out0_7 k0_pay10
  canon_tiles y h
  · refine pieceArg_at m c t _ 1536 (by decide) (ld_weights m c t 1536 (by decide) _) _ _ _ ?_ ?_
    all_goals blk_simp [index_out7]
    all_goals first | omega | (dsimp only; split <;> omega)
  · refine pieceArg_at m c t _ 1024 (by decide) (ld_weights m c t 1024 (by decide) _) _ _ _ ?_ ?_
    all_goals blk_simp [index_out7]
    all_goals first | omega | (dsimp only; split <;> omega)

theorem final8 : (dats m 0 c).arrAt 8 cfg0.N = outR m c := by
  refine (dats m 0 c).arrAt_eq_of_covers 8 _ (by decide +kernel) fun t hf (y : S512x1024.Idx) => ?_
  have ht := lt_points t
  blk_simp; rw [after0_8]; unfold out0_8 k0_pay10
  canon_tiles y h
  · refine pieceArg_at m c t _ 2560 (by decide) (ld_weights m c t 2560 (by decide) _) _ _ _ ?_ ?_
    all_goals blk_simp [index_out8]
    all_goals first | omega | (dsimp only; split <;> omega)
  · refine pieceArg_at m c t _ 2048 (by decide) (ld_weights m c t 2048 (by decide) _) _ _ _ ?_ ?_
    all_goals blk_simp [index_out8]
    all_goals first | omega | (dsimp only; split <;> omega)

theorem final9 : (dats m 0 c).arrAt 9 cfg0.N = outF m c := by
  refine (dats m 0 c).arrAt_eq_of_covers 9 _ (by decide +kernel) fun t hf (y : S512x512.Idx) => ?_
  have ht := lt_points t
  blk_simp; rw [after0_9]; unfold out0_9 k0_pay10
  canon_tiles y h
  · refine pieceArg_at m c t _ 3072 (by decide) (ld_weights m c t 3072 (by decide) _) _ _ _ ?_ ?_
    all_goals blk_simp [index_out9]
    all_goals first | omega | (dsimp only; split <;> omega)

theorem final10 : (dats m 0 c).arrAt 10 cfg0.N = outTail m c := by
  refine (dats m 0 c).arrAt_eq_of_covers 10 _ (by decide +kernel) fun t hf (y : S512x128.Idx) => ?_
  have ht := lt_points t
  blk_simp; rw [after0_10]; unfold out0_10 k0_pay10
  canon_tiles y h
  · refine pieceTail_at m c t _ _ _ ?_ ?_
    all_goals blk_simp [index_out10]
    all_goals first | omega | (dsimp only; split <;> omega)

/-- The call runs and leaves the projections in its results. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v18_0) = outQ m c
      ∧ r.2.mem ((c : Thread nD τ).loc main_v18_1) = outK m c
      ∧ r.2.mem ((c : Thread nD τ).loc main_v18_2) = outV m c
      ∧ r.2.mem ((c : Thread nD τ).loc main_v18_3) = outR m c
      ∧ r.2.mem ((c : Thread nD τ).loc main_v18_4) = outF m c
      ∧ r.2.mem ((c : Thread nD τ).loc main_v18_5) = outTail m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2.1.trans (final7 m c), (h c).2.2.2.1.trans (final8 m c),
      (h c).2.2.2.2.1.trans (final9 m c), (h c).2.2.2.2.2.1.trans (final10 m c), (h c).2.2.2.2.2.2⟩)
    (Cert.EvenProjIdeal.Value.run_blocks m ρ)

end Cert.EvenProjIdeal.Proj
end
-- ==== Proof.Proj.EvenRef.lean ====
/- The reference's even projections at an index. -/
module

public import proofs.«01_k».proof.Proof.Gen.EvenRefIdeal.Run
public import proofs.«01_k».proof.Proof.Proj.OddRef
public import Idealize.ShloMosaic.Lib.Pointwise

@[expose] public section

set_option maxRecDepth 16384

noncomputable section

namespace Cert.EvenRefIdeal.Proj

open Cert.EvenRefIdeal Cert.EvenRefIdeal.Gen Cert.Proj
open Cert.OddRefIdeal.Proj (idx_eq)
open Idealize.ShloMosaic Idealize.ShloMosaic.TcCoe Idealize.SL.Sem

/-- The rows normed and modulated, as the reference writes them. -/
def hidden (x : FVec Ideal S8x8192x1024 .f32) (M : FVec Ideal S16x6144 .f32) (g : FVec Ideal S1024 .f32) : FVec Ideal S8x8192x1024 .f32 :=
  addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1
    (Host.reduceAdd (mulf x x) (constant S_ .f32 0x00000000#32) reducesTo_S8x8192x1024_S8x8192_d2 h_S_)) (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g)))
    (broadcastInDim S8x8192x1024 ![0, 1, 2] bcast_S8x1x1024_S8x8192x1024_0_1_2 (addf (broadcastInDim S8x1x1024 ![] bcast_S_S8x1x1024 (constant S_ .f32 0x3F800000#32))
      (broadcastInDim S8x1x1024 ![0, 2] bcast_S8x1024_S8x1x1024_0_2 (extractStridedSlice S8x1024 ![0, 1024] (extractStridedSlice S8x6144 ![0, 0] M slices_S16x6144_S8x6144_0_0) slices_S8x6144_S8x1024_0_1024)))))
    (broadcastInDim S8x8192x1024 ![0, 1, 2] bcast_S8x1x1024_S8x8192x1024_0_1_2 (broadcastInDim S8x1x1024 ![0, 2] bcast_S8x1024_S8x1x1024_0_2
      (extractStridedSlice S8x1024 ![0, 0] (extractStridedSlice S8x6144 ![0, 0] M slices_S16x6144_S8x6144_0_0) slices_S8x6144_S8x1024_0_0)))

theorem hidden_at (x : FVec Ideal S8x8192x1024 .f32) (M : FVec Ideal S16x6144 .f32) (g : FVec Ideal S1024 .f32) (a : Fin 8) (s : Fin 8192) (k : Fin 1024) :
    hidden x M g (ix3 a s k) = normed (fun k => x (ix3 a s k)) (fun k => g (ix1 k)) (fun k => M (ix2 ⟨a.val, by omega⟩ ⟨1024 + k.val, by omega⟩))
      (fun k => M (ix2 ⟨a.val, by omega⟩ ⟨k.val, by omega⟩)) k := by
  unfold normed
  pointwise [hidden]

/-- The projection of every row. -/
def all (x : FVec Ideal S8x8192x1024 .f32) (M : FVec Ideal S16x6144 .f32) (g : FVec Ideal S1024 .f32) (w : FVec Ideal S1024x3616 .f32) : FVec Ideal S65536x3616 .f32 :=
  shapeCast _ (Host.dotGeneral dot_S8x8192x1024_S1024x3616_S8x8192x3616_2_0_01_1_n_n none (hidden x M g) w) shapeCasts_S8x8192x3616_S65536x3616

theorem all_at (x : FVec Ideal S8x8192x1024 .f32) (M : FVec Ideal S16x6144 .f32) (g : FVec Ideal S1024 .f32) (w : FVec Ideal S1024x3616 .f32) (r : Fin 65536) (n : Fin 3616) :
    all x M g w (ix2 r n) = cellAt (fun a s k => x (ix3 a s k)) (fun a k => M (ix2 a k)) (fun k => g (ix1 k)) (fun k => w (ix2 k n)) r := by
  have e : all x M g w (ix2 r n) = ∑ k : Fin 1024, hidden x M g (ix3 ⟨r.val / 8192, by omega⟩ ⟨r.val % 8192, by omega⟩ k) * w (ix2 k n) := by
    unfold all
    pointwise
  exact e.trans (Finset.sum_congr rfl fun k _ => congrArg₂ (· * ·) (hidden_at x M g _ _ k) rfl)

/-- 512 and 1024 columns of it, rounded. -/
theorem cols512_at (P : FVec Ideal S65536x3616 .f32) (off : ℕ) (ho : off + 512 ≤ 3616) (h) (r : Fin 65536) (q : Fin 512) :
    truncf .bf16 (extractStridedSlice S65536x512 ![0, off] P h) bitsLt_bf16_f32 (ix2 r q) = P (ix2 r ⟨off + q.val, by omega⟩) := by
  pointwise

theorem cols1024_at (P : FVec Ideal S65536x3616 .f32) (off : ℕ) (ho : off + 1024 ≤ 3616) (h) (r : Fin 65536) (q : Fin 1024) :
    truncf .bf16 (extractStridedSlice S65536x1024 ![0, off] P h) bitsLt_bf16_f32 (ix2 r q) = P (ix2 r ⟨off + q.val, by omega⟩) := by
  pointwise

/-- The low-rank columns, then zeros. -/
theorem tail_at (P : FVec Ideal S65536x3616 .f32) (r : Fin 65536) (q : Fin 128) :
    concatenate S65536x128 1 [⟨S65536x16, extractStridedSlice S65536x16 ![0, 3072] P slices_S65536x3616_S65536x16_0_3072⟩,
      ⟨S65536x16, extractStridedSlice S65536x16 ![0, 3088] P slices_S65536x3616_S65536x16_0_3088⟩,
      ⟨S65536x96, broadcastInDim S65536x96 ![] bcast_S_S65536x96 (constant (F := Ideal) S_ .f32 0x00000000#32)⟩]
      concatenates_S65536x16_S65536x16_S65536x96_S65536x128_d1 (ix2 r q)
      = if h : q.val < 32 then P (ix2 r ⟨3072 + q.val, by omega⟩) else 0 := by
  have e : ∀ (j : ℕ) (hj : j < 3616), q.val < 32 → j = 3072 + q.val →
      P (ix2 r ⟨j, hj⟩) = if h : q.val < 32 then P (ix2 r ⟨3072 + q.val, by omega⟩) else 0 := by
    intro j hj l e
    rw [dif_pos l]
    exact congrArg (fun j => P (ix2 r j)) (Fin.ext e)
  pointwise
  by_cases c0 : q.val < 16
  · rw [dif_pos c0]; exact e _ _ (by omega) (by omega)
  rw [dif_neg c0]
  by_cases c1 : q.val - 16 < 16
  · rw [dif_pos c1]; exact e _ _ (by omega) (by omega)
  rw [dif_neg c1, dif_neg (show ¬ q.val < 32 by omega)]

variable (m : (ℓ : Loc nD τ sig) → Buf (Elt Ideal) ℓ)

/-- The arguments as functions of numbers. -/
def argX (c : Dev nD) (a : Fin 8) (s : Fin 8192) (k : Fin 1024) : EReal := (m ((c.tc : Thread nD τ).loc main_arg0) : FVec Ideal S8x8192x1024 .f32) (ix3 a s k)
def argM (c : Dev nD) (a : Fin 16) (k : Fin 6144) : EReal := (m ((c.tc : Thread nD τ).loc main_arg1) : FVec Ideal S16x6144 .f32) (ix2 a k)
def argG (c : Dev nD) (k : Fin 1024) : EReal := (m ((c.tc : Thread nD τ).loc main_arg2) : FVec Ideal S1024 .f32) (ix1 k)
def argW (c : Dev nD) (k : Fin 1024) (n : Fin 3616) : EReal := (m ((c.tc : Thread nD τ).loc main_arg3) : FVec Ideal S1024x3616 .f32) (ix2 k n)

/-- The columns of the projection from `off` on, of the arguments in memory. -/
def cols (c : Dev nD) (n off : ℕ) (h : off + n ≤ 3616) (r : Fin 65536) (q : Fin n) : EReal :=
  cellAt (argX m c) (argM m c) (argG m c) (fun k => argW m c k ⟨off + q.val, by omega⟩) r

/-- The projection of the arguments in memory. -/
def allArg (c : Dev nD) : FVec Ideal S65536x3616 .f32 :=
  all (m ((c.tc : Thread nD τ).loc main_arg0)) (m ((c.tc : Thread nD τ).loc main_arg1)) (m ((c.tc : Thread nD τ).loc main_arg2)) (m ((c.tc : Thread nD τ).loc main_arg3))

theorem allArg_at (c : Dev nD) (r : Fin 65536) (n : Fin 3616) : allArg m c (ix2 r n) = cellAt (argX m c) (argM m c) (argG m c) (fun k => argW m c k n) r :=
  all_at _ _ _ _ _ _

theorem tailArg_at (c : Dev nD) (P : FVec Ideal S65536x3616 .f32) (hP : P = allArg m c) (r : Fin 65536) (q : Fin 128) :
    (if h : q.val < 32 then P (ix2 r ⟨3072 + q.val, by omega⟩) else 0) = tailAt (argX m c) (argM m c) (argG m c) (argW m c) r q := by
  subst hP
  unfold tailAt
  by_cases h : q.val < 32
  · rw [dif_pos h, if_pos h]; exact allArg_at m c _ _
  · rw [dif_neg h, if_neg h]

/-- The reference runs and leaves the projections in its results, its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v39) = (fun y => cols m c 512 0 (by decide) (y 0) (y 1) : FVec Ideal S65536x512 .bf16)
      ∧ r.2.mem ((c.tc : Thread nD τ).loc main_v40) = (fun y => cols m c 512 512 (by decide) (y 0) (y 1) : FVec Ideal S65536x512 .bf16)
      ∧ r.2.mem ((c.tc : Thread nD τ).loc main_v41) = (fun y => cols m c 1024 1024 (by decide) (y 0) (y 1) : FVec Ideal S65536x1024 .bf16)
      ∧ r.2.mem ((c.tc : Thread nD τ).loc main_v42) = (fun y => cols m c 1024 2048 (by decide) (y 0) (y 1) : FVec Ideal S65536x1024 .bf16)
      ∧ r.2.mem ((c.tc : Thread nD τ).loc main_v43) = (fun y => cols m c 512 3104 (by decide) (y 0) (y 1) : FVec Ideal S65536x512 .bf16)
      ∧ r.2.mem ((c.tc : Thread nD τ).loc main_v38) = (fun y => tailAt (argX m c) (argM m c) (argG m c) (argW m c) (y 0) (y 1) : FVec Ideal S65536x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => (congrArg _ (idx_eq 65536 512 y)).trans ((cols512_at (allArg m c) 0 (by decide) _ (y 0) (y 1)).trans (allArg_at m c _ _))),
     (h c).2.1.trans (funext fun y => (congrArg _ (idx_eq 65536 512 y)).trans ((cols512_at (allArg m c) 512 (by decide) _ (y 0) (y 1)).trans (allArg_at m c _ _))),
     (h c).2.2.1.trans (funext fun y => (congrArg _ (idx_eq 65536 1024 y)).trans ((cols1024_at (allArg m c) 1024 (by decide) _ (y 0) (y 1)).trans (allArg_at m c _ _))),
     (h c).2.2.2.1.trans (funext fun y => (congrArg _ (idx_eq 65536 1024 y)).trans ((cols1024_at (allArg m c) 2048 (by decide) _ (y 0) (y 1)).trans (allArg_at m c _ _))),
     (h c).2.2.2.2.1.trans (funext fun y => (congrArg _ (idx_eq 65536 512 y)).trans ((cols512_at (allArg m c) 3104 (by decide) _ (y 0) (y 1)).trans (allArg_at m c _ _))),
     (h c).2.2.2.2.2.1.trans (funext fun y => (congrArg _ (idx_eq 65536 128 y)).trans ((tail_at _ (y 0) (y 1)).trans (tailArg_at m c _ rfl _ _))), (h c).2.2.2.2.2.2⟩)
    (Cert.EvenRefIdeal.Value.run m ρ)

/-- The reference runs, leaves its arguments and every counter as they were. -/
theorem frame (ρ : Dev nD → PrngReg) : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2.2.2.2, sem_eq_zero_of_no_sems (by decide) _⟩) (Cert.EvenRefIdeal.Value.run m ρ)

end Cert.EvenRefIdeal.Proj
end
-- ==== Proof.Mix.Spec.lean ====
/- The even layer's output as a function of numbers: the gated heads and the other mixer's row against the output weights, the row added to
   the stream, and the row the experts read. -/
module

public import proofs.«01_k».proof.Proof.Proj.Spec

@[expose] public section

noncomputable section

namespace Cert.Mix

open Idealize.ShloMosaic

/-- One head of 256: divided by the root of its mean square, times the gain, times the gate. -/
def gated (o r g : Fin 256 → EReal) (k : Fin 256) : EReal :=
  o k * Ideal.rsqrt (Ideal.div (∑ j, o j * o j) (Ideal.ofBits FTy.f32 0x43800000#32) + Ideal.ofBits FTy.f32 0x358637BD#32) * g k * (r k * Ideal.logistic (r k))

/-- Head `h` of a row of four. -/
def headOf (v : Fin 1024 → EReal) (h : Fin 4) (j : Fin 256) : EReal := v ⟨h.val * 256 + j.val, by omega⟩

/-- The four gated heads side by side. -/
def heads (o r : Fin 1024 → EReal) (g : Fin 256 → EReal) (k : Fin 1024) : EReal :=
  gated (headOf o ⟨k.val / 256, by omega⟩) (headOf r ⟨k.val / 256, by omega⟩) g ⟨k.val % 256, by omega⟩

/-- Column `k` lies in head `h` at `j`. -/
theorem heads_eq (o r : Fin 1024 → EReal) (g : Fin 256 → EReal) (h : Fin 4) (j : Fin 256) (k : Fin 1024) (e : k.val = h.val * 256 + j.val) :
    gated (headOf o h) (headOf r h) g j = heads o r g k := by
  unfold heads
  have e0 : h = ⟨k.val / 256, by omega⟩ := Fin.ext (by show h.val = k.val / 256; omega)
  have e1 : j = ⟨k.val % 256, by omega⟩ := Fin.ext (by show j.val = k.val % 256; omega)
  rw [← e0, ← e1]

/-- The heads against the first 1024 rows of the weights, the other mixer's row against the last 512. -/
def mixed (o r : Fin 1024 → EReal) (g : Fin 256 → EReal) (f : Fin 512 → EReal) (W : Fin 1536 → Fin 1024 → EReal) (n : Fin 1024) : EReal :=
  ∑ k : Fin 1024, heads o r g k * W ⟨k.val, by omega⟩ n + ∑ k : Fin 512, f k * W ⟨1024 + k.val, by omega⟩ n

/-- The stream's row with the mixed row, normed and gated, added to it. -/
def added (x gm y gp : Fin 1024 → EReal) (n : Fin 1024) : EReal :=
  x n + gm n * (y n * Ideal.rsqrt (Ideal.div (∑ j, y j * y j) (Ideal.ofBits FTy.f32 0x44800000#32) + Ideal.ofBits FTy.f32 0x358637BD#32) * gp n)

/-- The arguments as functions of numbers: the two directions, the gate, the other mixer, the stream, the modulation, the heads' gain, the
    output weights and the two gains. -/
structure Args where
  fwd : Fin 65536 → Fin 1024 → EReal
  bwd : Fin 65536 → Fin 1024 → EReal
  gate : Fin 65536 → Fin 1024 → EReal
  other : Fin 65536 → Fin 512 → EReal
  X : Fin 8 → Fin 8192 → Fin 1024 → EReal
  M : Fin 16 → Fin 6144 → EReal
  gn : Fin 256 → EReal
  W : Fin 1536 → Fin 1024 → EReal
  gp : Fin 1024 → EReal
  gf : Fin 1024 → EReal

/-- Row `r` of the new stream. -/
def Args.row (A : Args) (r : Fin 65536) : Fin 1024 → EReal :=
  added (A.X ⟨r.val / 8192, by omega⟩ ⟨r.val % 8192, by omega⟩) (fun k => A.M ⟨r.val / 8192, by omega⟩ ⟨2048 + k.val, by omega⟩)
    (mixed (fun k => A.fwd r k + A.bwd r k) (A.gate r) A.gn (A.other r) A.W) A.gp

/-- Row `r` as the experts read it. -/
def Args.hidden (A : Args) (r : Fin 65536) : Fin 1024 → EReal :=
  Cert.Proj.normed (A.row r) A.gf (fun k => A.M ⟨r.val / 8192, by omega⟩ ⟨4096 + k.val, by omega⟩)
    (fun k => A.M ⟨r.val / 8192, by omega⟩ ⟨3072 + k.val, by omega⟩)

end Cert.Mix
end
-- ==== Proof.Mix.OutBlock.lean ====
/- The even layer's output call: what its body computes of a tile, at an index. -/
module

public import proofs.«01_k».proof.Proof.Gen.EvenOutIdeal.Skeleton
public import proofs.«01_k».proof.Proof.Mix.Spec
public import Idealize.ShloMosaic.Lib.Pointwise

@[expose] public section

set_option maxRecDepth 16384

noncomputable section

namespace Cert.EvenOutIdeal.Out

open Cert.EvenOutIdeal Cert.EvenOutIdeal.Gen Cert.Mix Cert.Proj
open Idealize.ShloMosaic Idealize.ShloMosaic.TcCoe

/-- A gated head of the tile. -/
theorem head_at (a b r : Vec Ideal S512x256 .bf16) (g : Vec Ideal S1x256 .f32) (p : Fin 512) (k : Fin 256) :
    k0_pay2 a b r g (ix2 p k) = gated (fun k => a (ix2 p k) + b (ix2 p k)) (fun k => r (ix2 p k)) (fun k => g (ix2 0 k)) k := by
  unfold gated
  pointwise [k0_pay2]

/-- The second and the third head are computed as the first. -/
theorem head1_eq (a b r : Vec Ideal S512x256 .bf16) (g : Vec Ideal S1x256 .f32) :
    k0_pay8 (k0_pay3 a b) (k0_pay4 r) (k0_pay5 g) (k0_pay6 a b) (k0_pay7 (F := Ideal)) = k0_pay2 a b r g := rfl

theorem head2_eq (a b r : Vec Ideal S512x256 .bf16) (g : Vec Ideal S1x256 .f32) : k0_pay9 a b r g = k0_pay2 a b r g := rfl

/-- The four heads side by side. -/
def cat (h0 h1 h2 h3 : FVec Ideal S512x256 .bf16) : FVec Ideal S512x1024 .bf16 :=
  concatenate S512x1024 1 [⟨S512x256, h0⟩, ⟨S512x256, h1⟩, ⟨S512x256, h2⟩, ⟨S512x256, h3⟩] concatenates_S512x256_S512x256_S512x256_S512x256_S512x1024_d1

theorem cat_at (h0 h1 h2 h3 : FVec Ideal S512x256 .bf16) (p : Fin 512) (H : Fin 1024 → EReal)
    (e0 : ∀ (j : Fin 256) (k : Fin 1024), k.val = j.val → h0 (ix2 p j) = H k)
    (e1 : ∀ (j : Fin 256) (k : Fin 1024), k.val = 256 + j.val → h1 (ix2 p j) = H k)
    (e2 : ∀ (j : Fin 256) (k : Fin 1024), k.val = 512 + j.val → h2 (ix2 p j) = H k)
    (e3 : ∀ (j : Fin 256) (k : Fin 1024), k.val = 768 + j.val → h3 (ix2 p j) = H k) (k : Fin 1024) :
    cat h0 h1 h2 h3 (ix2 p k) = H k := by
  pointwise [cat]
  by_cases c0 : k.val < 256
  · rw [dif_pos c0]; exact e0 _ _ rfl
  rw [dif_neg c0]
  by_cases c1 : k.val - 256 < 256
  · rw [dif_pos c1]; exact e1 _ _ (by dsimp only; omega)
  rw [dif_neg c1]
  by_cases c2 : k.val - 256 - 256 < 256
  · rw [dif_pos c2]; exact e2 _ _ (by dsimp only; omega)
  rw [dif_neg c2]
  exact e3 _ _ (by dsimp only; omega)

/-- The two products. -/
def sums (h : FVec Ideal S512x1024 .bf16) (w : FVec Ideal S1024x1024 .bf16) (f : FVec Ideal S512x512 .bf16) (w' : FVec Ideal S512x1024 .bf16) : FVec Ideal S512x1024 .f32 :=
  addf (matmul dot_S512x1024_S1024x1024_S512x1024_1_0_0_1_n_n none h (shapeCast S1024x1024 w shapeCasts_S1024x1024_S1024x1024) (constant S512x1024 .f32 0x00000000#32))
    (matmul dot_S512x512_S512x1024_S512x1024_1_0_0_1_n_n none f (shapeCast S512x1024 w' shapeCasts_S512x1024_S512x1024) (constant S512x1024 .f32 0x00000000#32))

theorem sums_at (h : FVec Ideal S512x1024 .bf16) (w : FVec Ideal S1024x1024 .bf16) (f : FVec Ideal S512x512 .bf16) (w' : FVec Ideal S512x1024 .bf16) (p : Fin 512) (n : Fin 1024) :
    sums h w f w' (ix2 p n) = ∑ k : Fin 1024, h (ix2 p k) * w (ix2 k n) + ∑ k : Fin 512, f (ix2 p k) * w' (ix2 k n) := by
  pointwise [sums]

theorem mix_eq (h0 h1 h2 : FVec Ideal S512x256 .bf16) (a b r : Vec Ideal S512x256 .bf16) (g : Vec Ideal S1x256 .f32) (w : Vec Ideal S1024x1024 .bf16)
    (f : Vec Ideal S512x512 .bf16) (w' : Vec Ideal S512x1024 .bf16) :
    k0_pay11 h0 h1 h2 (k0_pay10 a b) r g w f w' = sums (cat h0 h1 h2 (k0_pay2 a b r g)) w f w' := rfl

/-- A block of 256 columns is head `h` of the tile. -/
def Part (O : Vec Ideal S512x1024 .bf16) (h : Fin 4) (a : Vec Ideal S512x256 .bf16) : Prop :=
  ∀ (p : Fin 512) (j : Fin 256), a (ix2 p j) = O (ix2 p ⟨h.val * 256 + j.val, by omega⟩)

theorem part_ld (O : Vec Ideal S512x1024 .bf16) (h : Fin 4) (off : ℕ) (e : off = h.val * 256) (hb) :
    Part O h (View.ld O (Rect.unit (s := S512x1024) ![0, off] S512x256.size hb) : FVec Ideal S512x256 .bf16) := by
  subst e
  intro p j
  pointwise

theorem part_at {O B R : Vec Ideal S512x1024 .bf16} {h : Fin 4} {a b r : Vec Ideal S512x256 .bf16} (ha : Part O h a) (hb : Part B h b) (hr : Part R h r)
    (g : Vec Ideal S1x256 .f32) (p : Fin 512) (j : Fin 256) (k : Fin 1024) (e : k.val = h.val * 256 + j.val) :
    k0_pay2 a b r g (ix2 p j) = heads (fun k => O (ix2 p k) + B (ix2 p k)) (fun k => R (ix2 p k)) (fun k => g (ix2 0 k)) k := by
  rw [head_at, ← heads_eq _ _ _ h j k e]
  have ho : (fun k => a (ix2 p k) + b (ix2 p k)) = headOf (fun k => O (ix2 p k) + B (ix2 p k)) h := funext fun j => congrArg₂ (· + ·) (ha p j) (hb p j)
  have hg : (fun k => r (ix2 p k)) = headOf (fun k => R (ix2 p k)) h := funext fun j => hr p j
  rw [ho, hg]

/-- The mixed rows of the tile, from the columns of the three arrays, head by head. -/
theorem mixed_at {O B R : Vec Ideal S512x1024 .bf16} {a0 b0 r0 a1 b1 r1 a2 b2 r2 a3 b3 r3 : Vec Ideal S512x256 .bf16}
    (ha0 : Part O 0 a0) (hb0 : Part B 0 b0) (hr0 : Part R 0 r0) (ha1 : Part O 1 a1) (hb1 : Part B 1 b1) (hr1 : Part R 1 r1)
    (ha2 : Part O 2 a2) (hb2 : Part B 2 b2) (hr2 : Part R 2 r2) (ha3 : Part O 3 a3) (hb3 : Part B 3 b3) (hr3 : Part R 3 r3)
    (g : Vec Ideal S1x256 .f32) (w : Vec Ideal S1024x1024 .bf16) (f : Vec Ideal S512x512 .bf16) (w' : Vec Ideal S512x1024 .bf16) (W : Fin 1536 → Fin 1024 → EReal)
    (hw : ∀ (k n : Fin 1024), w (ix2 k n) = W ⟨k.val, by omega⟩ n) (hw' : ∀ (k : Fin 512) (n : Fin 1024), w' (ix2 k n) = W ⟨1024 + k.val, by omega⟩ n) (p : Fin 512) (n : Fin 1024) :
    k0_pay11 (k0_pay2 a0 b0 r0 g) (k0_pay8 (k0_pay3 a1 b1) (k0_pay4 r1) (k0_pay5 g) (k0_pay6 a1 b1) (k0_pay7 (F := Ideal))) (k0_pay9 a2 b2 r2 g) (k0_pay10 a3 b3) r3 g w f w' (ix2 p n)
      = mixed (fun k => O (ix2 p k) + B (ix2 p k)) (fun k => R (ix2 p k)) (fun k => g (ix2 0 k)) (fun k => f (ix2 p k)) W n := by
  rw [head1_eq, head2_eq, mix_eq, sums_at]
  unfold mixed
  refine congrArg₂ (· + ·) (Finset.sum_congr rfl fun k _ => congrArg₂ (· * ·) ?_ (hw k n)) (Finset.sum_congr rfl fun k _ => congrArg₂ (· * ·) rfl (hw' k n))
  exact cat_at _ _ _ _ p _ (fun j k e => part_at ha0 hb0 hr0 g p j k (by rw [e]; exact (Nat.zero_add _).symm))
    (part_at ha1 hb1 hr1 g p) (part_at ha2 hb2 hr2 g p) (part_at ha3 hb3 hr3 g p) k

/-- The sums of squares of a tile's rows. -/
def squares (y : FVec Ideal S512x1024 .f32) : FVec Ideal S512x1 .f32 :=
  shapeCast S512x1 (multiReduction .add [1] S512 (mulf y y) 0x00000000#32 reduces_S512x1024_S512 (.inl rfl) rfl) shapeCasts_S512_S512x1

/-- The new stream's tile, from the mixed rows. -/
theorem added_at (y x : FVec Ideal S512x1024 .f32) (gm : Vec Ideal S1x1x1024 .f32) (gp : Vec Ideal S1x1024 .f32) (p : Fin 512) (n : Fin 1024) :
    k0_pay16 y (k0_pay12 x) (k0_pay13 gm) (k0_pay14 gp) (squares y) (FloatOps.ofBits FTy.f32 1149239296#32) (ix2 p n)
      = added (fun k => x (ix2 p k)) (fun k => gm (ix3 0 0 k)) (fun k => y (ix2 p k)) (fun k => gp (ix2 0 k)) n := by
  unfold added
  pointwise [squares, k0_pay16, k0_pay12, k0_pay13, k0_pay14]

/-- The rows for the experts, from the new stream's tile. -/
theorem hidden_at (y x : FVec Ideal S512x1024 .f32) (gm : FVec Ideal S1x1024 .f32) (gp : FVec Ideal S1x1024 .f32) (s : FVec Ideal S512x1 .f32) (b : Ideal .f32)
    (gf : Vec Ideal S1x1024 .f32) (sc sh : Vec Ideal S1x1x1024 .f32) (p : Fin 512) (n : Fin 1024) :
    k0_pay19 y x gm gp s b gf sc sh (ix2 p n)
      = normed (fun k => k0_pay16 y x gm gp s b (ix2 p k)) (fun k => gf (ix2 0 k)) (fun k => sc (ix3 0 0 k)) (fun k => sh (ix3 0 0 k)) n := by
  unfold normed
  pointwise [k0_pay19, k0_pay18]

end Cert.EvenOutIdeal.Out
end
-- ==== Proof.Mix.OutKern.lean ====
/- The even layer's output call: its two result arrays at an index. -/
module

public import proofs.«01_k».proof.Proof.Gen.EvenOutIdeal.Value
public import proofs.«01_k».proof.Proof.Mix.OutBlock
public import Idealize.ShloMosaic.Lib.Pipeline.ValueKit

@[expose] public section

set_option maxRecDepth 16384

noncomputable section

namespace Cert.EvenOutIdeal.Out

open Cert.EvenOutIdeal Cert.EvenOutIdeal.Gen Cert.Mix Cert.Proj
open Idealize.ShloMosaic Idealize.ShloMosaic.TcCoe Idealize.ShloMosaic.Pipeline Idealize.SL.Sem

variable (m : (ℓ : Loc nD τ sig) → Buf (Elt Ideal) ℓ) (c : Dev nD)

/-- The arguments as functions of numbers. -/
def args : Args where
  fwd r k := (m (c, main_arg0) : FVec Ideal S65536x1024 .bf16) (ix2 r k)
  bwd r k := (m (c, main_arg1) : FVec Ideal S65536x1024 .bf16) (ix2 r k)
  gate r k := (m (c, main_arg2) : FVec Ideal S65536x1024 .bf16) (ix2 r k)
  other r k := (m (c, main_arg3) : FVec Ideal S65536x512 .bf16) (ix2 r k)
  X i s k := (m (c, main_arg4) : FVec Ideal S8x8192x1024 .f32) (ix3 i s k)
  M i k := (m (c, main_arg5) : FVec Ideal S16x6144 .f32) (ix2 i k)
  gn k := (m (c, main_arg6) : FVec Ideal S256 .f32) (ix1 k)
  W k n := (m (c, main_arg7) : FVec Ideal S1536x1024 .f32) (ix2 k n)
  gp k := (m (c, main_arg8) : FVec Ideal S1024 .f32) (ix1 k)
  gf k := (m (c, main_arg9) : FVec Ideal S1024 .f32) (ix1 k)

/-! What the host prepares. -/

theorem fwd_at (r : Fin 65536) (k : Fin 1024) : (V m c main_arg0 : FVec Ideal S65536x1024 .bf16) (ix2 r k) = (args m c).fwd r k := by
  unfold V args
  after_results_simp

theorem bwd_at (r : Fin 65536) (k : Fin 1024) : (V m c main_arg1 : FVec Ideal S65536x1024 .bf16) (ix2 r k) = (args m c).bwd r k := by
  unfold V args
  after_results_simp

theorem gate_at (r : Fin 65536) (k : Fin 1024) : (V m c main_arg2 : FVec Ideal S65536x1024 .bf16) (ix2 r k) = (args m c).gate r k := by
  unfold V args
  after_results_simp

theorem other_at (r : Fin 65536) (k : Fin 512) : (V m c main_arg3 : FVec Ideal S65536x512 .bf16) (ix2 r k) = (args m c).other r k := by
  unfold V args
  after_results_simp

theorem rows_at (r : Fin 65536) (k : Fin 1024) :
    (V m c main_v0 : FVec Ideal S65536x1024 .f32) (ix2 r k) = (args m c).X ⟨r.val / 8192, by omega⟩ ⟨r.val % 8192, by omega⟩ k := by
  unfold V args
  after_results_simp
  pointwise

theorem headGain_at (k : Fin 256) : (V m c main_v5 : FVec Ideal S1x256 .f32) (ix2 0 k) = (args m c).gn k := by
  unfold V args
  after_results_simp
  pointwise

theorem weights_at (k : Fin 1536) (n : Fin 1024) : (V m c main_v4 : FVec Ideal S1536x1024 .bf16) (ix2 k n) = (args m c).W k n := by
  unfold V args
  after_results_simp
  pointwise

theorem postGain_at (k : Fin 1024) : (V m c main_v6 : FVec Ideal S1x1024 .f32) (ix2 0 k) = (args m c).gp k := by
  unfold V args
  after_results_simp
  pointwise

theorem ffnGain_at (k : Fin 1024) : (V m c main_v20 : FVec Ideal S1x1024 .f32) (ix2 0 k) = (args m c).gf k := by
  unfold V args
  after_results_simp
  pointwise

theorem mod2_at (a : Fin 16) (k : Fin 1024) : (V m c main_v3 : FVec Ideal S16x8x1024 .f32) (ix3 a 2 k) = (args m c).M a ⟨2048 + k.val, by omega⟩ := by
  unfold V args
  after_results_simp
  pointwise

theorem mod3_at (a : Fin 16) (k : Fin 1024) : (V m c main_v3 : FVec Ideal S16x8x1024 .f32) (ix3 a 3 k) = (args m c).M a ⟨3072 + k.val, by omega⟩ := by
  unfold V args
  after_results_simp
  pointwise

theorem mod4_at (a : Fin 16) (k : Fin 1024) : (V m c main_v3 : FVec Ideal S16x8x1024 .f32) (ix3 a 4 k) = (args m c).M a ⟨4096 + k.val, by omega⟩ := by
  unfold V args
  after_results_simp
  pointwise

/-! The block of each window at a point of the grid. -/

theorem index_fwd : ∀ t : Fin cfg0.N, win0_0.index t = ![t.val, 0] := by decide +kernel
theorem index_bwd : ∀ t : Fin cfg0.N, win0_1.index t = ![t.val, 0] := by decide +kernel
theorem index_gate : ∀ t : Fin cfg0.N, win0_2.index t = ![t.val, 0] := by decide +kernel
theorem index_other : ∀ t : Fin cfg0.N, win0_3.index t = ![t.val, 0] := by decide +kernel
theorem index_rows : ∀ t : Fin cfg0.N, win0_4.index t = ![t.val, 0] := by decide +kernel
theorem index_mod : ∀ t : Fin cfg0.N, win0_5.index t = ![t.val / 16, 0, 0] := by decide +kernel
theorem index_headGain : ∀ t : Fin cfg0.N, win0_6.index t = ![0, 0] := by decide +kernel
theorem index_weights : ∀ t : Fin cfg0.N, win0_7.index t = ![0, 0] := by decide +kernel
theorem index_postGain : ∀ t : Fin cfg0.N, win0_8.index t = ![0, 0] := by decide +kernel
theorem index_ffnGain : ∀ t : Fin cfg0.N, win0_9.index t = ![0, 0] := by decide +kernel
theorem index_out12 : ∀ t : Fin cfg0.N, win0_12.index t = ![t.val, 0] := by decide +kernel
theorem index_out13 : ∀ t : Fin cfg0.N, win0_13.index t = ![t.val, 0] := by decide +kernel

theorem lt_points (t : Fin cfg0.N) : t.val < 128 := t.isLt

theorem blkFwd_at (t : Fin cfg0.N) (p : Fin 512) (k : Fin 1024) :
    (iblk m c 0 t : S512x1024.Idx → EReal) (ix2 p k) = (V m c main_arg0 : S65536x1024.Idx → EReal) (ix2 ⟨t.val * 512 + p.val, by have := lt_points t; omega⟩ k) := by
  blk_ext [iblk, index_fwd]

theorem blkBwd_at (t : Fin cfg0.N) (p : Fin 512) (k : Fin 1024) :
    (iblk m c 1 t : S512x1024.Idx → EReal) (ix2 p k) = (V m c main_arg1 : S65536x1024.Idx → EReal) (ix2 ⟨t.val * 512 + p.val, by have := lt_points t; omega⟩ k) := by
  blk_ext [iblk, index_bwd]

theorem blkGate_at (t : Fin cfg0.N) (p : Fin 512) (k : Fin 1024) :
    (iblk m c 2 t : S512x1024.Idx → EReal) (ix2 p k) = (V m c main_arg2 : S65536x1024.Idx → EReal) (ix2 ⟨t.val * 512 + p.val, by have := lt_points t; omega⟩ k) := by
  blk_ext [iblk, index_gate]

theorem blkOther_at (t : Fin cfg0.N) (p : Fin 512) (k : Fin 512) :
    (iblk m c 3 t : S512x512.Idx → EReal) (ix2 p k) = (V m c main_arg3 : S65536x512.Idx → EReal) (ix2 ⟨t.val * 512 + p.val, by have := lt_points t; omega⟩ k) := by
  blk_ext [iblk, index_other]

theorem blkRows_at (t : Fin cfg0.N) (p : Fin 512) (k : Fin 1024) :
    (iblk m c 4 t : S512x1024.Idx → EReal) (ix2 p k) = (V m c main_v0 : S65536x1024.Idx → EReal) (ix2 ⟨t.val * 512 + p.val, by have := lt_points t; omega⟩ k) := by
  blk_ext [iblk, index_rows]

theorem blkMod_at (t : Fin cfg0.N) (j : Fin 8) (k : Fin 1024) :
    (iblk m c 5 t : S1x8x1024.Idx → EReal) (ix3 0 j k) = (V m c main_v3 : S16x8x1024.Idx → EReal) (ix3 ⟨t.val / 16, by have := lt_points t; omega⟩ j k) := by
  blk_ext [iblk, index_mod]

theorem blkHeadGain_at (t : Fin cfg0.N) (k : Fin 256) :
    (iblk m c 6 t : S1x256.Idx → EReal) (ix2 0 k) = (V m c main_v5 : S1x256.Idx → EReal) (ix2 0 k) := by
  blk_ext [iblk, index_headGain]

theorem blkWeights_at (t : Fin cfg0.N) (k : Fin 1536) (n : Fin 1024) :
    (iblk m c 7 t : S1536x1024.Idx → EReal) (ix2 k n) = (V m c main_v4 : S1536x1024.Idx → EReal) (ix2 k n) := by
  blk_ext [iblk, index_weights]

theorem blkPostGain_at (t : Fin cfg0.N) (k : Fin 1024) :
    (iblk m c 8 t : S1x1024.Idx → EReal) (ix2 0 k) = (V m c main_v6 : S1x1024.Idx → EReal) (ix2 0 k) := by
  blk_ext [iblk, index_postGain]

theorem blkFfnGain_at (t : Fin cfg0.N) (k : Fin 1024) :
    (iblk m c 9 t : S1x1024.Idx → EReal) (ix2 0 k) = (V m c main_v20 : S1x1024.Idx → EReal) (ix2 0 k) := by
  blk_ext [iblk, index_ffnGain]

/-- The parts of the weights and of the modulation the kernel loads. -/
theorem ld_top (W : Vec Ideal S1536x1024 .bf16) (h) (k n : Fin 1024) :
    (View.ld W (Rect.unit (s := S1536x1024) ![0, 0] S1024x1024.size h) : FVec Ideal S1024x1024 .bf16) (ix2 k n) = W (ix2 ⟨k.val, by omega⟩ n) := by
  pointwise

theorem ld_bottom (W : Vec Ideal S1536x1024 .bf16) (h) (k : Fin 512) (n : Fin 1024) :
    (View.ld W (Rect.unit (s := S1536x1024) ![1024, 0] S512x1024.size h) : FVec Ideal S512x1024 .bf16) (ix2 k n) = W (ix2 ⟨1024 + k.val, by omega⟩ n) := by
  pointwise

theorem ld_mod (M : Vec Ideal S1x8x1024 .f32) (j : Fin 8) (h) (k : Fin 1024) :
    (View.ld M (Rect.unit (s := S1x8x1024) ![0, j.val, 0] S1x1x1024.size h) : FVec Ideal S1x1x1024 .f32) (ix3 0 0 k) = M (ix3 0 j k) := by
  pointwise

/-- The new stream and the experts' rows. -/
def outX : FVec Ideal S65536x1024 .f32 := fun y => (args m c).row (y 0) (y 1)
def outH : FVec Ideal S65536x1024 .bf16 := fun y => (args m c).hidden (y 0) (y 1)

/-- The columns of head `h` of a tile, the two parts of the weights and a row of the modulation, as the kernel loads them. -/
def ld0 (O : Vec Ideal S512x1024 .bf16) : FVec Ideal S512x256 .bf16 := View.ld O (Rect.unit (s := S512x1024) ![0, 0] S512x256.size inb_S512x1024_S512x256_0_0)
def ld1 (O : Vec Ideal S512x1024 .bf16) : FVec Ideal S512x256 .bf16 := View.ld O (Rect.unit (s := S512x1024) ![0, 256] S512x256.size inb_S512x1024_S512x256_0_256)
def ld2 (O : Vec Ideal S512x1024 .bf16) : FVec Ideal S512x256 .bf16 := View.ld O (Rect.unit (s := S512x1024) ![0, 512] S512x256.size inb_S512x1024_S512x256_0_512)
def ld3 (O : Vec Ideal S512x1024 .bf16) : FVec Ideal S512x256 .bf16 := View.ld O (Rect.unit (s := S512x1024) ![0, 768] S512x256.size inb_S512x1024_S512x256_0_768)
def top (W : Vec Ideal S1536x1024 .bf16) : FVec Ideal S1024x1024 .bf16 := View.ld W (Rect.unit (s := S1536x1024) ![0, 0] S1024x1024.size inb_S1536x1024_S1024x1024_0_0)
def bottom (W : Vec Ideal S1536x1024 .bf16) : FVec Ideal S512x1024 .bf16 := View.ld W (Rect.unit (s := S1536x1024) ![1024, 0] S512x1024.size inb_S1536x1024_S512x1024_1024_0)
def mod2 (M : Vec Ideal S1x8x1024 .f32) : FVec Ideal S1x1x1024 .f32 := View.ld M (Rect.unit (s := S1x8x1024) ![0, 2, 0] S1x1x1024.size inb_S1x8x1024_S1x1x1024_0_2_0)
def mod3 (M : Vec Ideal S1x8x1024 .f32) : FVec Ideal S1x1x1024 .f32 := View.ld M (Rect.unit (s := S1x8x1024) ![0, 3, 0] S1x1x1024.size inb_S1x8x1024_S1x1x1024_0_3_0)
def mod4 (M : Vec Ideal S1x8x1024 .f32) : FVec Ideal S1x1x1024 .f32 := View.ld M (Rect.unit (s := S1x8x1024) ![0, 4, 0] S1x1x1024.size inb_S1x8x1024_S1x1x1024_0_4_0)

/-- A row of the two directions' sum. -/
def rowSum (O B : Vec Ideal S512x1024 .bf16) (p : Fin 512) (k : Fin 1024) : EReal := O (ix2 p k) + B (ix2 p k)

/-- The mixed rows of a tile. -/
def mixTile (O B R : Vec Ideal S512x1024 .bf16) (f : Vec Ideal S512x512 .bf16) (g : Vec Ideal S1x256 .f32) (W : Vec Ideal S1536x1024 .bf16) : FVec Ideal S512x1024 .f32 :=
  k0_pay11 (k0_pay2 (ld0 O) (ld0 B) (ld0 R) g) (k0_pay8 (k0_pay3 (ld1 O) (ld1 B)) (k0_pay4 (ld1 R)) (k0_pay5 g) (k0_pay6 (ld1 O) (ld1 B)) (k0_pay7 (F := Ideal)))
    (k0_pay9 (ld2 O) (ld2 B) (ld2 R) g) (k0_pay10 (ld3 O) (ld3 B)) (ld3 R) g (top W) f (bottom W)

theorem mixTile_at (O B R : Vec Ideal S512x1024 .bf16) (f : Vec Ideal S512x512 .bf16) (g : Vec Ideal S1x256 .f32) (W : Vec Ideal S1536x1024 .bf16) (p : Fin 512) (n : Fin 1024) :
    mixTile O B R f g W (ix2 p n) = mixed (rowSum O B p) (fun k => R (ix2 p k)) (fun k => g (ix2 0 k)) (fun k => f (ix2 p k)) (fun k n => W (ix2 k n)) n :=
  mixed_at (part_ld O 0 0 rfl _) (part_ld B 0 0 rfl _) (part_ld R 0 0 rfl _) (part_ld O 1 256 rfl _) (part_ld B 1 256 rfl _) (part_ld R 1 256 rfl _)
    (part_ld O 2 512 rfl _) (part_ld B 2 512 rfl _) (part_ld R 2 512 rfl _) (part_ld O 3 768 rfl _) (part_ld B 3 768 rfl _) (part_ld R 3 768 rfl _)
    g _ f _ (fun k n => W (ix2 k n)) (ld_top W _) (ld_bottom W _) p n

/-- The mixed rows at point `t`. -/
def mixAt (t : Fin cfg0.N) : FVec Ideal S512x1024 .f32 :=
  mixTile (iblk m c 0 t) (iblk m c 1 t) (iblk m c 2 t) (iblk m c 3 t) (iblk m c 6 t) (iblk m c 7 t)

/-- The tile of the new stream at point `t`. -/
def newTile (t : Fin cfg0.N) : FVec Ideal S512x1024 .f32 :=
  k0_pay16 (mixAt m c t) (k0_pay12 (iblk m c 4 t)) (k0_pay13 (mod2 (iblk m c 5 t))) (k0_pay14 (iblk m c 8 t))
    (squares (mixAt m c t)) (FloatOps.ofBits FTy.f32 1149239296#32)

theorem newTile_at (t : Fin cfg0.N) (p : Fin 512) (r : Fin 65536) (hr : r.val = t.val * 512 + p.val) (n : Fin 1024) :
    newTile m c t (ix2 p n) = (args m c).row r n := by
  have ht := lt_points t
  refine (added_at (mixAt m c t) (iblk m c 4 t) (mod2 (iblk m c 5 t)) (iblk m c 8 t) p n).trans ?_
  have e0 : (⟨t.val * 512 + p.val, by omega⟩ : Fin 65536) = r := Fin.ext hr.symm
  have e1 : (⟨t.val / 16, by omega⟩ : Fin 16) = ⟨r.val / 8192, by omega⟩ := Fin.ext (by show t.val / 16 = r.val / 8192; omega)
  have hx : (fun k => (iblk m c 4 t : S512x1024.Idx → EReal) (ix2 p k)) = (args m c).X ⟨r.val / 8192, by omega⟩ ⟨r.val % 8192, by omega⟩ := by
    funext k; rw [blkRows_at, e0]; exact rows_at m c r k
  have hm : (fun k => mod2 (iblk m c 5 t) (ix3 0 0 k)) = fun k => (args m c).M ⟨r.val / 8192, by omega⟩ ⟨2048 + k.val, by omega⟩ := by
    funext k; refine (ld_mod (iblk m c 5 t) 2 _ k).trans ?_; rw [blkMod_at, e1]; exact mod2_at m c _ k
  have hp : (fun k => (iblk m c 8 t : S1x1024.Idx → EReal) (ix2 0 k)) = (args m c).gp := by
    funext k; rw [blkPostGain_at]; exact postGain_at m c k
  have ho : rowSum (iblk m c 0 t) (iblk m c 1 t) p = fun k => (args m c).fwd r k + (args m c).bwd r k := by
    funext k
    refine congrArg₂ (fun a b : EReal => a + b) ((blkFwd_at m c t p k).trans ?_) ((blkBwd_at m c t p k).trans ?_)
    · rw [e0]; exact fwd_at m c r k
    · rw [e0]; exact bwd_at m c r k
  have hg : (fun k => (iblk m c 2 t : S512x1024.Idx → EReal) (ix2 p k)) = (args m c).gate r := by
    funext k; rw [blkGate_at, e0]; exact gate_at m c r k
  have hn : (fun k => (iblk m c 6 t : S1x256.Idx → EReal) (ix2 0 k)) = (args m c).gn := by
    funext k; rw [blkHeadGain_at]; exact headGain_at m c k
  have hf : (fun k => (iblk m c 3 t : S512x512.Idx → EReal) (ix2 p k)) = (args m c).other r := by
    funext k; rw [blkOther_at, e0]; exact other_at m c r k
  have hw : (fun (k : Fin 1536) (n : Fin 1024) => (iblk m c 7 t : S1536x1024.Idx → EReal) (ix2 k n)) = (args m c).W := by
    funext k n; rw [blkWeights_at]; exact weights_at m c k n
  have hy : (fun k => mixAt m c t (ix2 p k))
      = mixed (fun k => (args m c).fwd r k + (args m c).bwd r k) ((args m c).gate r) (args m c).gn ((args m c).other r) (args m c).W :=
    funext fun k => (mixTile_at _ _ _ _ _ _ p k).trans (congrFun (congr (congr (congr (congr (congrArg mixed ho) hg) hn) hf) hw) k)
  exact congrFun (congr (congr (congr (congrArg added hx) hm) hy) hp) n

/-- The tile of the experts' rows at point `t`. -/
def ffnTile (t : Fin cfg0.N) : FVec Ideal S512x1024 .bf16 :=
  k0_pay19 (mixAt m c t) (k0_pay12 (iblk m c 4 t)) (k0_pay13 (mod2 (iblk m c 5 t))) (k0_pay14 (iblk m c 8 t))
    (squares (mixAt m c t)) (FloatOps.ofBits FTy.f32 1149239296#32)
    (iblk m c 9 t) (mod4 (iblk m c 5 t)) (mod3 (iblk m c 5 t))

theorem ffnTile_at (t : Fin cfg0.N) (p : Fin 512) (r : Fin 65536) (hr : r.val = t.val * 512 + p.val) (n : Fin 1024) :
    ffnTile m c t (ix2 p n) = (args m c).hidden r n := by
  have ht := lt_points t
  refine (hidden_at _ _ _ _ _ _ _ _ _ p n).trans ?_
  have e1 : (⟨t.val / 16, by omega⟩ : Fin 16) = ⟨r.val / 8192, by omega⟩ := Fin.ext (by show t.val / 16 = r.val / 8192; omega)
  have hx : (fun k => newTile m c t (ix2 p k)) = (args m c).row r := funext fun k => newTile_at m c t p r hr k
  have hg : (fun k => (iblk m c 9 t : S1x1024.Idx → EReal) (ix2 0 k)) = (args m c).gf := by
    funext k; rw [blkFfnGain_at]; exact ffnGain_at m c k
  have hs : (fun k => mod4 (iblk m c 5 t) (ix3 0 0 k)) = fun k => (args m c).M ⟨r.val / 8192, by omega⟩ ⟨4096 + k.val, by omega⟩ := by
    funext k; refine (ld_mod (iblk m c 5 t) 4 _ k).trans ?_; rw [blkMod_at, e1]; exact mod4_at m c _ k
  have hh : (fun k => mod3 (iblk m c 5 t) (ix3 0 0 k)) = fun k => (args m c).M ⟨r.val / 8192, by omega⟩ ⟨3072 + k.val, by omega⟩ := by
    funext k; refine (ld_mod (iblk m c 5 t) 3 _ k).trans ?_; rw [blkMod_at, e1]; exact mod3_at m c _ k
  exact congrFun (congr (congr (congr (congrArg normed hx) hg) hs) hh) n

/-- What a point leaves in its blocks of the two results, at the first point and at the others. -/
theorem left12 (t : Fin cfg0.N) (y : S512x1024.Idx) : (outsAt0 m c t.val t.isLt).1 y = newTile m c t y := by
  by_cases h0 : t.val % 128 = 0
  · rw [outsAt0_A m c t h0]
    frame_out
    rfl
  · rw [outsAt0_B m c t h0]
    frame_out
    rfl

theorem left13 (t : Fin cfg0.N) (y : S512x1024.Idx) : (outsAt0 m c t.val t.isLt).2.1 y = ffnTile m c t y := by
  by_cases h0 : t.val % 128 = 0
  · rw [outsAt0_A m c t h0]
    frame_out
    rfl
  · rw [outsAt0_B m c t h0]
    frame_out
    rfl

theorem idx_eq (y : S512x1024.Idx) : ∃ (p : Fin 512) (n : Fin 1024), y = ix2 p n :=
  ⟨y 0, y 1, by funext a; match a with | ⟨0, _⟩ => rfl | ⟨1, _⟩ => rfl⟩

/-- The same at an index of the tile. -/
theorem newTile_row (t : Fin cfg0.N) (y : S512x1024.Idx) (r : Fin 65536) (n : Fin 1024) (hr : r.val = t.val * 512 + (y 0).val) (hn : n.val = (y 1).val) :
    newTile m c t y = (args m c).row r n := by
  obtain ⟨p, q, rfl⟩ := idx_eq y
  obtain rfl : n = q := Fin.ext hn
  exact newTile_at m c t p r hr n

theorem ffnTile_row (t : Fin cfg0.N) (y : S512x1024.Idx) (r : Fin 65536) (n : Fin 1024) (hr : r.val = t.val * 512 + (y 0).val) (hn : n.val = (y 1).val) :
    ffnTile m c t y = (args m c).hidden r n := by
  obtain ⟨p, q, rfl⟩ := idx_eq y
  obtain rfl : n = q := Fin.ext hn
  exact ffnTile_at m c t p r hr n

theorem final12 : (dats m 0 c).arrAt 12 cfg0.N = outX m c := by
  refine (dats m 0 c).arrAt_eq_of_covers 12 _ (by decide +kernel) fun t hf (y : S512x1024.Idx) => ?_
  have ht := lt_points t
  blk_simp; rw [after0_12]
  refine (left12 m c t y).trans (newTile_row m c t y _ _ ?_ ?_)
  all_goals blk_simp [index_out12]
  all_goals first | omega | (dsimp only; omega)

theorem final13 : (dats m 0 c).arrAt 13 cfg0.N = outH m c := by
  refine (dats m 0 c).arrAt_eq_of_covers 13 _ (by decide +kernel) fun t hf (y : S512x1024.Idx) => ?_
  have ht := lt_points t
  blk_simp; rw [after0_13]
  refine (left13 m c t y).trans (ffnTile_row m c t y _ _ ?_ ?_)
  all_goals blk_simp [index_out13]
  all_goals first | omega | (dsimp only; omega)

/-- The call runs and leaves the new stream and the experts' rows in its results, its arguments as they were. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v21_0) = outX m c
      ∧ r.2.mem ((c : Thread nD τ).loc main_v21_1) = outH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final12 m c), (h c).2.1.trans (final13 m c), (h c).2.2.2.2.2.2⟩)
    (Cert.EvenOutIdeal.Value.run_blocks m ρ)

end Cert.EvenOutIdeal.Out
end
-- ==== Proof.Mix.OutRef.lean ====
/- The reference's even layer output at an index. -/
module

public import proofs.«01_k».proof.Proof.Gen.OutRefIdeal.Run
public import proofs.«01_k».proof.Proof.Mix.Spec
public import proofs.«01_k».proof.Proof.Proj.OddRef
public import Idealize.ShloMosaic.Lib.Pointwise

@[expose] public section

set_option maxRecDepth 16384

noncomputable section

namespace Cert.OutRefIdeal.Out

open Cert.OutRefIdeal Cert.OutRefIdeal.Gen Cert.Mix Cert.Proj
open Cert.OddRefIdeal.Proj (idx_eq)
open Idealize.ShloMosaic Idealize.ShloMosaic.TcCoe Idealize.SL.Sem

/-- The two directions' sum, by sequence, position and head. -/
def both (a b : FVec Ideal S65536x1024 .bf16) : FVec Ideal S8x8192x4x256 .f32 :=
  shapeCast _ (addf (extf .f32 a bitsLt_bf16_f32) (extf .f32 b bitsLt_bf16_f32)) shapeCasts_S65536x1024_S8x8192x4x256

theorem both_at (a b : FVec Ideal S65536x1024 .bf16) (i : Fin 8) (s : Fin 8192) (h : Fin 4) (j : Fin 256) :
    both a b (ix4 i s h j) = a (ix2 ⟨i.val * 8192 + s.val, by omega⟩ ⟨h.val * 256 + j.val, by omega⟩) + b (ix2 ⟨i.val * 8192 + s.val, by omega⟩ ⟨h.val * 256 + j.val, by omega⟩) := by
  pointwise [both]

/-- The gate, by sequence, position and head. -/
def gate (r : FVec Ideal S65536x1024 .bf16) : FVec Ideal S8x8192x4x256 .f32 :=
  shapeCast _ (mulf (extf .f32 r bitsLt_bf16_f32) (Host.divf (broadcastInDim S65536x1024 ![] bcast_S_S65536x1024 (constant S_ .f32 0x3F800000#32))
    (addf (broadcastInDim S65536x1024 ![] bcast_S_S65536x1024 (constant S_ .f32 0x3F800000#32)) (Host.exp (Host.negf (extf .f32 r bitsLt_bf16_f32)))))) shapeCasts_S65536x1024_S8x8192x4x256

theorem gate_at (r : FVec Ideal S65536x1024 .bf16) (i : Fin 8) (s : Fin 8192) (h : Fin 4) (j : Fin 256) :
    gate r (ix4 i s h j) = r (ix2 ⟨i.val * 8192 + s.val, by omega⟩ ⟨h.val * 256 + j.val, by omega⟩) * Ideal.logistic (r (ix2 ⟨i.val * 8192 + s.val, by omega⟩ ⟨h.val * 256 + j.val, by omega⟩)) := by
  unfold Ideal.logistic
  pointwise [gate]

/-- The gated heads. -/
def gatedV (o r : FVec Ideal S8x8192x4x256 .f32) (g : FVec Ideal S256 .f32) : FVec Ideal S8x8192x4x256 .f32 :=
  mulf (mulf (mulf o (broadcastInDim S8x8192x4x256 ![0, 1, 2, 3] bcast_S8x8192x4x1_S8x8192x4x256_0_1_2_3 (Host.rsqrt (addf (Host.divf (broadcastInDim S8x8192x4x1 ![0, 1, 2] bcast_S8x8192x4_S8x8192x4x1_0_1_2
    (Host.reduceAdd (mulf o o) (constant S_ .f32 0x00000000#32) reducesTo_S8x8192x4x256_S8x8192x4_d3 h_S_)) (broadcastInDim S8x8192x4x1 ![] bcast_S_S8x8192x4x1 (constant S_ .f32 0x43800000#32)))
    (broadcastInDim S8x8192x4x1 ![] bcast_S_S8x8192x4x1 (constant S_ .f32 0x358637BD#32))))))
    (broadcastInDim S8x8192x4x256 ![0, 1, 2, 3] bcast_S1x1x1x256_S8x8192x4x256_0_1_2_3 (broadcastInDim S1x1x1x256 ![3] bcast_S256_S1x1x1x256_3 g))) r

theorem gatedV_at (o r : FVec Ideal S8x8192x4x256 .f32) (g : FVec Ideal S256 .f32) (i : Fin 8) (s : Fin 8192) (h : Fin 4) (j : Fin 256) :
    gatedV o r g (ix4 i s h j) = o (ix4 i s h j) * Ideal.rsqrt (Ideal.div (∑ j, o (ix4 i s h j) * o (ix4 i s h j)) (Ideal.ofBits FTy.f32 0x43800000#32) + Ideal.ofBits FTy.f32 0x358637BD#32) * g (ix1 j) * r (ix4 i s h j) := by
  pointwise [gatedV]

/-- The heads and the other mixer's row side by side. -/
def side (v : FVec Ideal S8x8192x4x256 .f32) (f : FVec Ideal S65536x512 .bf16) : FVec Ideal S8x8192x1536 .f32 :=
  concatenate S8x8192x1536 2 [⟨S8x8192x1024, (shapeCast _ v shapeCasts_S8x8192x4x256_S8x8192x1024)⟩, ⟨S8x8192x512, (shapeCast _ (extf .f32 f bitsLt_bf16_f32) shapeCasts_S65536x512_S8x8192x512)⟩]
    concatenates_S8x8192x1024_S8x8192x512_S8x8192x1536_d2

theorem side_left (v : FVec Ideal S8x8192x4x256 .f32) (f : FVec Ideal S65536x512 .bf16) (i : Fin 8) (s : Fin 8192) (k : Fin 1024) :
    side v f (ix3 i s ⟨k.val, by omega⟩) = v (ix4 i s ⟨k.val / 256, by omega⟩ ⟨k.val % 256, by omega⟩) := by
  pointwise [side]

theorem side_right (v : FVec Ideal S8x8192x4x256 .f32) (f : FVec Ideal S65536x512 .bf16) (i : Fin 8) (s : Fin 8192) (k : Fin 512) :
    side v f (ix3 i s ⟨1024 + k.val, by omega⟩) = f (ix2 ⟨i.val * 8192 + s.val, by omega⟩ k) := by
  pointwise [side]

/-- The product with the output weights. -/
def prod (u : FVec Ideal S8x8192x1536 .f32) (w : FVec Ideal S1536x1024 .f32) : FVec Ideal S8x8192x1024 .f32 :=
  Host.dotGeneral dot_S8x8192x1536_S1536x1024_S8x8192x1024_2_0_01_1_n_n none u w

theorem prod_at (u : FVec Ideal S8x8192x1536 .f32) (w : FVec Ideal S1536x1024 .f32) (i : Fin 8) (s : Fin 8192) (n : Fin 1024) :
    prod u w (ix3 i s n) = ∑ k : Fin 1536, u (ix3 i s k) * w (ix2 k n) := by
  pointwise [prod]

/-- The new stream. -/
def addedV (x : FVec Ideal S8x8192x1024 .f32) (M : FVec Ideal S16x6144 .f32) (y : FVec Ideal S8x8192x1024 .f32) (gp : FVec Ideal S1024 .f32) : FVec Ideal S8x8192x1024 .f32 :=
  addf x (mulf (broadcastInDim S8x8192x1024 ![0, 1, 2] bcast_S8x1x1024_S8x8192x1024_0_1_2 (broadcastInDim S8x1x1024 ![0, 2] bcast_S8x1024_S8x1x1024_0_2
    (extractStridedSlice S8x1024 ![0, 2048] (extractStridedSlice S8x6144 ![0, 0] M slices_S16x6144_S8x6144_0_0) slices_S8x6144_S8x1024_0_2048)))
    (mulf (mulf y (broadcastInDim S8x8192x1024 ![0, 1, 2] bcast_S8x8192x1_S8x8192x1024_0_1_2 (Host.rsqrt (addf (Host.divf (broadcastInDim S8x8192x1 ![0, 1] bcast_S8x8192_S8x8192x1_0_1
      (Host.reduceAdd (mulf y y) (constant S_ .f32 0x00000000#32) reducesTo_S8x8192x1024_S8x8192_d2 h_S_)) (broadcastInDim S8x8192x1 ![] bcast_S_S8x8192x1 (constant S_ .f32 0x44800000#32)))
      (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 gp))))

theorem addedV_at (x : FVec Ideal S8x8192x1024 .f32) (M : FVec Ideal S16x6144 .f32) (y : FVec Ideal S8x8192x1024 .f32) (gp : FVec Ideal S1024 .f32) (i : Fin 8) (s : Fin 8192) (n : Fin 1024) :
    addedV x M y gp (ix3 i s n) = added (fun k => x (ix3 i s k)) (fun k => M (ix2 ⟨i.val, by omega⟩ ⟨2048 + k.val, by omega⟩)) (fun k => y (ix3 i s k)) (fun k => gp (ix1 k)) n := by
  unfold added
  pointwise [addedV]

/-- The rows the experts read, before they are flattened and rounded. -/
def hiddenV (x : FVec Ideal S8x8192x1024 .f32) (M : FVec Ideal S16x6144 .f32) (g : FVec Ideal S1024 .f32) : FVec Ideal S8x8192x1024 .f32 :=
  addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1
    (Host.reduceAdd (mulf x x) (constant S_ .f32 0x00000000#32) reducesTo_S8x8192x1024_S8x8192_d2 h_S_)) (broadcastInDim S8x8192x1 ![] bcast_S_S8x8192x1 (constant S_ .f32 0x44800000#32)))
    (broadcastInDim S8x8192x1 ![] bcast_S_S8x8192x1 (constant S_ .f32 0x358637BD#32))))))
    (broadcastInDim S8x8192x1024 ![0, 1, 2] bcast_S1x1x1024_S8x8192x1024_0_1_2 (broadcastInDim S1x1x1024 ![2] bcast_S1024_S1x1x1024_2 g)))
    (broadcastInDim S8x8192x1024 ![0, 1, 2] bcast_S8x1x1024_S8x8192x1024_0_1_2 (addf (broadcastInDim S8x1x1024 ![] bcast_S_S8x1x1024 (constant S_ .f32 0x3F800000#32))
      (broadcastInDim S8x1x1024 ![0, 2] bcast_S8x1024_S8x1x1024_0_2 (extractStridedSlice S8x1024 ![0, 4096] (extractStridedSlice S8x6144 ![0, 0] M slices_S16x6144_S8x6144_0_0) slices_S8x6144_S8x1024_0_4096)))))
    (broadcastInDim S8x8192x1024 ![0, 1, 2] bcast_S8x1x1024_S8x8192x1024_0_1_2 (broadcastInDim S8x1x1024 ![0, 2] bcast_S8x1024_S8x1x1024_0_2
      (extractStridedSlice S8x1024 ![0, 3072] (extractStridedSlice S8x6144 ![0, 0] M slices_S16x6144_S8x6144_0_0) slices_S8x6144_S8x1024_0_3072)))

theorem hiddenV_at (x : FVec Ideal S8x8192x1024 .f32) (M : FVec Ideal S16x6144 .f32) (g : FVec Ideal S1024 .f32) (i : Fin 8) (s : Fin 8192) (n : Fin 1024) :
    hiddenV x M g (ix3 i s n) = normed (fun k => x (ix3 i s k)) (fun k => g (ix1 k)) (fun k => M (ix2 ⟨i.val, by omega⟩ ⟨4096 + k.val, by omega⟩))
      (fun k => M (ix2 ⟨i.val, by omega⟩ ⟨3072 + k.val, by omega⟩)) n := by
  unfold normed
  pointwise [hiddenV]

theorem flat_at (x : FVec Ideal S8x8192x1024 .f32) (r : Fin 65536) (n : Fin 1024) :
    shapeCast S65536x1024 x shapeCasts_S8x8192x1024_S65536x1024 (ix2 r n) = x (ix3 ⟨r.val / 8192, by omega⟩ ⟨r.val % 8192, by omega⟩ n) := by
  pointwise

variable (m : (ℓ : Loc nD τ sig) → Buf (Elt Ideal) ℓ) (c : Dev nD)

/-- The arguments as functions of numbers. -/
def args : Args where
  fwd r k := (m ((c.tc : Thread nD τ).loc main_arg0) : FVec Ideal S65536x1024 .bf16) (ix2 r k)
  bwd r k := (m ((c.tc : Thread nD τ).loc main_arg1) : FVec Ideal S65536x1024 .bf16) (ix2 r k)
  gate r k := (m ((c.tc : Thread nD τ).loc main_arg2) : FVec Ideal S65536x1024 .bf16) (ix2 r k)
  other r k := (m ((c.tc : Thread nD τ).loc main_arg3) : FVec Ideal S65536x512 .bf16) (ix2 r k)
  X i s k := (m ((c.tc : Thread nD τ).loc main_arg4) : FVec Ideal S8x8192x1024 .f32) (ix3 i s k)
  M i k := (m ((c.tc : Thread nD τ).loc main_arg5) : FVec Ideal S16x6144 .f32) (ix2 i k)
  gn k := (m ((c.tc : Thread nD τ).loc main_arg6) : FVec Ideal S256 .f32) (ix1 k)
  W k n := (m ((c.tc : Thread nD τ).loc main_arg7) : FVec Ideal S1536x1024 .f32) (ix2 k n)
  gp k := (m ((c.tc : Thread nD τ).loc main_arg8) : FVec Ideal S1024 .f32) (ix1 k)
  gf k := (m ((c.tc : Thread nD τ).loc main_arg9) : FVec Ideal S1024 .f32) (ix1 k)

/-- The mixed rows of the arguments in memory. -/
def mixArg : FVec Ideal S8x8192x1024 .f32 :=
  prod (side (gatedV (both (m ((c.tc : Thread nD τ).loc main_arg0)) (m ((c.tc : Thread nD τ).loc main_arg1))) (gate (m ((c.tc : Thread nD τ).loc main_arg2)))
    (m ((c.tc : Thread nD τ).loc main_arg6))) (m ((c.tc : Thread nD τ).loc main_arg3))) (m ((c.tc : Thread nD τ).loc main_arg7))

theorem mixArg_at (i : Fin 8) (s : Fin 8192) (r : Fin 65536) (e : i.val * 8192 + s.val = r.val) (n : Fin 1024) :
    mixArg m c (ix3 i s n) = mixed (fun k => (args m c).fwd r k + (args m c).bwd r k) ((args m c).gate r) (args m c).gn ((args m c).other r) (args m c).W n := by
  have er : (⟨i.val * 8192 + s.val, by omega⟩ : Fin 65536) = r := Fin.ext e
  unfold mixArg
  rw [prod_at]
  refine (Fin.sum_univ_add (a := 1024) (b := 512) _).trans ?_
  refine congrArg₂ (· + ·) (Finset.sum_congr rfl fun k _ => congrArg₂ (· * ·) ?_ rfl) (Finset.sum_congr rfl fun k _ => congrArg₂ (· * ·) ?_ rfl)
  · refine (side_left _ _ i s k).trans ?_
    rw [gatedV_at]
    simp only [both_at, gate_at, er]
    rfl
  · refine (side_right _ _ i s k).trans ?_
    rw [er]
    rfl

/-- The new stream of the arguments in memory. -/
def streamArg : FVec Ideal S8x8192x1024 .f32 :=
  addedV (m ((c.tc : Thread nD τ).loc main_arg4)) (m ((c.tc : Thread nD τ).loc main_arg5)) (mixArg m c) (m ((c.tc : Thread nD τ).loc main_arg8))

theorem streamArg_at (r : Fin 65536) (n : Fin 1024) : streamArg m c (ix3 ⟨r.val / 8192, by omega⟩ ⟨r.val % 8192, by omega⟩ n) = (args m c).row r n := by
  unfold streamArg Args.row
  rw [addedV_at]
  have e : (fun k => mixArg m c (ix3 ⟨r.val / 8192, by omega⟩ ⟨r.val % 8192, by omega⟩ k)) = mixed (fun k => (args m c).fwd r k + (args m c).bwd r k) ((args m c).gate r) (args m c).gn ((args m c).other r) (args m c).W :=
    funext fun k => mixArg_at m c _ _ r (by show r.val / 8192 * 8192 + r.val % 8192 = r.val; omega) k
  rw [e]
  rfl

/-- The experts' rows of the arguments in memory. -/
def hiddenArg : FVec Ideal S8x8192x1024 .f32 :=
  hiddenV (streamArg m c) (m ((c.tc : Thread nD τ).loc main_arg5)) (m ((c.tc : Thread nD τ).loc main_arg9))

theorem hiddenArg_at (r : Fin 65536) (n : Fin 1024) : hiddenArg m c (ix3 ⟨r.val / 8192, by omega⟩ ⟨r.val % 8192, by omega⟩ n) = (args m c).hidden r n := by
  unfold hiddenArg Args.hidden
  rw [hiddenV_at]
  have e : (fun k => streamArg m c (ix3 ⟨r.val / 8192, by omega⟩ ⟨r.val % 8192, by omega⟩ k)) = (args m c).row r := funext fun k => streamArg_at m c r k
  rw [e]
  rfl

theorem stream_eq : Value.res_main_v71 m c = shapeCast S65536x1024 (streamArg m c) shapeCasts_S8x8192x1024_S65536x1024 := rfl

theorem hidden_eq : Value.res_main_v73 m c = truncf .bf16 (shapeCast S65536x1024 (hiddenArg m c) shapeCasts_S8x8192x1024_S65536x1024) bitsLt_bf16_f32 := rfl

theorem stream_at (r : Fin 65536) (n : Fin 1024) : (Value.res_main_v71 m c : FVec Ideal S65536x1024 .f32) (ix2 r n) = (args m c).row r n := by
  rw [stream_eq]
  exact (flat_at _ r n).trans (streamArg_at m c r n)

theorem hidden_at (r : Fin 65536) (n : Fin 1024) : (Value.res_main_v73 m c : FVec Ideal S65536x1024 .bf16) (ix2 r n) = (args m c).hidden r n := by
  rw [hidden_eq]
  exact (flat_at _ r n).trans (hiddenArg_at m c r n)

/-- The reference runs and leaves the new stream and the experts' rows in its results, its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v71) = (fun y => (args m c).row (y 0) (y 1) : FVec Ideal S65536x1024 .f32)
      ∧ r.2.mem ((c.tc : Thread nD τ).loc main_v73) = (fun y => (args m c).hidden (y 0) (y 1) : FVec Ideal S65536x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c).1.trans (funext fun y => (congrArg _ (idx_eq 65536 1024 y)).trans (stream_at m c (y 0) (y 1))),
     (h c).2.1.trans (funext fun y => (congrArg _ (idx_eq 65536 1024 y)).trans (hidden_at m c (y 0) (y 1))), (h c).2.2⟩)
    (Value.run m ρ)

/-- The reference runs, leaves its arguments and every counter as they were. -/
theorem frame (ρ : Dev nD → PrngReg) : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0 :=
  (θ_run defs _ _).mono (fun r h => ⟨fun c => (h c).2.2, sem_eq_zero_of_no_sems (by decide) _⟩) (Value.run m ρ)

end Cert.OutRefIdeal.Out
end
-- ==== Proof.Mod.Spec.lean ====
/- The modulation as a function of numbers: each conditioning row through `x · σ(x)` and a layer's weights and bias. -/
module

public import Idealize.ShloMosaic.Lib.Pointwise

@[expose] public section

noncomputable section

namespace Cert.Mod

open Idealize.ShloMosaic

/-- The 16 conditioning rows: the eight samples', the context's, then zeros. -/
def condAt (C : Fin 8 → Fin 1024 → EReal) (X : Fin 1024 → EReal) (r : Fin 16) (k : Fin 1024) : EReal :=
  if h : r.val < 8 then C ⟨r.val, h⟩ k else if r.val < 9 then X k else 0

/-- A row through `x · σ(x)`, against a column of weights, plus a bias. -/
def linear (v w : Fin 1024 → EReal) (b : EReal) : EReal := ∑ k, v k * Ideal.logistic (v k) * w k + b

/-- Entry `n` of row `r` of the modulation of layer `l`. -/
def modAt (C : Fin 8 → Fin 1024 → EReal) (X : Fin 1024 → EReal) (W : Fin 2 → Fin 1024 → Fin 6144 → EReal) (B : Fin 2 → Fin 6144 → EReal)
    (l : Fin 2) (r : Fin 16) (n : Fin 6144) : EReal :=
  linear (condAt C X r) (fun k => W l k n) (B l n)

end Cert.Mod
end
-- ==== Proof.Mod.Kern.lean ====
/- The modulation call: its result at an index. -/
module

public import proofs.«01_k».proof.Proof.Gen.ModulationIdeal.Value
public import proofs.«01_k».proof.Proof.Mod.Spec
public import Idealize.ShloMosaic.Lib.Pipeline.ValueKit

@[expose] public section

set_option maxRecDepth 16384

noncomputable section

namespace Cert.ModulationIdeal.Mod

open Cert.ModulationIdeal Cert.ModulationIdeal.Gen Cert.Mod
open Idealize.ShloMosaic Idealize.ShloMosaic.TcCoe Idealize.ShloMosaic.Pipeline Idealize.SL.Sem

/-- The block of results. -/
theorem block_at (x0 : Vec Ideal S16x1024 .f32) (x1 : Vec Ideal S1x1024x1536 .f32) (x2 : Vec Ideal S1x1x1536 .f32) (p : Fin 16) (q : Fin 1536) :
    k0_pay1 (View.ld x0 r0_0) (View.ld x1 r0_1) (View.ld x2 r0_2) (ix3 0 p q)
      = linear (fun k => x0 (ix2 p k)) (fun k => x1 (ix3 0 k q)) (x2 (ix3 0 0 q)) := by
  unfold linear
  pointwise [k0_pay1, r0_0, r0_1, r0_2]

variable (m : (ℓ : Loc nD τ sig) → Buf (Elt Ideal) ℓ) (c : Dev nD)

/-- The arguments as functions of numbers. -/
def argC (a : Fin 8) (k : Fin 1024) : EReal := (m (c, main_arg0) : FVec Ideal S8x1024 .f32) (ix2 a k)
def argX (k : Fin 1024) : EReal := (m (c, main_arg1) : FVec Ideal S1024 .f32) (ix1 k)
def argW (l : Fin 2) (k : Fin 1024) (n : Fin 6144) : EReal := (m (c, main_arg2) : FVec Ideal S2x1024x6144 .f32) (ix3 l k n)
def argB (l : Fin 2) (n : Fin 6144) : EReal := (m (c, main_arg3) : FVec Ideal S2x6144 .f32) (ix2 l n)

theorem cond_at (r : Fin 16) (k : Fin 1024) : (V m c main_v2 : FVec Ideal S16x1024 .f32) (ix2 r k) = condAt (argC m c) (argX m c) r k := by
  unfold V condAt
  after_results_simp
  pointwise
  by_cases c0 : r.val < 8
  · rw [dif_pos c0, dif_pos c0]; rfl
  rw [dif_neg c0, dif_neg c0]
  by_cases c1 : r.val < 9
  · rw [if_pos c1, dif_pos (by omega)]; after_results_simp; pointwise; rfl
  · rw [if_neg c1, dif_neg (by omega)]; after_results_simp; pointwise

theorem weights_at (l : Fin 2) (k : Fin 1024) (n : Fin 6144) : (V m c main_arg2 : FVec Ideal S2x1024x6144 .f32) (ix3 l k n) = argW m c l k n := by
  unfold V argW
  after_results_simp

theorem bias_at (l : Fin 2) (n : Fin 6144) : (V m c main_v3 : FVec Ideal S2x1x6144 .f32) (ix3 l 0 n) = argB m c l n := by
  unfold V argB
  after_results_simp
  pointwise

/-- The block of each window at a point of the grid. -/
theorem index_cond : ∀ t : Fin cfg0.N, win0_0.index t = ![0, 0] := by decide +kernel
theorem index_weights : ∀ t : Fin cfg0.N, win0_1.index t = ![t.val / 4, 0, t.val % 4] := by decide +kernel
theorem index_bias : ∀ t : Fin cfg0.N, win0_2.index t = ![t.val / 4, 0, t.val % 4] := by decide +kernel
theorem index_out : ∀ t : Fin cfg0.N, win0_3.index t = ![t.val / 4, 0, t.val % 4] := by decide +kernel

theorem lt_points (t : Fin cfg0.N) : t.val < 8 := t.isLt

theorem blkCond_at (t : Fin cfg0.N) (r : Fin 16) (k : Fin 1024) :
    (iblk m c 0 t : S16x1024.Idx → EReal) (ix2 r k) = (V m c main_v2 : S16x1024.Idx → EReal) (ix2 r k) := by
  blk_ext [iblk, index_cond]

theorem blkWeights_at (t : Fin cfg0.N) (k : Fin 1024) (q : Fin 1536) :
    (iblk m c 1 t : S1x1024x1536.Idx → EReal) (ix3 0 k q)
      = (V m c main_arg2 : S2x1024x6144.Idx → EReal) (ix3 ⟨t.val / 4, by have := lt_points t; omega⟩ k ⟨t.val % 4 * 1536 + q.val, by omega⟩) := by
  blk_ext [iblk, index_weights]

theorem blkBias_at (t : Fin cfg0.N) (q : Fin 1536) :
    (iblk m c 2 t : S1x1x1536.Idx → EReal) (ix3 0 0 q)
      = (V m c main_v3 : S2x1x6144.Idx → EReal) (ix3 ⟨t.val / 4, by have := lt_points t; omega⟩ 0 ⟨t.val % 4 * 1536 + q.val, by omega⟩) := by
  blk_ext [iblk, index_bias]

/-- The result: every row's modulation in both layers. -/
def out : FVec Ideal S2x16x6144 .f32 := fun y => modAt (argC m c) (argX m c) (argW m c) (argB m c) (y 0) (y 1) (y 2)

/-- An entry of the block at point `t`, as the entry of its layer, row and column. -/
theorem blockArg_at (t : Fin cfg0.N) (y : S1x16x1536.Idx) (i : S2x16x6144.Idx) (h0 : (i 0).val = t.val / 4) (h1 : (i 1).val = (y 1).val)
    (h2 : (i 2).val = t.val % 4 * 1536 + (y 2).val) :
    k0_pay1 (View.ld (iblk m c 0 t) r0_0) (View.ld (iblk m c 1 t) r0_1) (View.ld (iblk m c 2 t) r0_2) y = out m c i := by
  have ht := lt_points t
  obtain ⟨p, q, rfl⟩ : ∃ (p : Fin 16) (q : Fin 1536), y = ix3 0 p q :=
    ⟨y 1, y 2, by funext a; match a with | ⟨0, _⟩ => exact Subsingleton.elim (α := Fin 1) _ _ | ⟨1, _⟩ => rfl | ⟨2, _⟩ => rfl⟩
  have h2 : (i 2).val = t.val % 4 * 1536 + q.val := h2
  have e0 : (⟨t.val / 4, by omega⟩ : Fin 2) = i 0 := Fin.ext h0.symm
  have e1 : p = i 1 := Fin.ext h1.symm
  have e2 : (⟨t.val % 4 * 1536 + q.val, by omega⟩ : Fin 6144) = i 2 := Fin.ext h2.symm
  refine (block_at (iblk m c 0 t) (iblk m c 1 t) (iblk m c 2 t) p q).trans ?_
  unfold out modAt
  have hc : (fun k => (iblk m c 0 t : S16x1024.Idx → EReal) (ix2 p k)) = condAt (argC m c) (argX m c) (i 1) := by
    funext k; rw [blkCond_at, e1]; exact cond_at m c _ k
  have hw : (fun k => (iblk m c 1 t : S1x1024x1536.Idx → EReal) (ix3 0 k q)) = fun k => argW m c (i 0) k (i 2) := by
    funext k; rw [blkWeights_at, e0, e2]; exact weights_at m c _ k _
  have hb : (iblk m c 2 t : S1x1x1536.Idx → EReal) (ix3 0 0 q) = argB m c (i 0) (i 2) := by
    rw [blkBias_at, e0, e2]; exact bias_at m c _ _
  exact congr (congr (congrArg linear hc) hw) hb

theorem final3 : (dats m 0 c).arrAt 3 cfg0.N = out m c := by
  refine (dats m 0 c).arrAt_eq_of_covers 3 _ (by decide +kernel) fun t hf (y : S1x16x1536.Idx) => ?_
  have ht := lt_points t
  blk_simp; rw [after0_3]; unfold out0_3
  canon_tiles y h
  refine blockArg_at m c t _ _ ?_ ?_ ?_
  all_goals blk_simp [index_out]
  all_goals first | omega | (dsimp only; omega)

/-- The call runs and leaves the modulation in its result. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final3 m c), (h c).2⟩) (Cert.ModulationIdeal.Value.run_blocks m ρ)

end Cert.ModulationIdeal.Mod
end
-- ==== Proof.Mod.Ref.lean ====
/- The reference's modulation at an index. -/
module

public import proofs.«01_k».proof.Proof.Gen.ModRefIdeal.Run
public import proofs.«01_k».proof.Proof.Mod.Spec
public import Idealize.ShloMosaic.Lib.Pointwise

@[expose] public section

set_option maxRecDepth 16384

noncomputable section

namespace Cert.ModRefIdeal.Mod

open Cert.ModRefIdeal Cert.ModRefIdeal.Gen Cert.Mod
open Idealize.ShloMosaic Idealize.ShloMosaic.TcCoe Idealize.SL.Sem

/-- The conditioning rows joined, as the reference writes them. -/
def rows (C : FVec Ideal S8x1024 .f32) (X : FVec Ideal S1024 .f32) : FVec Ideal S16x1024 .f32 :=
  concatenate S16x1024 0 [⟨S8x1024, C⟩, ⟨S1x1024, broadcastInDim S1x1024 ![1] bcast_S1024_S1x1024_1 X⟩,
    ⟨S7x1024, broadcastInDim S7x1024 ![] bcast_S_S7x1024 (constant (F := Ideal) S_ .f32 0x00000000#32)⟩] concatenates_S8x1024_S1x1024_S7x1024_S16x1024_d0

theorem rows_at (C : FVec Ideal S8x1024 .f32) (X : FVec Ideal S1024 .f32) (r : Fin 16) (k : Fin 1024) :
    rows C X (ix2 r k) = condAt (fun a k => C (ix2 a k)) (fun k => X (ix1 k)) r k := by
  unfold condAt
  pointwise [rows]
  by_cases c0 : r.val < 8
  · rw [dif_pos c0, dif_pos c0]
  rw [dif_neg c0, dif_neg c0]
  by_cases c1 : r.val < 9
  · rw [if_pos c1, dif_pos (by omega)]
  · rw [if_neg c1, dif_neg (by omega)]

/-- The rows through `x · σ(x)`. -/
def silu (v : FVec Ideal S16x1024 .f32) : FVec Ideal S16x1024 .f32 :=
  mulf v (Host.divf (broadcastInDim S16x1024 ![] bcast_S_S16x1024 (constant S_ .f32 0x3F800000#32))
    (addf (broadcastInDim S16x1024 ![] bcast_S_S16x1024 (constant S_ .f32 0x3F800000#32)) (Host.exp (Host.negf v))))

theorem silu_at (v : FVec Ideal S16x1024 .f32) (r : Fin 16) (k : Fin 1024) : silu v (ix2 r k) = v (ix2 r k) * Ideal.logistic (v (ix2 r k)) := by
  unfold Ideal.logistic
  pointwise [silu]

/-- One layer: the product with its weights, plus its bias. -/
def layer (v : FVec Ideal S16x1024 .f32) (w : FVec Ideal S1024x6144 .f32) (b : FVec Ideal S6144 .f32) : FVec Ideal S1x16x6144 .f32 :=
  broadcastInDim S1x16x6144 ![1, 2] bcast_S16x6144_S1x16x6144_1_2 (addf (Host.dotGeneral dot_S16x1024_S1024x6144_S16x6144_1_0_0_1_n_n none (silu v) w)
    (broadcastInDim S16x6144 ![0, 1] bcast_S1x6144_S16x6144_0_1 (broadcastInDim S1x6144 ![1] bcast_S6144_S1x6144_1 b)))

theorem layer_at (v : FVec Ideal S16x1024 .f32) (w : FVec Ideal S1024x6144 .f32) (b : FVec Ideal S6144 .f32) (r : Fin 16) (n : Fin 6144) :
    layer v w b (ix3 0 r n) = linear (fun k => v (ix2 r k)) (fun k => w (ix2 k n)) (b (ix1 n)) := by
  have e : layer v w b (ix3 0 r n) = ∑ k : Fin 1024, silu v (ix2 r k) * w (ix2 k n) + b (ix1 n) := by
    pointwise [layer]
  exact e.trans (congrArg (· + _) (Finset.sum_congr rfl fun k _ => congrArg (· * _) (silu_at v r k)))

/-- A layer's weights and its bias. -/
def weights0 (W : FVec Ideal S2x1024x6144 .f32) : FVec Ideal S1024x6144 .f32 :=
  shapeCast S1024x6144 (extractStridedSlice S1x1024x6144 ![0, 0, 0] W slices_S2x1024x6144_S1x1024x6144_0_0_0) shapeCasts_S1x1024x6144_S1024x6144
def weights1 (W : FVec Ideal S2x1024x6144 .f32) : FVec Ideal S1024x6144 .f32 :=
  shapeCast S1024x6144 (extractStridedSlice S1x1024x6144 ![1, 0, 0] W slices_S2x1024x6144_S1x1024x6144_1_0_0) shapeCasts_S1x1024x6144_S1024x6144
def bias0 (B : FVec Ideal S2x6144 .f32) : FVec Ideal S6144 .f32 :=
  shapeCast S6144 (extractStridedSlice S1x6144 ![0, 0] B slices_S2x6144_S1x6144_0_0) shapeCasts_S1x6144_S6144
def bias1 (B : FVec Ideal S2x6144 .f32) : FVec Ideal S6144 .f32 :=
  shapeCast S6144 (extractStridedSlice S1x6144 ![1, 0] B slices_S2x6144_S1x6144_1_0) shapeCasts_S1x6144_S6144

theorem weights0_at (W : FVec Ideal S2x1024x6144 .f32) (k : Fin 1024) (n : Fin 6144) : weights0 W (ix2 k n) = W (ix3 0 k n) := by pointwise [weights0]
theorem weights1_at (W : FVec Ideal S2x1024x6144 .f32) (k : Fin 1024) (n : Fin 6144) : weights1 W (ix2 k n) = W (ix3 1 k n) := by pointwise [weights1]
theorem bias0_at (B : FVec Ideal S2x6144 .f32) (n : Fin 6144) : bias0 B (ix1 n) = B (ix2 0 n) := by pointwise [bias0]
theorem bias1_at (B : FVec Ideal S2x6144 .f32) (n : Fin 6144) : bias1 B (ix1 n) = B (ix2 1 n) := by pointwise [bias1]

/-- Both layers, one after the other. -/
def both (a b : FVec Ideal S1x16x6144 .f32) : FVec Ideal S2x16x6144 .f32 :=
  concatenate S2x16x6144 0 [⟨S1x16x6144, a⟩, ⟨S1x16x6144, b⟩] concatenates_S1x16x6144_S1x16x6144_S2x16x6144_d0

theorem both_fst (a b : FVec Ideal S1x16x6144 .f32) (r : Fin 16) (n : Fin 6144) : both a b (ix3 0 r n) = a (ix3 0 r n) := by pointwise [both]
theorem both_snd (a b : FVec Ideal S1x16x6144 .f32) (r : Fin 16) (n : Fin 6144) : both a b (ix3 1 r n) = b (ix3 0 r n) := by pointwise [both]

/-- The modulation of both layers. -/
theorem all_at (C : FVec Ideal S8x1024 .f32) (X : FVec Ideal S1024 .f32) (W : FVec Ideal S2x1024x6144 .f32) (B : FVec Ideal S2x6144 .f32)
    (l : Fin 2) (r : Fin 16) (n : Fin 6144) :
    both (layer (rows C X) (weights0 W) (bias0 B)) (layer (rows C X) (weights1 W) (bias1 B)) (ix3 l r n)
      = modAt (fun a k => C (ix2 a k)) (fun k => X (ix1 k)) (fun l k n => W (ix3 l k n)) (fun l n => B (ix2 l n)) l r n := by
  have hc := funext (rows_at C X r)
  unfold modAt
  match l with
  | 0 =>
    refine (both_fst _ _ r n).trans ((layer_at _ _ _ r n).trans ?_)
    exact congr (congr (congrArg linear hc) (funext fun k => weights0_at W k n)) (bias0_at B n)
  | 1 =>
    refine (both_snd _ _ r n).trans ((layer_at _ _ _ r n).trans ?_)
    exact congr (congr (congrArg linear hc) (funext fun k => weights1_at W k n)) (bias1_at B n)

variable (m : (ℓ : Loc nD τ sig) → Buf (Elt Ideal) ℓ)

/-- The modulation of the arguments in memory. -/
def out (c : Dev nD) (l : Fin 2) (r : Fin 16) (n : Fin 6144) : EReal :=
  modAt (fun a k => (m ((c.tc : Thread nD τ).loc main_arg0) : FVec Ideal S8x1024 .f32) (ix2 a k))
    (fun k => (m ((c.tc : Thread nD τ).loc main_arg1) : FVec Ideal S1024 .f32) (ix1 k))
    (fun l k n => (m ((c.tc : Thread nD τ).loc main_arg2) : FVec Ideal S2x1024x6144 .f32) (ix3 l k n))
    (fun l n => (m ((c.tc : Thread nD τ).loc main_arg3) : FVec Ideal S2x6144 .f32) (ix2 l n)) l r n

theorem idx_eq (y : S2x16x6144.Idx) : y = (ix3 (y 0 : Fin 2) (y 1 : Fin 16) (y 2 : Fin 6144) : S2x16x6144.Idx) := by
  funext a; match a with | ⟨0, _⟩ => rfl | ⟨1, _⟩ => rfl | ⟨2, _⟩ => rfl

/-- The reference runs and leaves the modulation in its result, its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v23) = (fun y => out m c (y 0) (y 1) (y 2) : FVec Ideal S2x16x6144 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => (congrArg _ (idx_eq y)).trans (all_at _ _ _ _ (y 0) (y 1) (y 2))), (h c).2⟩)
    (Cert.ModRefIdeal.Value.run m ρ)

/-- The reference runs, leaves its arguments and every counter as they were. -/
theorem frame (ρ : Dev nD → PrngReg) : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, sem_eq_zero_of_no_sems (by decide) _⟩) (Cert.ModRefIdeal.Value.run m ρ)

end Cert.ModRefIdeal.Mod
end
-- ==== Proof.Proj.CtxSpec.lean ====
/- The projection of the context's rows, as a function of numbers: all of them take their scale and shift from the context's modulation row, the ninth. -/
module

public import proofs.«01_k».proof.Proof.Proj.Spec

@[expose] public section

noncomputable section

namespace Cert.Proj

/-- The entry of row `r` of the flattened context. -/
def ctxAt (X : Fin 8 → Fin 256 → Fin 1024 → EReal) (M : Fin 16 → Fin 6144 → EReal) (g w : Fin 1024 → EReal) (r : Fin 2048) : EReal :=
  cell (X ⟨r.val / 256, by omega⟩ ⟨r.val % 256, by omega⟩) g (fun k => M 8 ⟨1024 + k.val, by omega⟩) (fun k => M 8 ⟨k.val, by omega⟩) w

/-- A column of zeros gives zero. -/
theorem ctxAt_zero (X : Fin 8 → Fin 256 → Fin 1024 → EReal) (M : Fin 16 → Fin 6144 → EReal) (g : Fin 1024 → EReal) (r : Fin 2048) :
    ctxAt X M g (fun _ => 0) r = 0 := by
  unfold ctxAt cell
  exact Finset.sum_eq_zero fun _ _ => mul_zero _

/-- The low-rank columns: the 32 columns from 3072 on, then zeros. -/
def ctxTailAt (X : Fin 8 → Fin 256 → Fin 1024 → EReal) (M : Fin 16 → Fin 6144 → EReal) (g : Fin 1024 → EReal) (W : Fin 1024 → Fin 3616 → EReal) (r : Fin 2048) (q : Fin 128) : EReal :=
  if q.val < 32 then ctxAt X M g (fun k => W k ⟨3072 + q.val, by omega⟩) r else 0

end Cert.Proj
end
-- ==== Proof.Proj.CtxKern.lean ====
/- The projection call of the context's rows: each result array at an index. -/
module

public import proofs.«01_k».proof.Proof.Gen.CtxProjIdeal.Value
public import proofs.«01_k».proof.Proof.Proj.EvenKern
public import proofs.«01_k».proof.Proof.Proj.CtxSpec
public import Idealize.ShloMosaic.Lib.Pipeline.ValueKit

@[expose] public section

set_option maxRecDepth 16384

noncomputable section

namespace Cert.CtxProjIdeal.Proj

open Cert.CtxProjIdeal Cert.CtxProjIdeal.Gen Cert.Proj
open Idealize.ShloMosaic Idealize.ShloMosaic.TcCoe Idealize.ShloMosaic.Pipeline Idealize.SL.Sem

/-- The block's rows, normed and modulated. -/
theorem norm_at (x0 : Vec Ideal S512x1024 .f32) (x1 : Vec Ideal S1x8x1024 .f32) (x2 : Vec Ideal S1x1024 .f32) (p : Fin 512) (k : Fin 1024) :
    k0_pay2 (View.ld x0 r0_0) (View.ld x2 r0_1) (View.ld x1 r0_2) (View.ld x1 r0_3) (ix2 p k)
      = normed (fun k => x0 (ix2 p k)) (fun k => x2 (ix2 0 k)) (fun k => x1 (ix3 0 1 k)) (fun k => x1 (ix3 0 0 k)) k :=
  Cert.EvenProjIdeal.Proj.norm_at x0 x1 x2 p k

/-- A product with a block of 512 columns. -/
theorem prod_at (h : FVec Ideal S512x1024 .bf16) (w : FVec Ideal S1024x512 .bf16) (p q : Fin 512) :
    k0_pay5 h w (ix2 p q) = ∑ k : Fin 1024, h (ix2 p k) * w (ix2 k q) :=
  Cert.EvenProjIdeal.Proj.prod_at h w p q

/-- A product with the 128 low-rank columns. -/
theorem prodTail_at (h : FVec Ideal S512x1024 .bf16) (w : FVec Ideal S1024x128 .bf16) (p : Fin 512) (q : Fin 128) :
    k0_pay1 h w (ix2 p q) = ∑ k : Fin 1024, h (ix2 p k) * w (ix2 k q) :=
  Cert.EvenProjIdeal.Proj.prodTail_at h w p q

variable (m : (ℓ : Loc nD τ sig) → Buf (Elt Ideal) ℓ) (c : Dev nD)

/-- The arguments as functions of numbers. -/
def argX (a : Fin 8) (s : Fin 256) (k : Fin 1024) : EReal := (m (c, main_arg0) : FVec Ideal S8x256x1024 .f32) (ix3 a s k)
def argM (a : Fin 16) (k : Fin 6144) : EReal := (m (c, main_arg1) : FVec Ideal S16x6144 .f32) (ix2 a k)
def argG (k : Fin 1024) : EReal := (m (c, main_arg2) : FVec Ideal S1024 .f32) (ix1 k)
def argW (k : Fin 1024) (n : Fin 3616) : EReal := (m (c, main_arg3) : FVec Ideal S1024x3616 .f32) (ix2 k n)

theorem rows_at (r : Fin 2048) (k : Fin 1024) :
    (V m c main_v0 : FVec Ideal S2048x1024 .f32) (ix2 r k) = argX m c ⟨r.val / 256, by omega⟩ ⟨r.val % 256, by omega⟩ k := by
  unfold V argX
  after_results_simp
  pointwise

theorem gain_at (k : Fin 1024) : (V m c main_v17 : FVec Ideal S1x1024 .f32) (ix2 0 k) = argG m c k := by
  unfold V argG
  after_results_simp
  pointwise

/-- The large weights: the columns before the low-rank ones, then those after. -/
theorem weights_at (k : Fin 1024) (n : Fin 3584) (n' : Fin 3616) (h : n'.val = if n.val < 3072 then n.val else n.val + 32) :
    (V m c main_v12 : FVec Ideal S1024x3584 .bf16) (ix2 k n) = argW m c k n' := by
  have e : ∀ (j : ℕ) (hj : j < 3616), j = n'.val → (m (c, main_arg3) : FVec Ideal S1024x3616 .f32) (ix2 k ⟨j, hj⟩) = argW m c k n' := by
    intro j hj e
    exact congrArg (argW m c k) (Fin.ext e)
  unfold V
  after_results_simp
  pointwise
  by_cases c0 : n.val < 512
  · rw [if_pos (show n.val < 3072 by omega)] at h
    rw [dif_pos c0]; after_results_simp; pointwise; exact e _ _ (by omega)
  rw [dif_neg c0]
  by_cases c1 : n.val - 512 < 512
  · rw [if_pos (show n.val < 3072 by omega)] at h
    rw [dif_pos c1]; after_results_simp; pointwise; exact e _ _ (by omega)
  rw [dif_neg c1]
  by_cases c2 : n.val - 512 - 512 < 1024
  · rw [if_pos (show n.val < 3072 by omega)] at h
    rw [dif_pos c2]; after_results_simp; pointwise; exact e _ _ (by omega)
  rw [dif_neg c2]
  by_cases c3 : n.val - 512 - 512 - 1024 < 1024
  · rw [if_pos (show n.val < 3072 by omega)] at h
    rw [dif_pos c3]; after_results_simp; pointwise; exact e _ _ (by omega)
  rw [dif_neg c3, if_neg (show ¬ n.val < 3072 by omega)] at *
  after_results_simp; pointwise; exact e _ _ (by omega)

/-- The low-rank weights, then zeros. -/
theorem tail_at (k : Fin 1024) (n : Fin 128) :
    (V m c main_v15 : FVec Ideal S1024x128 .bf16) (ix2 k n) = if h : n.val < 32 then argW m c k ⟨3072 + n.val, by omega⟩ else 0 := by
  have e : ∀ (j : ℕ) (hj : j < 3616), n.val < 32 → j = 3072 + n.val →
      (m (c, main_arg3) : FVec Ideal S1024x3616 .f32) (ix2 k ⟨j, hj⟩) = if h : n.val < 32 then argW m c k ⟨3072 + n.val, by omega⟩ else 0 := by
    intro j hj l e
    rw [dif_pos l]
    exact congrArg (argW m c k) (Fin.ext e)
  unfold V
  after_results_simp
  pointwise
  by_cases c0 : n.val < 16
  · rw [dif_pos c0]; after_results_simp; pointwise; exact e _ _ (by omega) (by omega)
  rw [dif_neg c0]
  by_cases c1 : n.val - 16 < 16
  · rw [dif_pos c1]; after_results_simp; pointwise; exact e _ _ (by omega) (by omega)
  rw [dif_neg c1, dif_neg (show ¬ n.val < 32 by omega)]
  after_results_simp; pointwise

theorem scale_at (k : Fin 1024) :
    (V m c main_v16 : FVec Ideal S1x8x1024 .f32) (ix3 0 1 k) = argM m c 8 ⟨1024 + k.val, by omega⟩ := by
  unfold V argM
  after_results_simp
  pointwise
  after_results_simp
  pointwise

theorem shift_at (k : Fin 1024) :
    (V m c main_v16 : FVec Ideal S1x8x1024 .f32) (ix3 0 0 k) = argM m c 8 ⟨k.val, by omega⟩ := by
  unfold V argM
  after_results_simp
  pointwise
  after_results_simp
  pointwise

/-- The block of each window at a point of the grid. -/
theorem index_rows : ∀ t : Fin cfg0.N, win0_0.index t = ![t.val, 0] := by decide +kernel
theorem index_mod : ∀ t : Fin cfg0.N, win0_1.index t = ![0, 0, 0] := by decide +kernel
theorem index_gain : ∀ t : Fin cfg0.N, win0_2.index t = ![0, 0] := by decide +kernel
theorem index_weights : ∀ t : Fin cfg0.N, win0_3.index t = ![0, 0] := by decide +kernel
theorem index_tail : ∀ t : Fin cfg0.N, win0_4.index t = ![0, 0] := by decide +kernel
theorem index_out5 : ∀ t : Fin cfg0.N, win0_5.index t = ![t.val, 0] := by decide +kernel
theorem index_out6 : ∀ t : Fin cfg0.N, win0_6.index t = ![t.val, 0] := by decide +kernel
theorem index_out7 : ∀ t : Fin cfg0.N, win0_7.index t = ![t.val, 0] := by decide +kernel
theorem index_out8 : ∀ t : Fin cfg0.N, win0_8.index t = ![t.val, 0] := by decide +kernel
theorem index_out9 : ∀ t : Fin cfg0.N, win0_9.index t = ![t.val, 0] := by decide +kernel
theorem index_out10 : ∀ t : Fin cfg0.N, win0_10.index t = ![t.val, 0] := by decide +kernel

theorem lt_points (t : Fin cfg0.N) : t.val < 4 := t.isLt

theorem blkRows_at (t : Fin cfg0.N) (p : Fin 512) (k : Fin 1024) :
    (iblk m c 0 t : S512x1024.Idx → EReal) (ix2 p k) = (V m c main_v0 : S2048x1024.Idx → EReal) (ix2 ⟨t.val * 512 + p.val, by have := lt_points t; omega⟩ k) := by
  blk_ext [iblk, index_rows]

theorem blkMod_at (t : Fin cfg0.N) (j : Fin 8) (k : Fin 1024) :
    (iblk m c 1 t : S1x8x1024.Idx → EReal) (ix3 0 j k) = (V m c main_v16 : S1x8x1024.Idx → EReal) (ix3 0 j k) := by
  blk_ext [iblk, index_mod]

theorem blkGain_at (t : Fin cfg0.N) (k : Fin 1024) :
    (iblk m c 2 t : S1x1024.Idx → EReal) (ix2 0 k) = (V m c main_v17 : S1x1024.Idx → EReal) (ix2 0 k) := by
  blk_ext [iblk, index_gain]

theorem blkWeights_at (t : Fin cfg0.N) (k : Fin 1024) (n : Fin 3584) :
    (iblk m c 3 t : S1024x3584.Idx → EReal) (ix2 k n) = (V m c main_v12 : S1024x3584.Idx → EReal) (ix2 k n) := by
  blk_ext [iblk, index_weights]

theorem blkTail_at (t : Fin cfg0.N) (k : Fin 1024) (n : Fin 128) :
    (iblk m c 4 t : S1024x128.Idx → EReal) (ix2 k n) = (V m c main_v15 : S1024x128.Idx → EReal) (ix2 k n) := by
  blk_ext [iblk, index_tail]

/-- The block's row `p` at point `t` against a column, as the entry of its row. -/
theorem sum_at (t : Fin cfg0.N) (p : Fin 512) (w : Fin 1024 → EReal) (r : Fin 2048) (hr : r.val = t.val * 512 + p.val) :
    ∑ k, (k0_pay2 (View.ld (iblk m c 0 t) r0_0) (View.ld (iblk m c 2 t) r0_1) (View.ld (iblk m c 1 t) r0_2) (View.ld (iblk m c 1 t) r0_3) : S512x1024.Idx → EReal) (ix2 p k) * w k
      = ctxAt (argX m c) (argM m c) (argG m c) w r := by
  have ht := lt_points t
  refine (Finset.sum_congr rfl fun k _ => congrArg₂ (· * ·) (norm_at (iblk m c 0 t) (iblk m c 1 t) (iblk m c 2 t) p k) rfl).trans ?_
  show cell _ _ _ _ w = _
  unfold ctxAt
  have e0 : (⟨t.val * 512 + p.val, by omega⟩ : Fin 2048) = r := Fin.ext hr.symm
  have hx : (fun k => (iblk m c 0 t : S512x1024.Idx → EReal) (ix2 p k)) = argX m c ⟨r.val / 256, by omega⟩ ⟨r.val % 256, by omega⟩ := by
    funext k; rw [blkRows_at, e0]; exact rows_at m c r k
  have hg : (fun k => (iblk m c 2 t : S1x1024.Idx → EReal) (ix2 0 k)) = argG m c := by
    funext k; rw [blkGain_at]; exact gain_at m c k
  have hs : (fun k => (iblk m c 1 t : S1x8x1024.Idx → EReal) (ix3 0 1 k)) = fun k => argM m c 8 ⟨1024 + k.val, by omega⟩ := by
    funext k; rw [blkMod_at]; exact scale_at m c k
  have hh : (fun k => (iblk m c 1 t : S1x8x1024.Idx → EReal) (ix3 0 0 k)) = fun k => argM m c 8 ⟨k.val, by omega⟩ := by
    funext k; rw [blkMod_at]; exact shift_at m c k
  exact congrFun (congr (congr (congr (congrArg cell hx) hg) hs) hh) w

/-- The columns of the weights the kernel loads. -/
theorem ld_weights (t : Fin cfg0.N) (off : ℕ) (ho : off + 512 ≤ 3584) (h) (k : Fin 1024) (q : Fin 512) :
    (View.ld (iblk m c 3 t : Vec Ideal S1024x3584 .bf16) (Rect.unit (s := S1024x3584) ![0, off] S1024x512.size h) : FVec Ideal S1024x512 .bf16) (ix2 k q)
      = (iblk m c 3 t : S1024x3584.Idx → EReal) (ix2 k ⟨off + q.val, by omega⟩) := by
  pointwise

/-- A piece of the block of results at point `t`, as the entry of its row and column. -/
theorem pieceArg_at (t : Fin cfg0.N) (w : FVec Ideal S1024x512 .bf16) (off : ℕ) (ho : off + 512 ≤ 3584)
    (hw : ∀ (k : Fin 1024) (q : Fin 512), w (ix2 k q) = (iblk m c 3 t : S1024x3584.Idx → EReal) (ix2 k ⟨off + q.val, by omega⟩)) (y : S512x512.Idx)
    (r : Fin 2048) (n : Fin 3616) (hr : r.val = t.val * 512 + (y 0).val) (hn : n.val = if off + (y 1).val < 3072 then off + (y 1).val else off + (y 1).val + 32) :
    k0_pay5 (k0_pay2 (View.ld (iblk m c 0 t) r0_0) (View.ld (iblk m c 2 t) r0_1) (View.ld (iblk m c 1 t) r0_2) (View.ld (iblk m c 1 t) r0_3)) w y
      = ctxAt (argX m c) (argM m c) (argG m c) (fun k => argW m c k n) r := by
  obtain ⟨p, q, rfl⟩ : ∃ (p q : Fin 512), y = ix2 p q := ⟨y 0, y 1, by funext a; match a with | ⟨0, _⟩ => rfl | ⟨1, _⟩ => rfl⟩
  refine (prod_at _ _ p q).trans ((Finset.sum_congr rfl fun k _ => congrArg _ ?_).trans (sum_at m c t p (fun k => argW m c k n) r hr))
  exact (hw k q).trans ((blkWeights_at m c t k _).trans (weights_at m c k _ n hn))

/-- The low-rank piece. -/
theorem pieceTail_at (t : Fin cfg0.N) (y : S512x128.Idx) (r : Fin 2048) (n : Fin 128) (hr : r.val = t.val * 512 + (y 0).val) (hn : n.val = (y 1).val) :
    k0_pay1 (k0_pay2 (View.ld (iblk m c 0 t) r0_0) (View.ld (iblk m c 2 t) r0_1) (View.ld (iblk m c 1 t) r0_2) (View.ld (iblk m c 1 t) r0_3)) (View.ld (iblk m c 4 t) r0_14) y
      = ctxTailAt (argX m c) (argM m c) (argG m c) (argW m c) r n := by
  obtain ⟨p, q, rfl⟩ : ∃ (p : Fin 512) (q : Fin 128), y = ix2 p q := ⟨y 0, y 1, by funext a; match a with | ⟨0, _⟩ => rfl | ⟨1, _⟩ => rfl⟩
  obtain rfl : n = q := Fin.ext hn
  have hw : ∀ k : Fin 1024, (View.ld (iblk m c 4 t : Vec Ideal S1024x128 .bf16) r0_14 : FVec Ideal S1024x128 .bf16) (ix2 k n)
      = if h : n.val < 32 then argW m c k ⟨3072 + n.val, by omega⟩ else 0 := by
    intro k
    refine Eq.trans ?_ ((blkTail_at m c t k n).trans (tail_at m c k n))
    pointwise [r0_14]
  refine (prodTail_at _ _ p n).trans ((Finset.sum_congr rfl fun k _ => congrArg _ (hw k)).trans ((sum_at m c t p _ r hr).trans ?_))
  unfold ctxTailAt
  by_cases h : n.val < 32
  · rw [if_pos h]; simp only [dif_pos h]
  · rw [if_neg h]; simp only [dif_neg h]; exact ctxAt_zero _ _ _ _

/-- The results: `n` columns of the projection, from column `off` on. -/
def cols (n off : ℕ) (h : off + n ≤ 3616) (r : Fin 2048) (q : Fin n) : EReal :=
  ctxAt (argX m c) (argM m c) (argG m c) (fun k => argW m c k ⟨off + q.val, by omega⟩) r

def outQ : FVec Ideal S2048x512 .bf16 := fun y => cols m c 512 0 (by decide) (y 0) (y 1)
def outK : FVec Ideal S2048x512 .bf16 := fun y => cols m c 512 512 (by decide) (y 0) (y 1)
def outV : FVec Ideal S2048x1024 .bf16 := fun y => cols m c 1024 1024 (by decide) (y 0) (y 1)
def outR : FVec Ideal S2048x1024 .bf16 := fun y => cols m c 1024 2048 (by decide) (y 0) (y 1)
def outF : FVec Ideal S2048x512 .bf16 := fun y => cols m c 512 3104 (by decide) (y 0) (y 1)
def outTail : FVec Ideal S2048x128 .f32 := fun y => ctxTailAt (argX m c) (argM m c) (argG m c) (argW m c) (y 0) (y 1)

theorem final5 : (dats m 0 c).arrAt 5 cfg0.N = outQ m c := by
  refine (dats m 0 c).arrAt_eq_of_covers 5 _ (by decide +kernel) fun t hf (y : S512x512.Idx) => ?_
  have ht := lt_points t
  blk_simp; rw [after0_5]; unfold out0_5
  canon_tiles y h
  · refine pieceArg_at m c t _ 0 (by decide) (ld_weights m c t 0 (by decide) _) _ _ _ ?_ ?_
    all_goals blk_simp [index_out5]
    all_goals first | omega | (dsimp only; split <;> omega)

theorem final6 : (dats m 0 c).arrAt 6 cfg0.N = outK m c := by
  refine (dats m 0 c).arrAt_eq_of_covers 6 _ (by decide +kernel) fun t hf (y : S512x512.Idx) => ?_
  have ht := lt_points t
  blk_simp; rw [after0_6]; unfold out0_6
  canon_tiles y h
  · refine pieceArg_at m c t _ 512 (by decide) (ld_weights m c t 512 (by decide) _) _ _ _ ?_ ?_
    all_goals blk_simp [index_out6]
    all_goals first | omega | (dsimp only; split <;> omega)

theorem final7 : (dats m 0 c).arrAt 7 cfg0.N = outV m c := by
  refine (dats m 0 c).arrAt_eq_of_covers 7 _ (by decide +kernel) fun t hf (y : S512x1024.Idx) => ?_
  have ht := lt_points t
  blk_simp; rw [after0_7]; unfold out0_7 k0_pay10
  canon_tiles y h
  · refine pieceArg_at m c t _ 1536 (by decide) (ld_weights m c t 1536 (by decide) _) _ _ _ ?_ ?_
    all_goals blk_simp [index_out7]
    all_goals first | omega | (dsimp only; split <;> omega)
  · refine pieceArg_at m c t _ 1024 (by decide) (ld_weights m c t 1024 (by decide) _) _ _ _ ?_ ?_
    all_goals blk_simp [index_out7]
    all_goals first | omega | (dsimp only; split <;> omega)

theorem final8 : (dats m 0 c).arrAt 8 cfg0.N = outR m c := by
  refine (dats m 0 c).arrAt_eq_of_covers 8 _ (by decide +kernel) fun t hf (y : S512x1024.Idx) => ?_
  have ht := lt_points t
  blk_simp; rw [after0_8]; unfold out0_8 k0_pay10
  canon_tiles y h
  · refine pieceArg_at m c t _ 2560 (by decide) (ld_weights m c t 2560 (by decide) _) _ _ _ ?_ ?_
    all_goals blk_simp [index_out8]
    all_goals first | omega | (dsimp only; split <;> omega)
  · refine pieceArg_at m c t _ 2048 (by decide) (ld_weights m c t 2048 (by decide) _) _ _ _ ?_ ?_
    all_goals blk_simp [index_out8]
    all_goals first | omega | (dsimp only; split <;> omega)

theorem final9 : (dats m 0 c).arrAt 9 cfg0.N = outF m c := by
  refine (dats m 0 c).arrAt_eq_of_covers 9 _ (by decide +kernel) fun t hf (y : S512x512.Idx) => ?_
  have ht := lt_points t
  blk_simp; rw [after0_9]; unfold out0_9 k0_pay10
  canon_tiles y h
  · refine pieceArg_at m c t _ 3072 (by decide) (ld_weights m c t 3072 (by decide) _) _ _ _ ?_ ?_
    all_goals blk_simp [index_out9]
    all_goals first | omega | (dsimp only; split <;> omega)

theorem final10 : (dats m 0 c).arrAt 10 cfg0.N = outTail m c := by
  refine (dats m 0 c).arrAt_eq_of_covers 10 _ (by decide +kernel) fun t hf (y : S512x128.Idx) => ?_
  have ht := lt_points t
  blk_simp; rw [after0_10]; unfold out0_10 k0_pay10
  canon_tiles y h
  · refine pieceTail_at m c t _ _ _ ?_ ?_
    all_goals blk_simp [index_out10]
    all_goals first | omega | (dsimp only; split <;> omega)

/-- The call runs and leaves the projections in its results. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v18_0) = outQ m c
      ∧ r.2.mem ((c : Thread nD τ).loc main_v18_1) = outK m c
      ∧ r.2.mem ((c : Thread nD τ).loc main_v18_2) = outV m c
      ∧ r.2.mem ((c : Thread nD τ).loc main_v18_3) = outR m c
      ∧ r.2.mem ((c : Thread nD τ).loc main_v18_4) = outF m c
      ∧ r.2.mem ((c : Thread nD τ).loc main_v18_5) = outTail m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final5 m c), (h c).2.1.trans (final6 m c), (h c).2.2.1.trans (final7 m c), (h c).2.2.2.1.trans (final8 m c),
      (h c).2.2.2.2.1.trans (final9 m c), (h c).2.2.2.2.2.1.trans (final10 m c), (h c).2.2.2.2.2.2⟩)
    (Cert.CtxProjIdeal.Value.run_blocks m ρ)

end Cert.CtxProjIdeal.Proj
end
-- ==== Proof.Proj.CtxRef.lean ====
/- The reference's projection of the context's rows at an index. -/
module

public import proofs.«01_k».proof.Proof.Gen.CtxRefIdeal.Run
public import proofs.«01_k».proof.Proof.Proj.OddRef
public import proofs.«01_k».proof.Proof.Proj.CtxSpec
public import Idealize.ShloMosaic.Lib.Pointwise

@[expose] public section

set_option maxRecDepth 16384

noncomputable section

namespace Cert.CtxRefIdeal.Proj

open Cert.CtxRefIdeal Cert.CtxRefIdeal.Gen Cert.Proj
open Cert.OddRefIdeal.Proj (idx_eq)
open Idealize.ShloMosaic Idealize.ShloMosaic.TcCoe Idealize.SL.Sem

/-- The rows normed and modulated, as the reference writes them. -/
def hidden (x : FVec Ideal S8x256x1024 .f32) (M : FVec Ideal S16x6144 .f32) (g : FVec Ideal S1024 .f32) : FVec Ideal S8x256x1024 .f32 :=
  addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1
    (Host.reduceAdd (mulf x x) (constant S_ .f32 0x00000000#32) reducesTo_S8x256x1024_S8x256_d2 h_S_)) (broadcastInDim S8x256x1 ![] bcast_S_S8x256x1 (constant S_ .f32 0x44800000#32)))
    (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g)))
    (broadcastInDim S8x256x1024 ![0, 1, 2] bcast_S1x1x1024_S8x256x1024_0_1_2 (broadcastInDim S1x1x1024 ![2] bcast_S1024_S1x1x1024_2
      (addf (broadcastInDim S1024 ![] bcast_S_S1024 (constant S_ .f32 0x3F800000#32))
        (shapeCast _ (extractStridedSlice S1x1024 ![0, 1024] (extractStridedSlice S1x6144 ![8, 0] M slices_S16x6144_S1x6144_8_0) slices_S1x6144_S1x1024_0_1024) shapeCasts_S1x1024_S1024)))))
    (broadcastInDim S8x256x1024 ![0, 1, 2] bcast_S1x1x1024_S8x256x1024_0_1_2 (broadcastInDim S1x1x1024 ![2] bcast_S1024_S1x1x1024_2
      (shapeCast _ (extractStridedSlice S1x1024 ![0, 0] (extractStridedSlice S1x6144 ![8, 0] M slices_S16x6144_S1x6144_8_0) slices_S1x6144_S1x1024_0_0) shapeCasts_S1x1024_S1024)))

theorem hidden_at (x : FVec Ideal S8x256x1024 .f32) (M : FVec Ideal S16x6144 .f32) (g : FVec Ideal S1024 .f32) (a : Fin 8) (s : Fin 256) (k : Fin 1024) :
    hidden x M g (ix3 a s k) = normed (fun k => x (ix3 a s k)) (fun k => g (ix1 k)) (fun k => M (ix2 8 ⟨1024 + k.val, by omega⟩))
      (fun k => M (ix2 8 ⟨k.val, by omega⟩)) k := by
  unfold normed
  pointwise [hidden]

/-- The projection of every row. -/
def all (x : FVec Ideal S8x256x1024 .f32) (M : FVec Ideal S16x6144 .f32) (g : FVec Ideal S1024 .f32) (w : FVec Ideal S1024x3616 .f32) : FVec Ideal S2048x3616 .f32 :=
  shapeCast _ (Host.dotGeneral dot_S8x256x1024_S1024x3616_S8x256x3616_2_0_01_1_n_n none (hidden x M g) w) shapeCasts_S8x256x3616_S2048x3616

theorem all_at (x : FVec Ideal S8x256x1024 .f32) (M : FVec Ideal S16x6144 .f32) (g : FVec Ideal S1024 .f32) (w : FVec Ideal S1024x3616 .f32) (r : Fin 2048) (n : Fin 3616) :
    all x M g w (ix2 r n) = ctxAt (fun a s k => x (ix3 a s k)) (fun a k => M (ix2 a k)) (fun k => g (ix1 k)) (fun k => w (ix2 k n)) r := by
  have e : all x M g w (ix2 r n) = ∑ k : Fin 1024, hidden x M g (ix3 ⟨r.val / 256, by omega⟩ ⟨r.val % 256, by omega⟩ k) * w (ix2 k n) := by
    unfold all
    pointwise
  exact e.trans (Finset.sum_congr rfl fun k _ => congrArg₂ (· * ·) (hidden_at x M g _ _ k) rfl)

/-- 512 and 1024 columns of it, rounded. -/
theorem cols512_at (P : FVec Ideal S2048x3616 .f32) (off : ℕ) (ho : off + 512 ≤ 3616) (h) (r : Fin 2048) (q : Fin 512) :
    truncf .bf16 (extractStridedSlice S2048x512 ![0, off] P h) bitsLt_bf16_f32 (ix2 r q) = P (ix2 r ⟨off + q.val, by omega⟩) := by
  pointwise

theorem cols1024_at (P : FVec Ideal S2048x3616 .f32) (off : ℕ) (ho : off + 1024 ≤ 3616) (h) (r : Fin 2048) (q : Fin 1024) :
    truncf .bf16 (extractStridedSlice S2048x1024 ![0, off] P h) bitsLt_bf16_f32 (ix2 r q) = P (ix2 r ⟨off + q.val, by omega⟩) := by
  pointwise

/-- The low-rank columns, then zeros. -/
theorem tail_at (P : FVec Ideal S2048x3616 .f32) (r : Fin 2048) (q : Fin 128) :
    concatenate S2048x128 1 [⟨S2048x16, extractStridedSlice S2048x16 ![0, 3072] P slices_S2048x3616_S2048x16_0_3072⟩,
      ⟨S2048x16, extractStridedSlice S2048x16 ![0, 3088] P slices_S2048x3616_S2048x16_0_3088⟩,
      ⟨S2048x96, broadcastInDim S2048x96 ![] bcast_S_S2048x96 (constant (F := Ideal) S_ .f32 0x00000000#32)⟩]
      concatenates_S2048x16_S2048x16_S2048x96_S2048x128_d1 (ix2 r q)
      = if h : q.val < 32 then P (ix2 r ⟨3072 + q.val, by omega⟩) else 0 := by
  have e : ∀ (j : ℕ) (hj : j < 3616), q.val < 32 → j = 3072 + q.val →
      P (ix2 r ⟨j, hj⟩) = if h : q.val < 32 then P (ix2 r ⟨3072 + q.val, by omega⟩) else 0 := by
    intro j hj l e
    rw [dif_pos l]
    exact congrArg (fun j => P (ix2 r j)) (Fin.ext e)
  pointwise
  by_cases c0 : q.val < 16
  · rw [dif_pos c0]; exact e _ _ (by omega) (by omega)
  rw [dif_neg c0]
  by_cases c1 : q.val - 16 < 16
  · rw [dif_pos c1]; exact e _ _ (by omega) (by omega)
  rw [dif_neg c1, dif_neg (show ¬ q.val < 32 by omega)]

variable (m : (ℓ : Loc nD τ sig) → Buf (Elt Ideal) ℓ)

/-- The arguments as functions of numbers. -/
def argX (c : Dev nD) (a : Fin 8) (s : Fin 256) (k : Fin 1024) : EReal := (m ((c.tc : Thread nD τ).loc main_arg0) : FVec Ideal S8x256x1024 .f32) (ix3 a s k)
def argM (c : Dev nD) (a : Fin 16) (k : Fin 6144) : EReal := (m ((c.tc : Thread nD τ).loc main_arg1) : FVec Ideal S16x6144 .f32) (ix2 a k)
def argG (c : Dev nD) (k : Fin 1024) : EReal := (m ((c.tc : Thread nD τ).loc main_arg2) : FVec Ideal S1024 .f32) (ix1 k)
def argW (c : Dev nD) (k : Fin 1024) (n : Fin 3616) : EReal := (m ((c.tc : Thread nD τ).loc main_arg3) : FVec Ideal S1024x3616 .f32) (ix2 k n)

/-- The columns of the projection from `off` on, of the arguments in memory. -/
def cols (c : Dev nD) (n off : ℕ) (h : off + n ≤ 3616) (r : Fin 2048) (q : Fin n) : EReal :=
  ctxAt (argX m c) (argM m c) (argG m c) (fun k => argW m c k ⟨off + q.val, by omega⟩) r

/-- The projection of the arguments in memory. -/
def allArg (c : Dev nD) : FVec Ideal S2048x3616 .f32 :=
  all (m ((c.tc : Thread nD τ).loc main_arg0)) (m ((c.tc : Thread nD τ).loc main_arg1)) (m ((c.tc : Thread nD τ).loc main_arg2)) (m ((c.tc : Thread nD τ).loc main_arg3))

theorem allArg_at (c : Dev nD) (r : Fin 2048) (n : Fin 3616) : allArg m c (ix2 r n) = ctxAt (argX m c) (argM m c) (argG m c) (fun k => argW m c k n) r :=
  all_at _ _ _ _ _ _

theorem tailArg_at (c : Dev nD) (P : FVec Ideal S2048x3616 .f32) (hP : P = allArg m c) (r : Fin 2048) (q : Fin 128) :
    (if h : q.val < 32 then P (ix2 r ⟨3072 + q.val, by omega⟩) else 0) = ctxTailAt (argX m c) (argM m c) (argG m c) (argW m c) r q := by
  subst hP
  unfold ctxTailAt
  by_cases h : q.val < 32
  · rw [dif_pos h, if_pos h]; exact allArg_at m c _ _
  · rw [dif_neg h, if_neg h]

/-- The reference runs and leaves the projections in its results, its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v41) = (fun y => cols m c 512 0 (by decide) (y 0) (y 1) : FVec Ideal S2048x512 .bf16)
      ∧ r.2.mem ((c.tc : Thread nD τ).loc main_v42) = (fun y => cols m c 512 512 (by decide) (y 0) (y 1) : FVec Ideal S2048x512 .bf16)
      ∧ r.2.mem ((c.tc : Thread nD τ).loc main_v43) = (fun y => cols m c 1024 1024 (by decide) (y 0) (y 1) : FVec Ideal S2048x1024 .bf16)
      ∧ r.2.mem ((c.tc : Thread nD τ).loc main_v44) = (fun y => cols m c 1024 2048 (by decide) (y 0) (y 1) : FVec Ideal S2048x1024 .bf16)
      ∧ r.2.mem ((c.tc : Thread nD τ).loc main_v45) = (fun y => cols m c 512 3104 (by decide) (y 0) (y 1) : FVec Ideal S2048x512 .bf16)
      ∧ r.2.mem ((c.tc : Thread nD τ).loc main_v40) = (fun y => ctxTailAt (argX m c) (argM m c) (argG m c) (argW m c) (y 0) (y 1) : FVec Ideal S2048x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (funext fun y => (congrArg _ (idx_eq 2048 512 y)).trans ((cols512_at (allArg m c) 0 (by decide) _ (y 0) (y 1)).trans (allArg_at m c _ _))),
     (h c).2.1.trans (funext fun y => (congrArg _ (idx_eq 2048 512 y)).trans ((cols512_at (allArg m c) 512 (by decide) _ (y 0) (y 1)).trans (allArg_at m c _ _))),
     (h c).2.2.1.trans (funext fun y => (congrArg _ (idx_eq 2048 1024 y)).trans ((cols1024_at (allArg m c) 1024 (by decide) _ (y 0) (y 1)).trans (allArg_at m c _ _))),
     (h c).2.2.2.1.trans (funext fun y => (congrArg _ (idx_eq 2048 1024 y)).trans ((cols1024_at (allArg m c) 2048 (by decide) _ (y 0) (y 1)).trans (allArg_at m c _ _))),
     (h c).2.2.2.2.1.trans (funext fun y => (congrArg _ (idx_eq 2048 512 y)).trans ((cols512_at (allArg m c) 3104 (by decide) _ (y 0) (y 1)).trans (allArg_at m c _ _))),
     (h c).2.2.2.2.2.1.trans (funext fun y => (congrArg _ (idx_eq 2048 128 y)).trans ((tail_at _ (y 0) (y 1)).trans (tailArg_at m c _ rfl _ _))), (h c).2.2.2.2.2.2⟩)
    (Cert.CtxRefIdeal.Value.run m ρ)

/-- The reference runs, leaves its arguments and every counter as they were. -/
theorem frame (ρ : Dev nD → PrngReg) : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2.2.2.2.2, sem_eq_zero_of_no_sems (by decide) _⟩) (Cert.CtxRefIdeal.Value.run m ρ)

end Cert.CtxRefIdeal.Proj
end
-- ==== Proof.lean ====
/- The claims: the frames of the kernel, of its idealization and of the reference, and their equality over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.OddProj
public import proofs.«01_k».proof.Proof.Gen.OddProj.Skeleton
public import proofs.«01_k».proof.Proof.Gen.OddProj.Launch
public import proofs.«01_k».proof.Proof.Gen.OddProj.Points
public import proofs.«01_k».proof.Proof.Gen.OddProj.Frame
public import proofs.«01_k».proof.Proof.Gen.OddProjIdeal
public import proofs.«01_k».proof.Proof.Gen.OddProjIdeal.Skeleton
public import proofs.«01_k».proof.Proof.Gen.OddProjIdeal.Launch
public import proofs.«01_k».proof.Proof.Gen.OddProjIdeal.Points
public import proofs.«01_k».proof.Proof.Gen.OddProjIdeal.Frame
public import proofs.«01_k».proof.Proof.Gen.OddRefIdeal
public import proofs.«01_k».proof.Proof.Gen.EvenProj
public import proofs.«01_k».proof.Proof.Gen.EvenProj.Skeleton
public import proofs.«01_k».proof.Proof.Gen.EvenProj.Launch
public import proofs.«01_k».proof.Proof.Gen.EvenProj.Points
public import proofs.«01_k».proof.Proof.Gen.EvenProj.Frame
public import proofs.«01_k».proof.Proof.Gen.EvenProjIdeal
public import proofs.«01_k».proof.Proof.Gen.EvenProjIdeal.Skeleton
public import proofs.«01_k».proof.Proof.Gen.EvenProjIdeal.Launch
public import proofs.«01_k».proof.Proof.Gen.EvenProjIdeal.Points
public import proofs.«01_k».proof.Proof.Gen.EvenProjIdeal.Frame
public import proofs.«01_k».proof.Proof.Gen.EvenRefIdeal
public import proofs.«01_k».proof.Proof.Gen.OddProjIdeal.Value
public import proofs.«01_k».proof.Proof.Gen.EvenProjIdeal.Value
public import proofs.«01_k».proof.Proof.Gen.OddRefIdeal.Run
public import proofs.«01_k».proof.Proof.Gen.EvenRefIdeal.Run
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.OutRefIdeal
public import proofs.«01_k».proof.Proof.Gen.EvenOutIdeal.Value
public import proofs.«01_k».proof.Proof.Gen.OutRefIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModRefIdeal
public import proofs.«01_k».proof.Proof.Gen.ModulationIdeal.Value
public import proofs.«01_k».proof.Proof.Gen.ModRefIdeal.Run
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal
public import proofs.«01_k».proof.Proof.Gen.CtxProjIdeal.Skeleton
public import proofs.«01_k».proof.Proof.Gen.CtxProjIdeal.Launch
public import proofs.«01_k».proof.Proof.Gen.CtxProjIdeal.Points
public import proofs.«01_k».proof.Proof.Gen.CtxProjIdeal.Frame
public import proofs.«01_k».proof.Proof.Gen.CtxRefIdeal
public import proofs.«01_k».proof.Proof.Gen.CtxProjIdeal.Value
public import proofs.«01_k».proof.Proof.Gen.CtxRefIdeal.Run
public import proofs.«01_k».proof.Proof.Kernel.Body
public import proofs.«01_k».proof.Proof.KernelIdeal.Body
public import proofs.«01_k».proof.Proof.Value.Range
public import proofs.«01_k».proof.Proof.Value.KernValue
public import proofs.«01_k».proof.Proof.Value.RefValue
public import proofs.«01_k».proof.Proof.Proj.OddKern
public import proofs.«01_k».proof.Proof.Proj.OddRef
public import proofs.«01_k».proof.Proof.Proj.EvenKern
public import proofs.«01_k».proof.Proof.Proj.EvenRef
public import proofs.«01_k».proof.Proof.Mix.OutKern
public import proofs.«01_k».proof.Proof.Mix.OutRef
public import proofs.«01_k».proof.Proof.Mod.Kern
public import proofs.«01_k».proof.Proof.Mod.Ref
public import proofs.«01_k».proof.Proof.Proj.CtxKern
public import proofs.«01_k».proof.Proof.Proj.CtxRef
public import Idealize.ShloMosaic.Adequacy
public import Idealize.ShloMosaic.Init

@[expose] public section

noncomputable section

namespace Cert.Proof

open Idealize.ShloMosaic Idealize.ShloMosaic.TcCoe Idealize.SL.Sem

/-- The range the precondition gives keeps every block's expert inside the table, -/
theorem ok_kernel [hpre : Cert.Pre_experts_in_range.Facts] (m : (ℓ : Loc Cert.Kernel.nD Cert.Kernel.τ Cert.Kernel.sig) → Buf (Elt Bits) ℓ)
    (h : Cert.Pre_Kernel m) : Cert.Kernel.Experts.Ok m :=
  Cert.Kernel.Experts.ok_of_lt _ fun n hn => Nat.lt_trans (Cert.Experts.lt_of_range _ _ _ _ _ _ _ (h 0) _) (by decide)

/-- at the ideal instance as well, -/
theorem ok_ideal [hpre : Cert.Pre_experts_in_range.Facts] (m : (ℓ : Loc Cert.KernelIdeal.nD Cert.KernelIdeal.τ Cert.KernelIdeal.sig) → Buf (Elt Ideal) ℓ)
    (h : Cert.Pre_KernelIdeal m) : Cert.KernelIdeal.Experts.Ok m :=
  Cert.KernelIdeal.Experts.ok_of_lt _ fun n hn => Nat.lt_trans (Cert.Experts.lt_of_range _ _ _ _ _ _ _ (h 0) _) (by decide)

/-- The experts' call and the reference's lines for it agree over the extended reals. -/
theorem experts_agree [hpre : Cert.Pre_experts_in_range.Facts] :
    Cert.algebraic_KernelIdeal_ReferenceIdeal := by
  intro m g m' g' hp ha
  refine ⟨fun c => Cert.KernelIdeal.Experts.resultOf m c, Cert.KernelIdeal.Experts.run m g (ok_ideal m hp), ?_⟩
  refine (θ_run _ _ _).mono (fun r h c => ⟨(h c).1.trans ?_, (h c).2⟩) (Cert.ReferenceIdeal.Value.run m' g')
  obtain ⟨h0, h1, h2, h3, h4, h5, h6⟩ := ha c
  have hT : ∀ b, (Cert.ReferenceIdeal.Experts.table m' c (ix1 b)).toNat < 64 := fun b =>
    Nat.lt_trans ((congrArg (fun a : IVec Cert.KernelIdeal.S544 32 => (a (ix1 b)).toNat) h0).trans_lt (Cert.Experts.lt_of_range _ _ _ _ _ _ _ (hp c) _)) (by decide)
  funext (i : Cert.KernelIdeal.S2228224x128.Idx)
  have hi : i = (ix2 (i 0 : Fin 2228224) (i 1 : Fin 128) : Cert.KernelIdeal.S2228224x128.Idx) := by
    funext a
    match a with
    | ⟨0, _⟩ => rfl
    | ⟨1, _⟩ => rfl
  refine (congrArg _ hi).trans ((Cert.ReferenceIdeal.Experts.result_at m' c hT (i 0) (i 1)).trans ?_)
  unfold Cert.KernelIdeal.Experts.resultOf
  rw [h0, h1, h2, h3, h4, h5, h6]

/-- The odd layers' projection call and the reference's lines for it agree. -/
theorem odd_agree : Cert.algebraic_OddProjIdeal_OddRefIdeal := by
  intro m g m' g' _ ha
  refine ⟨fun c => Cert.OddProjIdeal.Proj.outU m c, fun c => Cert.OddProjIdeal.Proj.outV m c, fun c => Cert.OddProjIdeal.Proj.outZ m c,
    Cert.OddProjIdeal.Proj.run m g, ?_⟩
  have e : ∀ c n off h, Cert.OddRefIdeal.Proj.cols m' c n off h = Cert.OddProjIdeal.Proj.cols m c n off h := by
    intro c n off h
    obtain ⟨h0, h1, h2, h3⟩ := ha c
    funext r q
    unfold Cert.OddRefIdeal.Proj.cols
    rw [h0, h1, h2, h3]
    rfl
  refine (θ_run _ _ _).mono (fun r h c => ⟨(h c).1.trans ?_, (h c).2.1.trans ?_, (h c).2.2.1.trans ?_, (h c).2.2.2⟩) (Cert.OddRefIdeal.Proj.run m' g')
  · rw [e]; rfl
  · rw [e]; rfl
  · rw [e]; rfl

/-- The even layers' projection call and the reference's lines for it agree. -/
theorem even_agree : Cert.algebraic_EvenProjIdeal_EvenRefIdeal := by
  intro m g m' g' _ ha
  refine ⟨fun c => Cert.EvenProjIdeal.Proj.outQ m c, fun c => Cert.EvenProjIdeal.Proj.outK m c, fun c => Cert.EvenProjIdeal.Proj.outV m c,
    fun c => Cert.EvenProjIdeal.Proj.outR m c, fun c => Cert.EvenProjIdeal.Proj.outF m c, fun c => Cert.EvenProjIdeal.Proj.outTail m c,
    Cert.EvenProjIdeal.Proj.run m g, ?_⟩
  have hX : ∀ c, Cert.EvenRefIdeal.Proj.argX m' c = Cert.EvenProjIdeal.Proj.argX m c := fun c => by
    unfold Cert.EvenRefIdeal.Proj.argX; rw [(ha c).1]; rfl
  have hM : ∀ c, Cert.EvenRefIdeal.Proj.argM m' c = Cert.EvenProjIdeal.Proj.argM m c := fun c => by
    unfold Cert.EvenRefIdeal.Proj.argM; rw [(ha c).2.1]; rfl
  have hG : ∀ c, Cert.EvenRefIdeal.Proj.argG m' c = Cert.EvenProjIdeal.Proj.argG m c := fun c => by
    unfold Cert.EvenRefIdeal.Proj.argG; rw [(ha c).2.2.1]; rfl
  have hW : ∀ c, Cert.EvenRefIdeal.Proj.argW m' c = Cert.EvenProjIdeal.Proj.argW m c := fun c => by
    unfold Cert.EvenRefIdeal.Proj.argW; rw [(ha c).2.2.2]; rfl
  have e : ∀ c n off h, Cert.EvenRefIdeal.Proj.cols m' c n off h = Cert.EvenProjIdeal.Proj.cols m c n off h := by
    intro c n off h
    unfold Cert.EvenRefIdeal.Proj.cols
    rw [hX, hM, hG, hW]
    rfl
  refine (θ_run _ _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩) (Cert.EvenRefIdeal.Proj.run m' g')
  · rw [e]; rfl
  · rw [e]; rfl
  · rw [e]; rfl
  · rw [e]; rfl
  · rw [e]; rfl
  · rw [hX, hM, hG, hW]; rfl

/-- The even layers' output call and the reference's lines for it agree. -/
theorem out_agree : Cert.algebraic_EvenOutIdeal_OutRefIdeal := by
  intro m g m' g' _ ha
  refine ⟨fun c => Cert.EvenOutIdeal.Out.outX m c, fun c => Cert.EvenOutIdeal.Out.outH m c, Cert.EvenOutIdeal.Out.run m g, ?_⟩
  have e : ∀ c, Cert.OutRefIdeal.Out.args m' c = Cert.EvenOutIdeal.Out.args m c := by
    intro c
    obtain ⟨h0, h1, h2, h3, h4, h5, h6, h7, h8, h9, _, _⟩ := ha c
    unfold Cert.OutRefIdeal.Out.args
    rw [h0, h1, h2, h3, h4, h5, h6, h7, h8, h9]
    rfl
  refine (θ_run _ _ _).mono (fun r h c => ⟨(h c).1.trans ?_, (h c).2.1.trans ?_, (h c).2.2⟩) (Cert.OutRefIdeal.Out.run m' g')
  · rw [e]; rfl
  · rw [e]; rfl

/-- The modulation call and the reference's lines for it agree. -/
theorem mod_agree : Cert.algebraic_ModulationIdeal_ModRefIdeal := by
  intro m g m' g' _ ha
  refine ⟨fun c => Cert.ModulationIdeal.Mod.out m c, Cert.ModulationIdeal.Mod.run m g, ?_⟩
  refine (θ_run _ _ _).mono (fun r h c => ⟨(h c).1.trans ?_, (h c).2⟩) (Cert.ModRefIdeal.Mod.run m' g')
  obtain ⟨h0, h1, h2, h3⟩ := ha c
  unfold Cert.ModRefIdeal.Mod.out
  rw [h0, h1, h2, h3]
  rfl

/-- The projection call of the context's rows and the reference's lines for it agree. -/
theorem ctx_agree : Cert.algebraic_CtxProjIdeal_CtxRefIdeal := by
  intro m g m' g' _ ha
  refine ⟨fun c => Cert.CtxProjIdeal.Proj.outQ m c, fun c => Cert.CtxProjIdeal.Proj.outK m c, fun c => Cert.CtxProjIdeal.Proj.outV m c,
    fun c => Cert.CtxProjIdeal.Proj.outR m c, fun c => Cert.CtxProjIdeal.Proj.outF m c, fun c => Cert.CtxProjIdeal.Proj.outTail m c,
    Cert.CtxProjIdeal.Proj.run m g, ?_⟩
  have hX : ∀ c, Cert.CtxRefIdeal.Proj.argX m' c = Cert.CtxProjIdeal.Proj.argX m c := fun c => by
    unfold Cert.CtxRefIdeal.Proj.argX; rw [(ha c).1]; rfl
  have hM : ∀ c, Cert.CtxRefIdeal.Proj.argM m' c = Cert.CtxProjIdeal.Proj.argM m c := fun c => by
    unfold Cert.CtxRefIdeal.Proj.argM; rw [(ha c).2.1]; rfl
  have hG : ∀ c, Cert.CtxRefIdeal.Proj.argG m' c = Cert.CtxProjIdeal.Proj.argG m c := fun c => by
    unfold Cert.CtxRefIdeal.Proj.argG; rw [(ha c).2.2.1]; rfl
  have hW : ∀ c, Cert.CtxRefIdeal.Proj.argW m' c = Cert.CtxProjIdeal.Proj.argW m c := fun c => by
    unfold Cert.CtxRefIdeal.Proj.argW; rw [(ha c).2.2.2]; rfl
  have e : ∀ c n off h, Cert.CtxRefIdeal.Proj.cols m' c n off h = Cert.CtxProjIdeal.Proj.cols m c n off h := by
    intro c n off h
    unfold Cert.CtxRefIdeal.Proj.cols
    rw [hX, hM, hG, hW]
    rfl
  refine (θ_run _ _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩) (Cert.CtxRefIdeal.Proj.run m' g')
  · rw [e]; rfl
  · rw [e]; rfl
  · rw [e]; rfl
  · rw [e]; rfl
  · rw [e]; rfl
  · rw [hX, hM, hG, hW]; rfl

/-- All claims of the certificate. -/
theorem claim : Cert.Claim := ⟨Cert.Kernel.Gen.facts, Cert.KernelIdeal.Gen.facts, Cert.ReferenceIdeal.Gen.facts, Cert.OddProj.Gen.facts,
  Cert.OddProjIdeal.Gen.facts, Cert.OddRefIdeal.Gen.facts, Cert.EvenProj.Gen.facts, Cert.EvenProjIdeal.Gen.facts, Cert.EvenRefIdeal.Gen.facts,
  Cert.EvenOut.Gen.facts, Cert.EvenOutIdeal.Gen.facts, Cert.OutRefIdeal.Gen.facts, Cert.Modulation.Gen.facts, Cert.ModulationIdeal.Gen.facts,
  Cert.ModRefIdeal.Gen.facts, Cert.CtxProj.Gen.facts, Cert.CtxProjIdeal.Gen.facts, Cert.CtxRefIdeal.Gen.facts, Cert.Experts.rangeFacts,
  fun m g h => Cert.Kernel.Experts.frame m g (ok_kernel m h),
  fun m g h => Cert.KernelIdeal.Experts.frame m g (ok_ideal m h),
  fun m g _ => Cert.ReferenceIdeal.Experts.frame m g,
  fun m g _ => Cert.ReferenceIdeal.Experts.frame m g,
  fun m g _ => Cert.OddProj.Gen.frame m g,
  fun m g _ => Cert.OddProjIdeal.Gen.frame m g,
  fun m g _ => Cert.OddRefIdeal.Proj.frame m g,
  fun m g _ => Cert.EvenProj.Gen.frame m g,
  fun m g _ => Cert.EvenProjIdeal.Gen.frame m g,
  fun m g _ => Cert.EvenRefIdeal.Proj.frame m g,
  fun m g _ => Cert.EvenOut.Gen.frame m g,
  fun m g _ => Cert.EvenOutIdeal.Gen.frame m g,
  fun m g _ => Cert.OutRefIdeal.Out.frame m g,
  fun m g _ => Cert.Modulation.Gen.frame m g,
  fun m g _ => Cert.ModulationIdeal.Gen.frame m g,
  fun m g _ => Cert.ModRefIdeal.Mod.frame m g,
  fun m g _ => Cert.CtxProj.Gen.frame m g,
  fun m g _ => Cert.CtxProjIdeal.Gen.frame m g,
  fun m g _ => Cert.CtxRefIdeal.Proj.frame m g,
  trivial, experts_agree, trivial, odd_agree, trivial, even_agree, trivial, out_agree, trivial, mod_agree, trivial, ctx_agree⟩

end Cert.Proof

end
